-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v328) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S2048x2048 : Shape := ⟨2, ![2048, 2048]⟩
abbrev S2048x512 : Shape := ⟨2, ![2048, 512]⟩
abbrev S2048x48 : Shape := ⟨2, ![2048, 48]⟩
abbrev S32 : Shape := ⟨1, ![32]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S1x2048x2048 .f32) (main_arg1 : FVec F S2048x2048 .f32) (main_arg2 : FVec F S2048x512 .f32) (main_arg3 : FVec F S2048x512 .f32) (main_arg4 : FVec F S2048x2048 .f32) (main_arg5 : FVec F S2048x48 .f32) (main_arg6 : FVec F S32 .f32) (main_arg7 : FVec F S32 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S1x2048x2048 : Shape := ⟨3, ![1, 2048, 2048]⟩
abbrev S2048x2048 : Shape := ⟨2, ![2048, 2048]⟩
abbrev S2048x512 : Shape := ⟨2, ![2048, 512]⟩
abbrev S2048x48 : Shape := ⟨2, ![2048, 48]⟩
abbrev S32 : Shape := ⟨1, ![32]⟩
abbrev S_ : Shape := ⟨0, ![]⟩
abbrev S2048x128 : Shape := ⟨2, ![2048, 128]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S2048x64 : Shape := ⟨2, ![2048, 64]⟩
abbrev S2048x64x2 : Shape := ⟨3, ![2048, 64, 2]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1 : Shape := ⟨1, ![1]⟩
abbrev S1x2048 : Shape := ⟨2, ![1, 2048]⟩
abbrev S128x2048 : Shape := ⟨2, ![128, 2048]⟩
abbrev S1x128x2048 : Shape := ⟨3, ![1, 128, 2048]⟩
abbrev S32x1x1 : Shape := ⟨3, ![32, 1, 1]⟩
abbrev S32x128x2048 : Shape := ⟨3, ![32, 128, 2048]⟩
abbrev S1x128x1 : Shape := ⟨3, ![1, 128, 1]⟩
abbrev S16x2048x128 : Shape := ⟨3, ![16, 2048, 128]⟩
abbrev S4x2048x128 : Shape := ⟨3, ![4, 2048, 128]⟩
abbrev S4x128x128 : Shape := ⟨3, ![4, 128, 128]⟩
abbrev S256x2048 : Shape := ⟨2, ![256, 2048]⟩
abbrev S256x128 : Shape := ⟨2, ![256, 128]⟩
abbrev S16x256x128 : Shape := ⟨3, ![16, 256, 128]⟩
abbrev S256x512 : Shape := ⟨2, ![256, 512]⟩
abbrev S1x256x128 : Shape := ⟨3, ![1, 256, 128]⟩
abbrev S1x2048x128 : Shape := ⟨3, ![1, 2048, 128]⟩
abbrev S1x128x128 : Shape := ⟨3, ![1, 128, 128]⟩
abbrev S16 : Shape := ⟨1, ![16]⟩
abbrev S16x1x1 : Shape := ⟨3, ![16, 1, 1]⟩
abbrev S1x1x128 : Shape := ⟨3, ![1, 1, 128]⟩
abbrev S16x1x128 : Shape := ⟨3, ![16, 1, 128]⟩
abbrev S16x128x128 : Shape := ⟨3, ![16, 128, 128]⟩
abbrev S512x2048 : Shape := ⟨2, ![512, 2048]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S1x1024x128 : Shape := ⟨3, ![1, 1024, 128]⟩
abbrev S1024x128 : Shape := ⟨2, ![1024, 128]⟩
abbrev S256x1024 : Shape := ⟨2, ![256, 1024]⟩
abbrev S1x1536x128 : Shape := ⟨3, ![1, 1536, 128]⟩
abbrev S1536x128 : Shape := ⟨2, ![1536, 128]⟩
abbrev S256x1536 : Shape := ⟨2, ![256, 1536]⟩
abbrev S2048x256 : Shape := ⟨2, ![2048, 256]⟩

abbrev nBuf : Space → Nat
  | .hbm => 257
  | .vmem => 94
  | .smem => 0
  | _ => 0

abbrev hbmTy0_0 (i : Nat) : BufTy := match i % 128 with
  | 0 => ⟨S1x2048x2048, .f32⟩
  | 1 => ⟨S2048x2048, .f32⟩
  | 2 => ⟨S2048x512, .f32⟩
  | 3 => ⟨S2048x512, .f32⟩
  | 4 => ⟨S2048x2048, .f32⟩
  | 5 => ⟨S2048x48, .f32⟩
  | 6 => ⟨S32, .f32⟩
  | 7 => ⟨S32, .f32⟩
  | 8 => ⟨S2048x2048, .f32⟩
  | 9 => ⟨S_, .i32⟩
  | 10 => ⟨S_, .f32⟩
  | 11 => ⟨S2048x128, .f32⟩
  | 12 => ⟨S2048, .f32⟩
  | 13 => ⟨S2048x1, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S_, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .i1⟩
  | 53 => ⟨S_, .f32⟩
  | 54 => ⟨S64, .f32⟩
  | 55 => ⟨S64, .f32⟩
  | 56 => ⟨S_, .f32⟩
  | 57 => ⟨S64, .f32⟩
  | 58 => ⟨S64, .i1⟩
  | 59 => ⟨S_, .f32⟩
  | 60 => ⟨S64, .f32⟩
  | 61 => ⟨S64, .f32⟩
  | 62 => ⟨S64, .f32⟩
  | 63 => ⟨S_, .f32⟩
  | 64 => ⟨S64, .f32⟩
  | 65 => ⟨S64, .f32⟩
  | 66 => ⟨S64, .f32⟩
  | 67 => ⟨S64, .f32⟩
  | 68 => ⟨S64, .f32⟩
  | 69 => ⟨S64, .f32⟩
  | 70 => ⟨S1x64, .f32⟩
  | 71 => ⟨S2048x64, .f32⟩
  | 72 => ⟨S2048x64, .f32⟩
  | 73 => ⟨S2048x64, .f32⟩
  | 74 => ⟨S2048x64, .f32⟩
  | 75 => ⟨S2048x64x2, .f32⟩
  | 76 => ⟨S2048x128, .f32⟩
  | 77 => ⟨S2048x64, .f32⟩
  | 78 => ⟨S2048x64x2, .f32⟩
  | 79 => ⟨S2048x128, .f32⟩
  | 80 => ⟨S128, .i32⟩
  | 81 => ⟨S128x1, .i32⟩
  | 82 => ⟨S128, .i32⟩
  | 83 => ⟨S1x128, .i32⟩
  | 84 => ⟨S_, .i32⟩
  | 85 => ⟨S1x128, .i32⟩
  | 86 => ⟨S1x128, .i32⟩
  | 87 => ⟨S128x128, .i32⟩
  | 88 => ⟨S128x128, .i32⟩
  | 89 => ⟨S128x128, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1x128, .i32⟩
  | 97 => ⟨S1x128, .i32⟩
  | 98 => ⟨S_, .i32⟩
  | 99 => ⟨S1x128, .i32⟩
  | 100 => ⟨S1x128, .i1⟩
  | 101 => ⟨S_, .i32⟩
  | 102 => ⟨S1x128, .i32⟩
  | 103 => ⟨S1x128, .i1⟩
  | 104 => ⟨S_, .i32⟩
  | 105 => ⟨S_, .i1⟩
  | 106 => ⟨S1x128, .i1⟩
  | 107 => ⟨S1x128, .i1⟩
  | 108 => ⟨S1x128, .i1⟩
  | 109 => ⟨S1x128, .i32⟩
  | 110 => ⟨S1x128, .i32⟩
  | 111 => ⟨S1x128, .i32⟩
  | 112 => ⟨S_, .i32⟩
  | 113 => ⟨S1x128, .i32⟩
  | 114 => ⟨S1x128, .i1⟩
  | 115 => ⟨S128x128, .i1⟩
  | 116 => ⟨S128x128, .i1⟩
  | 117 => ⟨S_, .f32⟩
  | 118 => ⟨S_, .f32⟩
  | 119 => ⟨S128x128, .f32⟩
  | 120 => ⟨S128x128, .f32⟩
  | 121 => ⟨S128x128, .f32⟩
  | 122 => ⟨S_, .i32⟩
  | 123 => ⟨S128x1, .i32⟩
  | 124 => ⟨S128x1, .i32⟩
  | 125 => ⟨S128x128, .i32⟩
  | 126 => ⟨S128x128, .i32⟩
  | 127 => ⟨S128x128, .i1⟩
  | _ => ⟨S1x2048x2048, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128x1, .i32⟩
  | 7 => ⟨S128x1, .i32⟩
  | 8 => ⟨S_, .i32⟩
  | 9 => ⟨S128x1, .i32⟩
  | 10 => ⟨S128x1, .i1⟩
  | 11 => ⟨S_, .i32⟩
  | 12 => ⟨S128x1, .i32⟩
  | 13 => ⟨S128x1, .i1⟩
  | 14 => ⟨S_, .i32⟩
  | 15 => ⟨S_, .i1⟩
  | 16 => ⟨S128x1, .i1⟩
  | 17 => ⟨S128x1, .i1⟩
  | 18 => ⟨S128x1, .i1⟩
  | 19 => ⟨S128x1, .i32⟩
  | 20 => ⟨S128x1, .i32⟩
  | 21 => ⟨S128x1, .i32⟩
  | 22 => ⟨S_, .i32⟩
  | 23 => ⟨S128x1, .i32⟩
  | 24 => ⟨S128x1, .i1⟩
  | 25 => ⟨S128x128, .i1⟩
  | 26 => ⟨S128x128, .i1⟩
  | 27 => ⟨S_, .f32⟩
  | 28 => ⟨S_, .f32⟩
  | 29 => ⟨S128x128, .f32⟩
  | 30 => ⟨S128x128, .f32⟩
  | 31 => ⟨S128x128, .f32⟩
  | 32 => ⟨S128x128, .f32⟩
  | 33 => ⟨S128x128, .bf16⟩
  | 34 => ⟨S_, .f32⟩
  | 35 => ⟨S_, .f32⟩
  | 36 => ⟨S_, .f32⟩
  | 37 => ⟨S_, .f32⟩
  | 38 => ⟨S1, .f32⟩
  | 39 => ⟨S32, .f32⟩
  | 40 => ⟨S32, .f32⟩
  | 41 => ⟨S32, .f32⟩
  | 42 => ⟨S_, .f32⟩
  | 43 => ⟨S_, .f32⟩
  | 44 => ⟨S1, .f32⟩
  | 45 => ⟨S32, .f32⟩
  | 46 => ⟨S32, .f32⟩
  | 47 => ⟨S_, .f32⟩
  | 48 => ⟨S_, .f32⟩
  | 49 => ⟨S_, .f32⟩
  | 50 => ⟨S_, .f32⟩
  | 51 => ⟨S1, .f32⟩
  | 52 => ⟨S32, .f32⟩
  | 53 => ⟨S32, .f32⟩
  | 54 => ⟨S32, .f32⟩
  | 55 => ⟨S_, .f32⟩
  | 56 => ⟨S_, .f32⟩
  | 57 => ⟨S1, .f32⟩
  | 58 => ⟨S32, .f32⟩
  | 59 => ⟨S32, .f32⟩
  | 60 => ⟨S128, .i32⟩
  | 61 => ⟨S128x1, .i32⟩
  | 62 => ⟨S2048, .i32⟩
  | 63 => ⟨S1x2048, .i32⟩
  | 64 => ⟨S_, .i32⟩
  | 65 => ⟨S128x1, .i32⟩
  | 66 => ⟨S128x1, .i32⟩
  | 67 => ⟨S128x2048, .i32⟩
  | 68 => ⟨S128x2048, .i32⟩
  | 69 => ⟨S128x2048, .i32⟩
  | 70 => ⟨S_, .i32⟩
  | 71 => ⟨S128x1, .i32⟩
  | 72 => ⟨S128x1, .i1⟩
  | 73 => ⟨S1x128x2048, .i32⟩
  | 74 => ⟨S32, .i32⟩
  | 75 => ⟨S32x1x1, .i32⟩
  | 76 => ⟨S32x128x2048, .i32⟩
  | 77 => ⟨S32x128x2048, .i32⟩
  | 78 => ⟨S32x128x2048, .i1⟩
  | 79 => ⟨S1x128x1, .i1⟩
  | 80 => ⟨S32x128x2048, .i1⟩
  | 81 => ⟨S32x128x2048, .i1⟩
  | 82 => ⟨S32x128x2048, .f32⟩
  | 83 => ⟨S32x1x1, .f32⟩
  | 84 => ⟨S32x128x2048, .f32⟩
  | 85 => ⟨S32x128x2048, .f32⟩
  | 86 => ⟨S_, .f32⟩
  | 87 => ⟨S128x2048, .f32⟩
  | 88 => ⟨S128x2048, .bf16⟩
  | 89 => ⟨S32x1x1, .f32⟩
  | 90 => ⟨S32x128x2048, .f32⟩
  | 91 => ⟨S32x128x2048, .f32⟩
  | 92 => ⟨S_, .f32⟩
  | 93 => ⟨S128x2048, .f32⟩
  | 94 => ⟨S128x2048, .bf16⟩
  | 95 => ⟨S16x2048x128, .bf16⟩
  | 96 => ⟨S4x2048x128, .bf16⟩
  | 97 => ⟨S4x2048x128, .bf16⟩
  | 98 => ⟨S2048x128, .f32⟩
  | 99 => ⟨S4x128x128, .bf16⟩
  | 100 => ⟨S4x128x128, .bf16⟩
  | 101 => ⟨S16, .i32⟩
  | 102 => ⟨S16x1x1, .i32⟩
  | 103 => ⟨S128, .i32⟩
  | 104 => ⟨S1x128x1, .i32⟩
  | 105 => ⟨S128, .i32⟩
  | 106 => ⟨S1x1x128, .i32⟩
  | 107 => ⟨S_, .i32⟩
  | 108 => ⟨S16x1x1, .i32⟩
  | 109 => ⟨S16x1x1, .i32⟩
  | 110 => ⟨S16x1x128, .i32⟩
  | 111 => ⟨S16x1x128, .i32⟩
  | 112 => ⟨S16x1x128, .i32⟩
  | 113 => ⟨S16x128x128, .i32⟩
  | 114 => ⟨S16x128x128, .i32⟩
  | 115 => ⟨S16x128x128, .i1⟩
  | 116 => ⟨S_, .i32⟩
  | 117 => ⟨S1x1x128, .i32⟩
  | 118 => ⟨S1x1x128, .i1⟩
  | 119 => ⟨S16x128x128, .i1⟩
  | 120 => ⟨S16x128x128, .i1⟩
  | 121 => ⟨S16x128x128, .bf16⟩
  | 122 => ⟨S512x2048, .bf16⟩
  | 123 => ⟨S512x2048, .bf16⟩
  | 124 => ⟨S512x2048, .bf16⟩
  | 125 => ⟨S512x2048, .bf16⟩
  | 126 => ⟨S2048x2048, .bf16⟩
  | 127 => ⟨S2048x2048, .f32⟩
  | _ => ⟨S1x2048x2048, .f32⟩

abbrev hbmTy0_2 (i : Nat) : BufTy := match i % 128 with
  | 0 => ⟨S1x2048x2048, .f32⟩
  | _ => ⟨S1x2048x2048, .f32⟩

abbrev hbmTy (i : Nat) : BufTy := match i / 128 with
  | 0 => hbmTy0_0 i
  | 1 => hbmTy0_1 i
  | 2 => hbmTy0_2 i
  | _ => ⟨S1x2048x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x512, .f32⟩
  | .local _ .vmem, ⟨4, _⟩ => ⟨S2048x512, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .bf16⟩
  | .local _ .vmem, ⟨11, _⟩ => ⟨S128x2048, .bf16⟩
  | .local _ .vmem, ⟨12, _⟩ => ⟨S128x2048, .bf16⟩
  | .local _ .vmem, ⟨13, _⟩ => ⟨S16x256x128, .bf16⟩
  | .local _ .vmem, ⟨14, _⟩ => ⟨S16x256x128, .bf16⟩
  | .local _ .vmem, ⟨15, _⟩ => ⟨S4x2048x128, .bf16⟩
  | .local _ .vmem, ⟨16, _⟩ => ⟨S4x2048x128, .bf16⟩
  | .local _ .vmem, ⟨17, _⟩ => ⟨S256x128, .f32⟩
  | .local _ .vmem, ⟨18, _⟩ => ⟨S256x128, .f32⟩
  | .local _ .vmem, ⟨19, _⟩ => ⟨S4x128x128, .bf16⟩
  | .local _ .vmem, ⟨20, _⟩ => ⟨S4x128x128, .bf16⟩
  | .local _ .vmem, ⟨21, _⟩ => ⟨S2048x2048, .bf16⟩
  | .local _ .vmem, ⟨22, _⟩ => ⟨S2048x512, .bf16⟩
  | .local _ .vmem, ⟨23, _⟩ => ⟨S2048x512, .bf16⟩
  | .local _ .vmem, ⟨24, _⟩ => ⟨S2048x128, .bf16⟩
  | .local _ .vmem, ⟨25, _⟩ => ⟨S1x256x128, .bf16⟩
  | .local _ .vmem, ⟨26, _⟩ => ⟨S1x256x128, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .bf16⟩
  | .local _ .vmem, ⟨31, _⟩ => ⟨S1x128x128, .bf16⟩
  | .local _ .vmem, ⟨32, _⟩ => ⟨S1x128x128, .bf16⟩
  | .local _ .vmem, ⟨33, _⟩ => ⟨S1x128x128, .bf16⟩
  | .local _ .vmem, ⟨34, _⟩ => ⟨S1x128x128, .bf16⟩
  | .local _ .vmem, ⟨35, _⟩ => ⟨S256x128, .f32⟩
  | .local _ .vmem, ⟨36, _⟩ => ⟨S256x128, .f32⟩
  | .local _ .vmem, ⟨37, _⟩ => ⟨S1x128x128, .bf16⟩
  | .local _ .vmem, ⟨38, _⟩ => ⟨S1x128x128, .bf16⟩
  | .local _ .vmem, ⟨39, _⟩ => ⟨S256x128, .bf16⟩
  | .local _ .vmem, ⟨40, _⟩ => ⟨S256x128, .bf16⟩
  | .local _ .vmem, ⟨41, _⟩ => ⟨S1x256x128, .bf16⟩
  | .local _ .vmem, ⟨42, _⟩ => ⟨S1x256x128, .bf16⟩
  | .local _ .vmem, ⟨43, _⟩ => ⟨S1x1024x128, .bf16⟩
  | .local _ .vmem, ⟨44, _⟩ => ⟨S1x1024x128, .bf16⟩
  | .local _ .vmem, ⟨45, _⟩ => ⟨S1x1024x128, .bf16⟩
  | .local _ .vmem, ⟨46, _⟩ => ⟨S1x1024x128, .bf16⟩
  | .local _ .vmem, ⟨47, _⟩ => ⟨S1x128x128, .bf16⟩
  | .local _ .vmem, ⟨48, _⟩ => ⟨S1x128x128, .bf16⟩
  | .local _ .vmem, ⟨49, _⟩ => ⟨S1x128x128, .bf16⟩
  | .local _ .vmem, ⟨50, _⟩ => ⟨S1x128x128, .bf16⟩
  | .local _ .vmem, ⟨51, _⟩ => ⟨S256x128, .f32⟩
  | .local _ .vmem, ⟨52, _⟩ => ⟨S256x128, .f32⟩
  | .local _ .vmem, ⟨53, _⟩ => ⟨S1x128x128, .bf16⟩
  | .local _ .vmem, ⟨54, _⟩ => ⟨S1x128x128, .bf16⟩
  | .local _ .vmem, ⟨55, _⟩ => ⟨S256x128, .bf16⟩
  | .local _ .vmem, ⟨56, _⟩ => ⟨S256x128, .bf16⟩
  | .local _ .vmem, ⟨57, _⟩ => ⟨S1x256x128, .bf16⟩
  | .local _ .vmem, ⟨58, _⟩ => ⟨S1x256x128, .bf16⟩
  | .local _ .vmem, ⟨59, _⟩ => ⟨S1x1536x128, .bf16⟩
  | .local _ .vmem, ⟨60, _⟩ => ⟨S1x1536x128, .bf16⟩
  | .local _ .vmem, ⟨61, _⟩ => ⟨S1x1536x128, .bf16⟩
  | .local _ .vmem, ⟨62, _⟩ => ⟨S1x1536x128, .bf16⟩
  | .local _ .vmem, ⟨63, _⟩ => ⟨S1x128x128, .bf16⟩
  | .local _ .vmem, ⟨64, _⟩ => ⟨S1x128x128, .bf16⟩
  | .local _ .vmem, ⟨65, _⟩ => ⟨S1x128x128, .bf16⟩
  | .local _ .vmem, ⟨66, _⟩ => ⟨S1x128x128, .bf16⟩
  | .local _ .vmem, ⟨67, _⟩ => ⟨S256x128, .f32⟩
  | .local _ .vmem, ⟨68, _⟩ => ⟨S256x128, .f32⟩
  | .local _ .vmem, ⟨69, _⟩ => ⟨S1x128x128, .bf16⟩
  | .local _ .vmem, ⟨70, _⟩ => ⟨S1x128x128, .bf16⟩
  | .local _ .vmem, ⟨71, _⟩ => ⟨S256x128, .bf16⟩
  | .local _ .vmem, ⟨72, _⟩ => ⟨S256x128, .bf16⟩
  | .local _ .vmem, ⟨73, _⟩ => ⟨S1x256x128, .bf16⟩
  | .local _ .vmem, ⟨74, _⟩ => ⟨S1x256x128, .bf16⟩
  | .local _ .vmem, ⟨75, _⟩ => ⟨S1x2048x128, .bf16⟩
  | .local _ .vmem, ⟨76, _⟩ => ⟨S1x2048x128, .bf16⟩
  | .local _ .vmem, ⟨77, _⟩ => ⟨S1x2048x128, .bf16⟩
  | .local _ .vmem, ⟨78, _⟩ => ⟨S1x2048x128, .bf16⟩
  | .local _ .vmem, ⟨79, _⟩ => ⟨S1x128x128, .bf16⟩
  | .local _ .vmem, ⟨80, _⟩ => ⟨S1x128x128, .bf16⟩
  | .local _ .vmem, ⟨81, _⟩ => ⟨S1x128x128, .bf16⟩
  | .local _ .vmem, ⟨82, _⟩ => ⟨S1x128x128, .bf16⟩
  | .local _ .vmem, ⟨83, _⟩ => ⟨S256x128, .f32⟩
  | .local _ .vmem, ⟨84, _⟩ => ⟨S256x128, .f32⟩
  | .local _ .vmem, ⟨85, _⟩ => ⟨S1x128x128, .bf16⟩
  | .local _ .vmem, ⟨86, _⟩ => ⟨S1x128x128, .bf16⟩
  | .local _ .vmem, ⟨87, _⟩ => ⟨S256x128, .bf16⟩
  | .local _ .vmem, ⟨88, _⟩ => ⟨S256x128, .bf16⟩
  | .local _ .vmem, ⟨89, _⟩ => ⟨S2048x2048, .bf16⟩
  | .local _ .vmem, ⟨90, _⟩ => ⟨S2048x256, .f32⟩
  | .local _ .vmem, ⟨91, _⟩ => ⟨S2048x256, .f32⟩
  | .local _ .vmem, ⟨92, _⟩ => ⟨S2048x256, .f32⟩
  | .local _ .vmem, ⟨93, _⟩ => ⟨S2048x256, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_cst_8 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v23 : Ref sig .tc := ⟨.hbm, 49, rfl⟩
abbrev main_cst_10 : Ref sig .tc := ⟨.hbm, 50, rfl⟩
abbrev main_v24 : Ref sig .tc := ⟨.hbm, 51, rfl⟩
abbrev main_v25 : Ref sig .tc := ⟨.hbm, 52, rfl⟩
abbrev main_cst_11 : Ref sig .tc := ⟨.hbm, 53, rfl⟩
abbrev main_v26 : Ref sig .tc := ⟨.hbm, 54, rfl⟩
abbrev main_v27 : Ref sig .tc := ⟨.hbm, 55, rfl⟩
abbrev main_cst_12 : Ref sig .tc := ⟨.hbm, 56, rfl⟩
abbrev main_v28 : Ref sig .tc := ⟨.hbm, 57, rfl⟩
abbrev main_v29 : Ref sig .tc := ⟨.hbm, 58, rfl⟩
abbrev main_cst_13 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_14 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_16 : Ref sig .tc := ⟨.hbm, 90, rfl⟩
abbrev main_call4_v0 : Ref sig .tc := ⟨.hbm, 91, rfl⟩
abbrev main_call4_c : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_c_1 : Ref sig .tc := ⟨.hbm, 98, rfl⟩
abbrev main_call4_v5 : Ref sig .tc := ⟨.hbm, 99, rfl⟩
abbrev main_call4_v6 : Ref sig .tc := ⟨.hbm, 100, rfl⟩
abbrev main_call4_c_2 : Ref sig .tc := ⟨.hbm, 101, rfl⟩
abbrev main_call4_v7 : Ref sig .tc := ⟨.hbm, 102, rfl⟩
abbrev main_call4_v8 : Ref sig .tc := ⟨.hbm, 103, rfl⟩
abbrev main_call4_c_3 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_v12 : Ref sig .tc := ⟨.hbm, 108, rfl⟩
abbrev main_call4_v13 : Ref sig .tc := ⟨.hbm, 109, rfl⟩
abbrev main_call4_v14 : Ref sig .tc := ⟨.hbm, 110, rfl⟩
abbrev main_v58 : Ref sig .tc := ⟨.hbm, 111, rfl⟩
abbrev main_c_17 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_18 : Ref sig .tc := ⟨.hbm, 117, rfl⟩
abbrev main_cst_19 : Ref sig .tc := ⟨.hbm, 118, rfl⟩
abbrev main_call5_v0 : Ref sig .tc := ⟨.hbm, 119, rfl⟩
abbrev main_call5_v1 : Ref sig .tc := ⟨.hbm, 120, rfl⟩
abbrev main_v63 : Ref sig .tc := ⟨.hbm, 121, rfl⟩
abbrev main_c_20 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_c_21 : Ref sig .tc := ⟨.hbm, 128, rfl⟩
abbrev main_call6_v0 : Ref sig .tc := ⟨.hbm, 129, rfl⟩
abbrev main_call6_c : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_c_1 : Ref sig .tc := ⟨.hbm, 136, rfl⟩
abbrev main_call6_v5 : Ref sig .tc := ⟨.hbm, 137, rfl⟩
abbrev main_call6_v6 : Ref sig .tc := ⟨.hbm, 138, rfl⟩
abbrev main_call6_c_2 : Ref sig .tc := ⟨.hbm, 139, rfl⟩
abbrev main_call6_v7 : Ref sig .tc := ⟨.hbm, 140, rfl⟩
abbrev main_call6_v8 : Ref sig .tc := ⟨.hbm, 141, rfl⟩
abbrev main_call6_c_3 : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_v12 : Ref sig .tc := ⟨.hbm, 146, rfl⟩
abbrev main_call6_v13 : Ref sig .tc := ⟨.hbm, 147, rfl⟩
abbrev main_call6_v14 : Ref sig .tc := ⟨.hbm, 148, rfl⟩
abbrev main_v69 : Ref sig .tc := ⟨.hbm, 149, rfl⟩
abbrev main_c_22 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_cst_23 : Ref sig .tc := ⟨.hbm, 155, rfl⟩
abbrev main_cst_24 : Ref sig .tc := ⟨.hbm, 156, rfl⟩
abbrev main_call7_v0 : Ref sig .tc := ⟨.hbm, 157, rfl⟩
abbrev main_call7_v1 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_25 : Ref sig .tc := ⟨.hbm, 162, rfl⟩
abbrev main_v77 : Ref sig .tc := ⟨.hbm, 163, rfl⟩
abbrev main_cst_26 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_27 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_cst_28 : Ref sig .tc := ⟨.hbm, 175, rfl⟩
abbrev main_v87 : Ref sig .tc := ⟨.hbm, 176, rfl⟩
abbrev main_cst_29 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_cst_30 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_c_31 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_c_32 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_cst_33 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_cst_34 : Ref sig .tc := ⟨.hbm, 220, rfl⟩
abbrev main_v126 : Ref sig .tc := ⟨.hbm, 221, rfl⟩
abbrev main_v127 : Ref sig .tc := ⟨.hbm, 222, rfl⟩
abbrev main_v128_0 : Ref sig .tc := ⟨.hbm, 223, rfl⟩
abbrev main_v128_1 : Ref sig .tc := ⟨.hbm, 224, rfl⟩
abbrev main_v128_2 : Ref sig .tc := ⟨.hbm, 225, rfl⟩
abbrev main_v128_3 : Ref sig .tc := ⟨.hbm, 226, rfl⟩
abbrev main_v128_4 : Ref sig .tc := ⟨.hbm, 227, rfl⟩
abbrev main_v128_5 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_c_35 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_c_36 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg7_1 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg1_1 : Ref sig .tc := ⟨.vmem, 44, rfl⟩
abbrev cc2_stg2_0 : Ref sig .tc := ⟨.vmem, 45, rfl⟩
abbrev cc2_stg2_1 : Ref sig .tc := ⟨.vmem, 46, rfl⟩
abbrev cc2_stg3_0 : Ref sig .tc := ⟨.vmem, 47, rfl⟩
abbrev cc2_stg3_1 : Ref sig .tc := ⟨.vmem, 48, rfl⟩
abbrev cc2_stg4_0 : Ref sig .tc := ⟨.vmem, 49, rfl⟩
abbrev cc2_stg4_1 : Ref sig .tc := ⟨.vmem, 50, rfl⟩
abbrev cc2_stg5_0 : Ref sig .tc := ⟨.vmem, 51, rfl⟩
abbrev cc2_stg5_1 : Ref sig .tc := ⟨.vmem, 52, rfl⟩
abbrev cc2_stg6_0 : Ref sig .tc := ⟨.vmem, 53, rfl⟩
abbrev cc2_stg6_1 : Ref sig .tc := ⟨.vmem, 54, rfl⟩
abbrev cc2_stg7_0 : Ref sig .tc := ⟨.vmem, 55, rfl⟩
abbrev cc2_stg7_1 : Ref sig .tc := ⟨.vmem, 56, rfl⟩
abbrev cc3_stg0_0 : Ref sig .tc := ⟨.vmem, 57, rfl⟩
abbrev cc3_stg0_1 : Ref sig .tc := ⟨.vmem, 58, rfl⟩
abbrev cc3_stg1_0 : Ref sig .tc := ⟨.vmem, 59, rfl⟩
abbrev cc3_stg1_1 : Ref sig .tc := ⟨.vmem, 60, rfl⟩
abbrev cc3_stg2_0 : Ref sig .tc := ⟨.vmem, 61, rfl⟩
abbrev cc3_stg2_1 : Ref sig .tc := ⟨.vmem, 62, rfl⟩
abbrev cc3_stg3_0 : Ref sig .tc := ⟨.vmem, 63, rfl⟩
abbrev cc3_stg3_1 : Ref sig .tc := ⟨.vmem, 64, rfl⟩
abbrev cc3_stg4_0 : Ref sig .tc := ⟨.vmem, 65, rfl⟩
abbrev cc3_stg4_1 : Ref sig .tc := ⟨.vmem, 66, rfl⟩
abbrev cc3_stg5_0 : Ref sig .tc := ⟨.vmem, 67, rfl⟩
abbrev cc3_stg5_1 : Ref sig .tc := ⟨.vmem, 68, rfl⟩
abbrev cc3_stg6_0 : Ref sig .tc := ⟨.vmem, 69, rfl⟩
abbrev cc3_stg6_1 : Ref sig .tc := ⟨.vmem, 70, rfl⟩
abbrev cc3_stg7_0 : Ref sig .tc := ⟨.vmem, 71, rfl⟩
abbrev cc3_stg7_1 : Ref sig .tc := ⟨.vmem, 72, rfl⟩
abbrev cc4_stg0_0 : Ref sig .tc := ⟨.vmem, 73, rfl⟩
abbrev cc4_stg0_1 : Ref sig .tc := ⟨.vmem, 74, rfl⟩
abbrev cc4_stg1_0 : Ref sig .tc := ⟨.vmem, 75, rfl⟩
abbrev cc4_stg1_1 : Ref sig .tc := ⟨.vmem, 76, rfl⟩
abbrev cc4_stg2_0 : Ref sig .tc := ⟨.vmem, 77, rfl⟩
abbrev cc4_stg2_1 : Ref sig .tc := ⟨.vmem, 78, rfl⟩
abbrev cc4_stg3_0 : Ref sig .tc := ⟨.vmem, 79, rfl⟩
abbrev cc4_stg3_1 : Ref sig .tc := ⟨.vmem, 80, rfl⟩
abbrev cc4_stg4_0 : Ref sig .tc := ⟨.vmem, 81, rfl⟩
abbrev cc4_stg4_1 : Ref sig .tc := ⟨.vmem, 82, rfl⟩
abbrev cc4_stg5_0 : Ref sig .tc := ⟨.vmem, 83, rfl⟩
abbrev cc4_stg5_1 : Ref sig .tc := ⟨.vmem, 84, rfl⟩
abbrev cc4_stg6_0 : Ref sig .tc := ⟨.vmem, 85, rfl⟩
abbrev cc4_stg6_1 : Ref sig .tc := ⟨.vmem, 86, rfl⟩
abbrev cc4_stg7_0 : Ref sig .tc := ⟨.vmem, 87, rfl⟩
abbrev cc4_stg7_1 : Ref sig .tc := ⟨.vmem, 88, rfl⟩
abbrev cc5_stg0_0 : Ref sig .tc := ⟨.vmem, 89, rfl⟩
abbrev cc5_stg1_0 : Ref sig .tc := ⟨.vmem, 90, rfl⟩
abbrev cc5_stg1_1 : Ref sig .tc := ⟨.vmem, 91, rfl⟩
abbrev cc5_stg2_0 : Ref sig .tc := ⟨.vmem, 92, rfl⟩
abbrev cc5_stg2_1 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem15_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc1_sem5_0 : DmaSem sig := 31
abbrev cc1_sem5_1 : DmaSem sig := 32
abbrev cc1_sem6_0 : DmaSem sig := 33
abbrev cc1_sem6_1 : DmaSem sig := 34
abbrev cc1_sem7_0 : DmaSem sig := 35
abbrev cc1_sem7_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem4_1 : DmaSem sig := 46
abbrev cc2_sem5_0 : DmaSem sig := 47
abbrev cc2_sem5_1 : DmaSem sig := 48
abbrev cc2_sem6_0 : DmaSem sig := 49
abbrev cc2_sem6_1 : DmaSem sig := 50
abbrev cc2_sem7_0 : DmaSem sig := 51
abbrev cc2_sem7_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem2_1 : DmaSem sig := 58
abbrev cc3_sem3_0 : DmaSem sig := 59
abbrev cc3_sem3_1 : DmaSem sig := 60
abbrev cc3_sem4_0 : DmaSem sig := 61
abbrev cc3_sem4_1 : DmaSem sig := 62
abbrev cc3_sem5_0 : DmaSem sig := 63
abbrev cc3_sem5_1 : DmaSem sig := 64
abbrev cc3_sem6_0 : DmaSem sig := 65
abbrev cc3_sem6_1 : DmaSem sig := 66
abbrev cc3_sem7_0 : DmaSem sig := 67
abbrev cc3_sem7_1 : DmaSem sig := 68
abbrev cc4_sem0_0 : DmaSem sig := 69
abbrev cc4_sem0_1 : DmaSem sig := 70
abbrev cc4_sem1_0 : DmaSem sig := 71
abbrev cc4_sem1_1 : DmaSem sig := 72
abbrev cc4_sem2_0 : DmaSem sig := 73
abbrev cc4_sem2_1 : DmaSem sig := 74
abbrev cc4_sem3_0 : DmaSem sig := 75
abbrev cc4_sem3_1 : DmaSem sig := 76
abbrev cc4_sem4_0 : DmaSem sig := 77
abbrev cc4_sem4_1 : DmaSem sig := 78
abbrev cc4_sem5_0 : DmaSem sig := 79
abbrev cc4_sem5_1 : DmaSem sig := 80
abbrev cc4_sem6_0 : DmaSem sig := 81
abbrev cc4_sem6_1 : DmaSem sig := 82
abbrev cc4_sem7_0 : DmaSem sig := 83
abbrev cc4_sem7_1 : DmaSem sig := 84
abbrev cc5_sem0_0 : DmaSem sig := 85
abbrev cc5_sem1_0 : DmaSem sig := 86
abbrev cc5_sem1_1 : DmaSem sig := 87
abbrev cc5_sem2_0 : DmaSem sig := 88
abbrev cc5_sem2_1 : DmaSem sig := 89

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0_87 : Index := 0#32
  let arg0 : BitVec 32 := BitVec.ofNat 32 (i 0).val
  let c256_i32 : BitVec 32 := 256#32
  let v221 : BitVec 32 := Scalar.muli arg0 c256_i32
  let v222 : Index := Scalar.indexCast v221
  let c0_88 : Index := 0#32
  ![0, v222.toNat, 0]
def k0_off2 (i : grid0.Coords) : Fin 3 → Nat :=
  let c1_94 : Index := 1#32
  let arg0 : BitVec 32 := BitVec.ofNat 32 (i 0).val
  let c256_i32_93 : BitVec 32 := 256#32
  let v240 : BitVec 32 := Scalar.muli arg0 c256_i32_93
  let v241 : Index := Scalar.indexCast v240
  let c0_95 : Index := 0#32
  ![1, v241.toNat, 0]
def k0_off3 (i : grid0.Coords) : Fin 3 → Nat :=
  let c2_101 : Index := 2#32
  let arg0 : BitVec 32 := BitVec.ofNat 32 (i 0).val
  let c256_i32_100 : BitVec 32 := 256#32
  let v259 : BitVec 32 := Scalar.muli arg0 c256_i32_100
  let v260 : Index := Scalar.indexCast v259
  let c0_102 : Index := 0#32
  ![2, v260.toNat, 0]
def k0_off4 (i : grid0.Coords) : Fin 3 → Nat :=
  let c3_108 : Index := 3#32
  let arg0 : BitVec 32 := BitVec.ofNat 32 (i 0).val
  let c256_i32_107 : BitVec 32 := 256#32
  let v278 : BitVec 32 := Scalar.muli arg0 c256_i32_107
  let v279 : Index := Scalar.indexCast v278
  let c0_109 : Index := 0#32
  ![3, v279.toNat, 0]
def k0_cond2 (i : grid0.Coords) : BitVec 1 :=
  let arg0 : BitVec 32 := BitVec.ofNat 32 (i 0).val
  let c7_i32 : BitVec 32 := 7#32
  let v290 : BitVec 1 := Scalar.cmpi .eq arg0 c7_i32
  let v291 : BitVec 32 := Scalar.extui v290
  let c0_i32_113 : BitVec 32 := 0#32
  let v292 : BitVec 1 := Scalar.cmpi .ne v291 c0_i32_113
  v292

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, v0.toNat, c0_i32.toNat]

def cc2_transform_1 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_3 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_4 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_5 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x128x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x128x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x128x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S256x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![2, 16], ![false, false]⟩

def cc3_transform_0 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, v0.toNat, c0_i32.toNat]

def cc3_transform_1 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc3_transform_2 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc3_transform_3 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc3_transform_4 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc3_transform_5 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1x256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1536x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1536x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x128x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x128x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x128x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true]

abbrev stage3_7 : Fin 2 → Memref sig .tc .vmem S256x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![2, 16], ![false, false]⟩

def cc4_transform_0 (i : grid4.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, v0.toNat, c0_i32.toNat]

def cc4_transform_1 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_2 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_3 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_4 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_5 (i : grid4.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1x256x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x2048x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x128x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x128x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S256x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1x128x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![false, true]

abbrev stage4_7 : Fin 2 → Memref sig .tc .vmem S256x128 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== KernelIdeal.lean ====
variable {F : FTy → Type} [FloatOps F] [Named F]
def κ : String → Option EReal := fun
  | "mask" => some ⊥
  | _ => none
-- ==== ReferenceIdeal.lean ====
abbrev S1x2048x2048 : Shape := ⟨3, ![1, 2048, 2048]⟩
abbrev S2048x2048 : Shape := ⟨2, ![2048, 2048]⟩
abbrev S2048x512 : Shape := ⟨2, ![2048, 512]⟩
abbrev S2048x48 : Shape := ⟨2, ![2048, 48]⟩
abbrev S32 : Shape := ⟨1, ![32]⟩
abbrev S2048x16x128 : Shape := ⟨3, ![2048, 16, 128]⟩
abbrev S2048x4x128 : Shape := ⟨3, ![2048, 4, 128]⟩
abbrev S_ : Shape := ⟨0, ![]⟩
abbrev S2048x16x3 : Shape := ⟨3, ![2048, 16, 3]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S2048x16x64 : Shape := ⟨3, ![2048, 16, 64]⟩
abbrev S2048x16x64x1 : Shape := ⟨4, ![2048, 16, 64, 1]⟩
abbrev S2048x16x64x2 : Shape := ⟨4, ![2048, 16, 64, 2]⟩
abbrev S2048x4x64 : Shape := ⟨3, ![2048, 4, 64]⟩
abbrev S2048x4x64x1 : Shape := ⟨4, ![2048, 4, 64, 1]⟩
abbrev S2048x4x64x2 : Shape := ⟨4, ![2048, 4, 64, 2]⟩
abbrev S2048x4x4x128 : Shape := ⟨4, ![2048, 4, 4, 128]⟩
abbrev S127 : Shape := ⟨1, ![127]⟩
abbrev S127x1 : Shape := ⟨2, ![127, 1]⟩
abbrev S1x32 : Shape := ⟨2, ![1, 32]⟩
abbrev S127x32 : Shape := ⟨2, ![127, 32]⟩
abbrev S127x32x1 : Shape := ⟨3, ![127, 32, 1]⟩
abbrev S127x32x4x128 : Shape := ⟨4, ![127, 32, 4, 128]⟩
abbrev S1 : Shape := ⟨1, ![1]⟩
abbrev S1x32x1x1 : Shape := ⟨4, ![1, 32, 1, 1]⟩
abbrev S127x4x128 : Shape := ⟨3, ![127, 4, 128]⟩
abbrev S127x4x4x128 : Shape := ⟨4, ![127, 4, 4, 128]⟩
abbrev S127x16x128 : Shape := ⟨3, ![127, 16, 128]⟩
abbrev S16x2048x127 : Shape := ⟨3, ![16, 2048, 127]⟩
abbrev S1x127 : Shape := ⟨2, ![1, 127]⟩
abbrev S2048x127 : Shape := ⟨2, ![2048, 127]⟩
abbrev S1x2048x127 : Shape := ⟨3, ![1, 2048, 127]⟩
abbrev S16x2048 : Shape := ⟨2, ![16, 2048]⟩
abbrev S16x2048x1 : Shape := ⟨3, ![16, 2048, 1]⟩
abbrev S1x2048x1 : Shape := ⟨3, ![1, 2048, 1]⟩
abbrev S16x128x2048 : Shape := ⟨3, ![16, 128, 2048]⟩
abbrev S1x16 : Shape := ⟨2, ![1, 16]⟩
abbrev S127x16 : Shape := ⟨2, ![127, 16]⟩
abbrev S16x2048x16 : Shape := ⟨3, ![16, 2048, 16]⟩
abbrev S4x4x2048x16 : Shape := ⟨4, ![4, 4, 2048, 16]⟩
abbrev S4x2048x16 : Shape := ⟨3, ![4, 2048, 16]⟩
abbrev S16 : Shape := ⟨1, ![16]⟩
abbrev S2048x16 : Shape := ⟨2, ![2048, 16]⟩
abbrev S1x2048x16 : Shape := ⟨3, ![1, 2048, 16]⟩
abbrev S4x2048x16x1 : Shape := ⟨4, ![4, 2048, 16, 1]⟩
abbrev S1x1x1x16 : Shape := ⟨4, ![1, 1, 1, 16]⟩
abbrev S4x2048x16x16 : Shape := ⟨4, ![4, 2048, 16, 16]⟩
abbrev S1x1 : Shape := ⟨2, ![1, 1]⟩
abbrev S16x2048x2048 : Shape := ⟨3, ![16, 2048, 2048]⟩
abbrev S1x2048 : Shape := ⟨2, ![1, 2048]⟩
abbrev S2048x16x1 : Shape := ⟨3, ![2048, 16, 1]⟩

abbrev nBuf : Space → Nat
  | .hbm => 503
  | .vmem => 0
  | .smem => 0
  | _ => 0

abbrev hbmTy0_0 (i : Nat) : BufTy := match i % 128 with
  | 0 => ⟨S1x2048x2048, .f32⟩
  | 1 => ⟨S2048x2048, .f32⟩
  | 2 => ⟨S2048x512, .f32⟩
  | 3 => ⟨S2048x512, .f32⟩
  | 4 => ⟨S2048x2048, .f32⟩
  | 5 => ⟨S2048x48, .f32⟩
  | 6 => ⟨S32, .f32⟩
  | 7 => ⟨S32, .f32⟩
  | 8 => ⟨S2048x2048, .f32⟩
  | 9 => ⟨S2048x2048, .f32⟩
  | 10 => ⟨S2048x16x128, .f32⟩
  | 11 => ⟨S2048x512, .f32⟩
  | 12 => ⟨S2048x4x128, .f32⟩
  | 13 => ⟨S2048x512, .f32⟩
  | 14 => ⟨S2048x4x128, .f32⟩
  | 15 => ⟨S2048x48, .f32⟩
  | 16 => ⟨S2048x48, .f32⟩
  | 17 => ⟨S2048x48, .f32⟩
  | 18 => ⟨S_, .f32⟩
  | 19 => ⟨S2048x48, .f32⟩
  | 20 => ⟨S2048x48, .f32⟩
  | 21 => ⟨S_, .f32⟩
  | 22 => ⟨S2048x48, .f32⟩
  | 23 => ⟨S2048x48, .f32⟩
  | 24 => ⟨S2048x16x3, .f32⟩
  | 25 => ⟨S2048, .i32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S_, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .i1⟩
  | 65 => ⟨S_, .f32⟩
  | 66 => ⟨S64, .f32⟩
  | 67 => ⟨S64, .f32⟩
  | 68 => ⟨S_, .f32⟩
  | 69 => ⟨S64, .f32⟩
  | 70 => ⟨S64, .i1⟩
  | 71 => ⟨S_, .f32⟩
  | 72 => ⟨S64, .f32⟩
  | 73 => ⟨S64, .f32⟩
  | 74 => ⟨S64, .f32⟩
  | 75 => ⟨S_, .f32⟩
  | 76 => ⟨S64, .f32⟩
  | 77 => ⟨S64, .f32⟩
  | 78 => ⟨S64, .f32⟩
  | 79 => ⟨S64, .f32⟩
  | 80 => ⟨S64, .f32⟩
  | 81 => ⟨S64, .f32⟩
  | 82 => ⟨S2048x1, .i32⟩
  | 83 => ⟨S2048x1, .f32⟩
  | 84 => ⟨S1x64, .f32⟩
  | 85 => ⟨S2048x64, .f32⟩
  | 86 => ⟨S2048x64, .f32⟩
  | 87 => ⟨S2048x64, .f32⟩
  | 88 => ⟨S2048x64, .f32⟩
  | 89 => ⟨S2048x1x64, .f32⟩
  | 90 => ⟨S2048x64, .f32⟩
  | 91 => ⟨S2048x1x64, .f32⟩
  | 92 => ⟨S2048x16x64, .f32⟩
  | 93 => ⟨S2048x16x64, .f32⟩
  | 94 => ⟨S2048x16x64, .f32⟩
  | 95 => ⟨S2048x16x64, .f32⟩
  | 96 => ⟨S2048x16x64, .f32⟩
  | 97 => ⟨S2048x16x64, .f32⟩
  | 98 => ⟨S2048x16x64, .f32⟩
  | 99 => ⟨S2048x16x64, .f32⟩
  | 100 => ⟨S2048x16x64, .f32⟩
  | 101 => ⟨S2048x16x64, .f32⟩
  | 102 => ⟨S2048x16x64, .f32⟩
  | 103 => ⟨S2048x16x64, .f32⟩
  | 104 => ⟨S2048x16x64x1, .f32⟩
  | 105 => ⟨S2048x16x64x1, .f32⟩
  | 106 => ⟨S2048x16x64x2, .f32⟩
  | 107 => ⟨S2048x16x128, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S_, .f32⟩
  | _ => ⟨S1x2048x2048, .f32⟩

abbrev hbmTy0_1 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S_, .f32⟩
  | 6 => ⟨S64, .f32⟩
  | 7 => ⟨S64, .f32⟩
  | 8 => ⟨S_, .f32⟩
  | 9 => ⟨S_, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .i1⟩
  | 19 => ⟨S_, .f32⟩
  | 20 => ⟨S64, .f32⟩
  | 21 => ⟨S64, .f32⟩
  | 22 => ⟨S_, .f32⟩
  | 23 => ⟨S64, .f32⟩
  | 24 => ⟨S64, .i1⟩
  | 25 => ⟨S_, .f32⟩
  | 26 => ⟨S64, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S64, .f32⟩
  | 34 => ⟨S64, .f32⟩
  | 35 => ⟨S64, .f32⟩
  | 36 => ⟨S2048x1, .i32⟩
  | 37 => ⟨S2048x1, .f32⟩
  | 38 => ⟨S1x64, .f32⟩
  | 39 => ⟨S2048x64, .f32⟩
  | 40 => ⟨S2048x64, .f32⟩
  | 41 => ⟨S2048x64, .f32⟩
  | 42 => ⟨S2048x64, .f32⟩
  | 43 => ⟨S2048x1x64, .f32⟩
  | 44 => ⟨S2048x64, .f32⟩
  | 45 => ⟨S2048x1x64, .f32⟩
  | 46 => ⟨S2048x4x64, .f32⟩
  | 47 => ⟨S2048x4x64, .f32⟩
  | 48 => ⟨S2048x4x64, .f32⟩
  | 49 => ⟨S2048x4x64, .f32⟩
  | 50 => ⟨S2048x4x64, .f32⟩
  | 51 => ⟨S2048x4x64, .f32⟩
  | 52 => ⟨S2048x4x64, .f32⟩
  | 53 => ⟨S2048x4x64, .f32⟩
  | 54 => ⟨S2048x4x64, .f32⟩
  | 55 => ⟨S2048x4x64, .f32⟩
  | 56 => ⟨S2048x4x64, .f32⟩
  | 57 => ⟨S2048x4x64, .f32⟩
  | 58 => ⟨S2048x4x64x1, .f32⟩
  | 59 => ⟨S2048x4x64x1, .f32⟩
  | 60 => ⟨S2048x4x64x2, .f32⟩
  | 61 => ⟨S2048x4x128, .f32⟩
  | 62 => ⟨S2048x4x4x128, .f32⟩
  | 63 => ⟨S2048x16x128, .f32⟩
  | 64 => ⟨S2048x4x4x128, .f32⟩
  | 65 => ⟨S2048x16x128, .f32⟩
  | 66 => ⟨S127, .i32⟩
  | 67 => ⟨S127x1, .i32⟩
  | 68 => ⟨S_, .i32⟩
  | 69 => ⟨S127x1, .i32⟩
  | 70 => ⟨S127x1, .i32⟩
  | 71 => ⟨S32, .i32⟩
  | 72 => ⟨S1x32, .i32⟩
  | 73 => ⟨S127x32, .i32⟩
  | 74 => ⟨S127x32, .i32⟩
  | 75 => ⟨S127x32, .i32⟩
  | 76 => ⟨S_, .i32⟩
  | 77 => ⟨S127x32, .i32⟩
  | 78 => ⟨S127x32, .i1⟩
  | 79 => ⟨S_, .i32⟩
  | 80 => ⟨S127x32, .i32⟩
  | 81 => ⟨S127x32, .i32⟩
  | 82 => ⟨S127x32, .i32⟩
  | 83 => ⟨S127x32x1, .i32⟩
  | 84 => ⟨S127x32x4x128, .f32⟩
  | 85 => ⟨S_, .i32⟩
  | 86 => ⟨S127x32, .i32⟩
  | 87 => ⟨S127x32, .i1⟩
  | 88 => ⟨S_, .i32⟩
  | 89 => ⟨S127x32, .i32⟩
  | 90 => ⟨S127x32, .i32⟩
  | 91 => ⟨S127x32, .i32⟩
  | 92 => ⟨S127x32x1, .i32⟩
  | 93 => ⟨S127x32x4x128, .f32⟩
  | 94 => ⟨S_, .f32⟩
  | 95 => ⟨S_, .f32⟩
  | 96 => ⟨S_, .f32⟩
  | 97 => ⟨S_, .f32⟩
  | 98 => ⟨S1, .f32⟩
  | 99 => ⟨S32, .f32⟩
  | 100 => ⟨S32, .f32⟩
  | 101 => ⟨S32, .f32⟩
  | 102 => ⟨S_, .f32⟩
  | 103 => ⟨S_, .f32⟩
  | 104 => ⟨S1, .f32⟩
  | 105 => ⟨S32, .f32⟩
  | 106 => ⟨S32, .f32⟩
  | 107 => ⟨S_, .f32⟩
  | 108 => ⟨S_, .f32⟩
  | 109 => ⟨S_, .f32⟩
  | 110 => ⟨S_, .f32⟩
  | 111 => ⟨S1, .f32⟩
  | 112 => ⟨S32, .f32⟩
  | 113 => ⟨S32, .f32⟩
  | 114 => ⟨S32, .f32⟩
  | 115 => ⟨S_, .f32⟩
  | 116 => ⟨S_, .f32⟩
  | 117 => ⟨S1, .f32⟩
  | 118 => ⟨S32, .f32⟩
  | 119 => ⟨S32, .f32⟩
  | 120 => ⟨S1x32x1x1, .f32⟩
  | 121 => ⟨S127x32x4x128, .f32⟩
  | 122 => ⟨S127x32x4x128, .f32⟩
  | 123 => ⟨S_, .f32⟩
  | 124 => ⟨S127x4x128, .f32⟩
  | 125 => ⟨S1x32x1x1, .f32⟩
  | 126 => ⟨S127x32x4x128, .f32⟩
  | 127 => ⟨S127x32x4x128, .f32⟩
  | _ => ⟨S1x2048x2048, .f32⟩

abbrev hbmTy0_2 (i : Nat) : BufTy := match i % 128 with
  | 0 => ⟨S_, .f32⟩
  | 1 => ⟨S127x4x128, .f32⟩
  | 2 => ⟨S127x4x4x128, .f32⟩
  | 3 => ⟨S127x16x128, .f32⟩
  | 4 => ⟨S127x4x4x128, .f32⟩
  | 5 => ⟨S127x16x128, .f32⟩
  | 6 => ⟨S16x2048x127, .f32⟩
  | 7 => ⟨S_, .f32⟩
  | 8 => ⟨S16x2048x127, .f32⟩
  | 9 => ⟨S16x2048x127, .f32⟩
  | 10 => ⟨S127, .i32⟩
  | 11 => ⟨S_, .i32⟩
  | 12 => ⟨S127, .i32⟩
  | 13 => ⟨S127, .i32⟩
  | 14 => ⟨S_, .i32⟩
  | 15 => ⟨S127, .i32⟩
  | 16 => ⟨S127, .i32⟩
  | 17 => ⟨S_, .i32⟩
  | 18 => ⟨S127, .i32⟩
  | 19 => ⟨S127, .i32⟩
  | 20 => ⟨S2048x1, .i32⟩
  | 21 => ⟨S1x127, .i32⟩
  | 22 => ⟨S2048x127, .i32⟩
  | 23 => ⟨S2048x127, .i32⟩
  | 24 => ⟨S2048x127, .i1⟩
  | 25 => ⟨S1x2048x127, .i1⟩
  | 26 => ⟨S_, .f32⟩
  | 27 => ⟨S_, .f32⟩
  | 28 => ⟨S16x2048x127, .i1⟩
  | 29 => ⟨S16x2048x127, .f32⟩
  | 30 => ⟨S16x2048x127, .f32⟩
  | 31 => ⟨S_, .f32⟩
  | 32 => ⟨S16x2048, .f32⟩
  | 33 => ⟨S_, .f32⟩
  | 34 => ⟨S16x2048, .f32⟩
  | 35 => ⟨S16x2048, .f32⟩
  | 36 => ⟨S16x2048x1, .f32⟩
  | 37 => ⟨S16x2048x127, .f32⟩
  | 38 => ⟨S16x2048x127, .f32⟩
  | 39 => ⟨S16x2048x127, .f32⟩
  | 40 => ⟨S_, .f32⟩
  | 41 => ⟨S16x2048, .f32⟩
  | 42 => ⟨S16x2048x1, .f32⟩
  | 43 => ⟨S16x2048x127, .f32⟩
  | 44 => ⟨S16x2048x127, .f32⟩
  | 45 => ⟨S_, .i1⟩
  | 46 => ⟨S2048, .i1⟩
  | 47 => ⟨S1x2048x1, .i1⟩
  | 48 => ⟨S_, .f32⟩
  | 49 => ⟨S_, .f32⟩
  | 50 => ⟨S16x2048x127, .i1⟩
  | 51 => ⟨S16x2048x127, .f32⟩
  | 52 => ⟨S16x2048x127, .f32⟩
  | 53 => ⟨S16x128x2048, .f32⟩
  | 54 => ⟨S2048x16x128, .f32⟩
  | 55 => ⟨S127, .i32⟩
  | 56 => ⟨S_, .i32⟩
  | 57 => ⟨S127, .i32⟩
  | 58 => ⟨S127, .i32⟩
  | 59 => ⟨S_, .i32⟩
  | 60 => ⟨S_, .i32⟩
  | 61 => ⟨S127, .i32⟩
  | 62 => ⟨S127, .i32⟩
  | 63 => ⟨S127, .i32⟩
  | 64 => ⟨S_, .i32⟩
  | 65 => ⟨S127, .i32⟩
  | 66 => ⟨S127, .i1⟩
  | 67 => ⟨S127, .i32⟩
  | 68 => ⟨S127, .i32⟩
  | 69 => ⟨S_, .i32⟩
  | 70 => ⟨S127, .i32⟩
  | 71 => ⟨S127, .i1⟩
  | 72 => ⟨S127, .i1⟩
  | 73 => ⟨S_, .i32⟩
  | 74 => ⟨S127, .i32⟩
  | 75 => ⟨S127, .i32⟩
  | 76 => ⟨S127, .i32⟩
  | 77 => ⟨S127x1, .i32⟩
  | 78 => ⟨S1x16, .i32⟩
  | 79 => ⟨S127x16, .i32⟩
  | 80 => ⟨S127x16, .i32⟩
  | 81 => ⟨S127x16, .i1⟩
  | 82 => ⟨S127x16, .f32⟩
  | 83 => ⟨S16x2048x16, .f32⟩
  | 84 => ⟨S4x4x2048x16, .f32⟩
  | 85 => ⟨S_, .f32⟩
  | 86 => ⟨S4x2048x16, .f32⟩
  | 87 => ⟨S_, .i32⟩
  | 88 => ⟨S_, .i32⟩
  | 89 => ⟨S2048, .i32⟩
  | 90 => ⟨S2048, .i32⟩
  | 91 => ⟨S2048, .i32⟩
  | 92 => ⟨S_, .i32⟩
  | 93 => ⟨S2048, .i32⟩
  | 94 => ⟨S2048, .i1⟩
  | 95 => ⟨S2048, .i32⟩
  | 96 => ⟨S2048, .i32⟩
  | 97 => ⟨S_, .i32⟩
  | 98 => ⟨S2048, .i32⟩
  | 99 => ⟨S2048, .i1⟩
  | 100 => ⟨S2048, .i1⟩
  | 101 => ⟨S_, .i32⟩
  | 102 => ⟨S2048, .i32⟩
  | 103 => ⟨S2048, .i32⟩
  | 104 => ⟨S2048, .i32⟩
  | 105 => ⟨S16, .i32⟩
  | 106 => ⟨S1x16, .i32⟩
  | 107 => ⟨S_, .i32⟩
  | 108 => ⟨S1x16, .i32⟩
  | 109 => ⟨S1x16, .i1⟩
  | 110 => ⟨S1x16, .i32⟩
  | 111 => ⟨S2048x1, .i32⟩
  | 112 => ⟨S2048x16, .i32⟩
  | 113 => ⟨S2048x16, .i32⟩
  | 114 => ⟨S2048x16, .i1⟩
  | 115 => ⟨S1x16, .i32⟩
  | 116 => ⟨S2048x1, .i32⟩
  | 117 => ⟨S_, .i32⟩
  | 118 => ⟨S2048x1, .i32⟩
  | 119 => ⟨S2048x1, .i32⟩
  | 120 => ⟨S2048x16, .i32⟩
  | 121 => ⟨S2048x16, .i32⟩
  | 122 => ⟨S2048x16, .i1⟩
  | 123 => ⟨S2048x16, .i1⟩
  | 124 => ⟨S2048x16, .i1⟩
  | 125 => ⟨S2048x16, .i1⟩
  | 126 => ⟨S1x2048x16, .i1⟩
  | 127 => ⟨S_, .f32⟩
  | _ => ⟨S1x2048x2048, .f32⟩

abbrev hbmTy0_3 (i : Nat) : BufTy := match i % 128 with
  | 0 => ⟨S_, .f32⟩
  | 1 => ⟨S4x2048x16, .i1⟩
  | 2 => ⟨S4x2048x16, .f32⟩
  | 3 => ⟨S4x2048x16, .f32⟩
  | 4 => ⟨S4x2048x16, .f32⟩
  | 5 => ⟨S4x2048x16, .i32⟩
  | 6 => ⟨S4x2048x16x1, .i32⟩
  | 7 => ⟨S1x1x1x16, .i32⟩
  | 8 => ⟨S4x2048x16x16, .i32⟩
  | 9 => ⟨S4x2048x16x16, .i32⟩
  | 10 => ⟨S4x2048x16x16, .i1⟩
  | 11 => ⟨S4x2048x16x16, .f32⟩
  | 12 => ⟨S_, .f32⟩
  | 13 => ⟨S4x2048x16, .f32⟩
  | 14 => ⟨S_, .f32⟩
  | 15 => ⟨S4x2048x16, .f32⟩
  | 16 => ⟨S4x2048x16, .i1⟩
  | 17 => ⟨S4x4x2048x16, .i1⟩
  | 18 => ⟨S16x2048x16, .i1⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S1, .i32⟩
  | 28 => ⟨S_, .i32⟩
  | 29 => ⟨S2048x1, .i32⟩
  | 30 => ⟨S2048x1, .i1⟩
  | 31 => ⟨S1x1, .i32⟩
  | 32 => ⟨S2048x1, .i32⟩
  | 33 => ⟨S2048x1, .i1⟩
  | 34 => ⟨S2048x1, .i1⟩
  | 35 => ⟨S_, .i1⟩
  | 36 => ⟨S2048, .i1⟩
  | 37 => ⟨S16x2048x2048, .i1⟩
  | 38 => ⟨S16x2048x2048, .i1⟩
  | 39 => ⟨S_, .i1⟩
  | 40 => ⟨S16x2048x2048, .i1⟩
  | 41 => ⟨S16x2048x2048, .i1⟩
  | 42 => ⟨S2048x1, .i32⟩
  | 43 => ⟨S1x2048, .i32⟩
  | 44 => ⟨S2048x2048, .i32⟩
  | 45 => ⟨S2048x2048, .i32⟩
  | 46 => ⟨S2048x2048, .i1⟩
  | 47 => ⟨S16x2048x2048, .f32⟩
  | 48 => ⟨S_, .f32⟩
  | 49 => ⟨S16x2048x2048, .f32⟩
  | 50 => ⟨S16x2048x2048, .f32⟩
  | 51 => ⟨S1x2048x2048, .i1⟩
  | 52 => ⟨S16x2048x2048, .i1⟩
  | 53 => ⟨S16x2048x2048, .i1⟩
  | 54 => ⟨S_, .f32⟩
  | 55 => ⟨S_, .f32⟩
  | 56 => ⟨S16x2048x2048, .f32⟩
  | 57 => ⟨S16x2048x2048, .f32⟩
  | 58 => ⟨S_, .f32⟩
  | 59 => ⟨S16x2048, .f32⟩
  | 60 => ⟨S_, .f32⟩
  | 61 => ⟨S16x2048, .f32⟩
  | 62 => ⟨S16x2048, .f32⟩
  | 63 => ⟨S16x2048x1, .f32⟩
  | 64 => ⟨S16x2048x2048, .f32⟩
  | 65 => ⟨S16x2048x2048, .f32⟩
  | 66 => ⟨S16x2048x2048, .f32⟩
  | 67 => ⟨S_, .f32⟩
  | 68 => ⟨S16x2048, .f32⟩
  | 69 => ⟨S16x2048x1, .f32⟩
  | 70 => ⟨S16x2048x2048, .f32⟩
  | 71 => ⟨S16x2048x2048, .f32⟩
  | 72 => ⟨S16x128x2048, .f32⟩
  | 73 => ⟨S2048x16x128, .f32⟩
  | 74 => ⟨S2048x1, .i32⟩
  | 75 => ⟨S1x2048, .i32⟩
  | 76 => ⟨S2048x2048, .i32⟩
  | 77 => ⟨S2048x2048, .i32⟩
  | 78 => ⟨S2048x2048, .i32⟩
  | 79 => ⟨S_, .i32⟩
  | 80 => ⟨S2048x2048, .i32⟩
  | 81 => ⟨S2048x2048, .i1⟩
  | 82 => ⟨S2048x2048, .i1⟩
  | 83 => ⟨S1x2048x2048, .i1⟩
  | 84 => ⟨S_, .f32⟩
  | 85 => ⟨S_, .f32⟩
  | 86 => ⟨S16x2048x2048, .i1⟩
  | 87 => ⟨S16x2048x2048, .f32⟩
  | 88 => ⟨S16x2048x2048, .f32⟩
  | 89 => ⟨S_, .f32⟩
  | 90 => ⟨S16x2048, .f32⟩
  | 91 => ⟨S_, .f32⟩
  | 92 => ⟨S16x2048, .f32⟩
  | 93 => ⟨S16x2048, .f32⟩
  | 94 => ⟨S16x2048x1, .f32⟩
  | 95 => ⟨S16x2048x2048, .f32⟩
  | 96 => ⟨S16x2048x2048, .f32⟩
  | 97 => ⟨S16x2048x2048, .f32⟩
  | 98 => ⟨S_, .f32⟩
  | 99 => ⟨S16x2048, .f32⟩
  | 100 => ⟨S16x2048x1, .f32⟩
  | 101 => ⟨S16x2048x2048, .f32⟩
  | 102 => ⟨S16x2048x2048, .f32⟩
  | 103 => ⟨S16x128x2048, .f32⟩
  | 104 => ⟨S2048x16x128, .f32⟩
  | 105 => ⟨S2048x16x1, .f32⟩
  | 106 => ⟨S2048x16x128, .f32⟩
  | 107 => ⟨S2048x16x128, .f32⟩
  | 108 => ⟨S2048x16x1, .f32⟩
  | 109 => ⟨S2048x16x128, .f32⟩
  | 110 => ⟨S2048x16x128, .f32⟩
  | 111 => ⟨S2048x16x128, .f32⟩
  | 112 => ⟨S2048x16x1, .f32⟩
  | 113 => ⟨S2048x16x128, .f32⟩
  | 114 => ⟨S2048x16x128, .f32⟩
  | 115 => ⟨S2048x16x128, .f32⟩
  | 116 => ⟨S2048x2048, .f32⟩
  | 117 => ⟨S2048x2048, .f32⟩
  | 118 => ⟨S1x2048x2048, .f32⟩
  | _ => ⟨S1x2048x2048, .f32⟩

abbrev hbmTy (i : Nat) : BufTy := match i / 128 with
  | 0 => hbmTy0_0 i
  | 1 => hbmTy0_1 i
  | 2 => hbmTy0_2 i
  | 3 => hbmTy0_3 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_cst_11 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_cst_13 : Ref sig .tc := ⟨.hbm, 65, rfl⟩
abbrev main_v38 : Ref sig .tc := ⟨.hbm, 66, rfl⟩
abbrev main_v39 : Ref sig .tc := ⟨.hbm, 67, rfl⟩
abbrev main_cst_14 : Ref sig .tc := ⟨.hbm, 68, rfl⟩
abbrev main_v40 : Ref sig .tc := ⟨.hbm, 69, rfl⟩
abbrev main_v41 : Ref sig .tc := ⟨.hbm, 70, rfl⟩
abbrev main_cst_15 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_cst_20 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_cst_22 : Ref sig .tc := ⟨.hbm, 124, rfl⟩
abbrev main_v88 : Ref sig .tc := ⟨.hbm, 125, rfl⟩
abbrev main_v89 : Ref sig .tc := ⟨.hbm, 126, rfl⟩
abbrev main_cst_23 : Ref sig .tc := ⟨.hbm, 127, rfl⟩
abbrev main_v90 : Ref sig .tc := ⟨.hbm, 128, rfl⟩
abbrev main_v91 : Ref sig .tc := ⟨.hbm, 129, rfl⟩
abbrev main_cst_24 : Ref sig .tc := ⟨.hbm, 130, rfl⟩
abbrev main_v92 : Ref sig .tc := ⟨.hbm, 131, rfl⟩
abbrev main_v93 : Ref sig .tc := ⟨.hbm, 132, rfl⟩
abbrev main_cst_25 : Ref sig .tc := ⟨.hbm, 133, rfl⟩
abbrev main_v94 : Ref sig .tc := ⟨.hbm, 134, rfl⟩
abbrev main_v95 : Ref sig .tc := ⟨.hbm, 135, rfl⟩
abbrev main_cst_26 : Ref sig .tc := ⟨.hbm, 136, rfl⟩
abbrev main_cst_27 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v96 : Ref sig .tc := ⟨.hbm, 143, rfl⟩
abbrev main_cst_28 : Ref sig .tc := ⟨.hbm, 144, rfl⟩
abbrev main_v97 : Ref sig .tc := ⟨.hbm, 145, rfl⟩
abbrev main_v98 : Ref sig .tc := ⟨.hbm, 146, rfl⟩
abbrev main_cst_29 : Ref sig .tc := ⟨.hbm, 147, rfl⟩
abbrev main_v99 : Ref sig .tc := ⟨.hbm, 148, rfl⟩
abbrev main_v100 : Ref sig .tc := ⟨.hbm, 149, rfl⟩
abbrev main_cst_30 : Ref sig .tc := ⟨.hbm, 150, rfl⟩
abbrev main_v101 : Ref sig .tc := ⟨.hbm, 151, rfl⟩
abbrev main_v102 : Ref sig .tc := ⟨.hbm, 152, rfl⟩
abbrev main_cst_31 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_32 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_33 : Ref sig .tc := ⟨.hbm, 204, rfl⟩
abbrev main_v151 : Ref sig .tc := ⟨.hbm, 205, rfl⟩
abbrev main_v152 : Ref sig .tc := ⟨.hbm, 206, rfl⟩
abbrev main_c_34 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_c_35 : Ref sig .tc := ⟨.hbm, 213, rfl⟩
abbrev main_v158 : Ref sig .tc := ⟨.hbm, 214, rfl⟩
abbrev main_v159 : Ref sig .tc := ⟨.hbm, 215, rfl⟩
abbrev main_c_36 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_37 : Ref sig .tc := ⟨.hbm, 222, rfl⟩
abbrev main_v165 : Ref sig .tc := ⟨.hbm, 223, rfl⟩
abbrev main_cst_38 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_39 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_40 : Ref sig .tc := ⟨.hbm, 235, rfl⟩
abbrev main_v175 : Ref sig .tc := ⟨.hbm, 236, rfl⟩
abbrev main_cst_41 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_cst_42 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_43 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_44 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_45 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_c_46 : Ref sig .tc := ⟨.hbm, 267, rfl⟩
abbrev main_v201 : Ref sig .tc := ⟨.hbm, 268, rfl⟩
abbrev main_v202 : Ref sig .tc := ⟨.hbm, 269, rfl⟩
abbrev main_c_47 : Ref sig .tc := ⟨.hbm, 270, rfl⟩
abbrev main_v203 : Ref sig .tc := ⟨.hbm, 271, rfl⟩
abbrev main_v204 : Ref sig .tc := ⟨.hbm, 272, rfl⟩
abbrev main_c_48 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_cst_49 : Ref sig .tc := ⟨.hbm, 282, rfl⟩
abbrev main_call6_v0 : Ref sig .tc := ⟨.hbm, 283, rfl⟩
abbrev main_call6_v1 : Ref sig .tc := ⟨.hbm, 284, rfl⟩
abbrev main_call6_v2 : Ref sig .tc := ⟨.hbm, 285, rfl⟩
abbrev main_v213 : Ref sig .tc := ⟨.hbm, 286, rfl⟩
abbrev main_cst_50 : Ref sig .tc := ⟨.hbm, 287, rfl⟩
abbrev main_v214 : Ref sig .tc := ⟨.hbm, 288, rfl⟩
abbrev main_cst_51 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_cst_52 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_c_53 : Ref sig .tc := ⟨.hbm, 301, rfl⟩
abbrev main_v225 : Ref sig .tc := ⟨.hbm, 302, rfl⟩
abbrev main_v226 : Ref sig .tc := ⟨.hbm, 303, rfl⟩
abbrev main_cst_54 : Ref sig .tc := ⟨.hbm, 304, rfl⟩
abbrev main_call7_v0 : Ref sig .tc := ⟨.hbm, 305, rfl⟩
abbrev main_call7_v1 : Ref sig .tc := ⟨.hbm, 306, rfl⟩
abbrev main_call7_v2 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_c_55 : Ref sig .tc := ⟨.hbm, 312, rfl⟩
abbrev main_v231 : Ref sig .tc := ⟨.hbm, 313, rfl⟩
abbrev main_v232 : Ref sig .tc := ⟨.hbm, 314, rfl⟩
abbrev main_c_56 : Ref sig .tc := ⟨.hbm, 315, rfl⟩
abbrev main_call8_v0 : Ref sig .tc := ⟨.hbm, 316, rfl⟩
abbrev main_call8_v1 : Ref sig .tc := ⟨.hbm, 317, rfl⟩
abbrev main_call8_v2 : Ref sig .tc := ⟨.hbm, 318, rfl⟩
abbrev main_call8_v3 : Ref sig .tc := ⟨.hbm, 319, rfl⟩
abbrev main_call8_v4 : Ref sig .tc := ⟨.hbm, 320, rfl⟩
abbrev main_call8_v5 : Ref sig .tc := ⟨.hbm, 321, rfl⟩
abbrev main_call8_v6 : Ref sig .tc := ⟨.hbm, 322, rfl⟩
abbrev main_call8_v7 : Ref sig .tc := ⟨.hbm, 323, rfl⟩
abbrev main_call8_v8 : Ref sig .tc := ⟨.hbm, 324, rfl⟩
abbrev main_call8_c : Ref sig .tc := ⟨.hbm, 325, rfl⟩
abbrev main_call8_v9 : Ref sig .tc := ⟨.hbm, 326, rfl⟩
abbrev main_call8_v10 : Ref sig .tc := ⟨.hbm, 327, rfl⟩
abbrev main_call8_v11 : Ref sig .tc := ⟨.hbm, 328, rfl⟩
abbrev main_call8_c_0 : Ref sig .tc := ⟨.hbm, 329, rfl⟩
abbrev main_call8_v12 : Ref sig .tc := ⟨.hbm, 330, rfl⟩
abbrev main_call8_v13 : Ref sig .tc := ⟨.hbm, 331, rfl⟩
abbrev main_v233 : Ref sig .tc := ⟨.hbm, 332, rfl⟩
abbrev main_call9_v0 : Ref sig .tc := ⟨.hbm, 333, rfl⟩
abbrev main_call9_v1 : Ref sig .tc := ⟨.hbm, 334, rfl⟩
abbrev main_call9_v2 : Ref sig .tc := ⟨.hbm, 335, rfl⟩
abbrev main_call9_v3 : Ref sig .tc := ⟨.hbm, 336, rfl⟩
abbrev main_call9_v4 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_cst_57 : Ref sig .tc := ⟨.hbm, 341, rfl⟩
abbrev main_v237 : Ref sig .tc := ⟨.hbm, 342, rfl⟩
abbrev main_c_58 : Ref sig .tc := ⟨.hbm, 343, rfl⟩
abbrev main_call10_v0 : Ref sig .tc := ⟨.hbm, 344, rfl⟩
abbrev main_call10_v1 : Ref sig .tc := ⟨.hbm, 345, rfl⟩
abbrev main_call10_v2 : Ref sig .tc := ⟨.hbm, 346, rfl⟩
abbrev main_call10_v3 : Ref sig .tc := ⟨.hbm, 347, rfl⟩
abbrev main_call10_v4 : Ref sig .tc := ⟨.hbm, 348, rfl⟩
abbrev main_call10_v5 : Ref sig .tc := ⟨.hbm, 349, rfl⟩
abbrev main_call10_v6 : Ref sig .tc := ⟨.hbm, 350, rfl⟩
abbrev main_call10_v7 : Ref sig .tc := ⟨.hbm, 351, rfl⟩
abbrev main_call10_v8 : Ref sig .tc := ⟨.hbm, 352, rfl⟩
abbrev main_call10_c : Ref sig .tc := ⟨.hbm, 353, rfl⟩
abbrev main_call10_v9 : Ref sig .tc := ⟨.hbm, 354, rfl⟩
abbrev main_call10_v10 : Ref sig .tc := ⟨.hbm, 355, rfl⟩
abbrev main_call10_v11 : Ref sig .tc := ⟨.hbm, 356, rfl⟩
abbrev main_call10_c_0 : Ref sig .tc := ⟨.hbm, 357, rfl⟩
abbrev main_call10_v12 : Ref sig .tc := ⟨.hbm, 358, rfl⟩
abbrev main_call10_v13 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_c_59 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_c_60 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_v253 : Ref sig .tc := ⟨.hbm, 377, rfl⟩
abbrev main_v254 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_cst_61 : Ref sig .tc := ⟨.hbm, 383, rfl⟩
abbrev main_call11_v0 : Ref sig .tc := ⟨.hbm, 384, rfl⟩
abbrev main_call11_v1 : Ref sig .tc := ⟨.hbm, 385, rfl⟩
abbrev main_call11_v2 : Ref sig .tc := ⟨.hbm, 386, rfl⟩
abbrev main_v259 : Ref sig .tc := ⟨.hbm, 387, rfl⟩
abbrev main_values : Ref sig .tc := ⟨.hbm, 388, rfl⟩
abbrev main_indices : Ref sig .tc := ⟨.hbm, 389, rfl⟩
abbrev main_call12_v0 : Ref sig .tc := ⟨.hbm, 390, rfl⟩
abbrev main_call12_v1 : Ref sig .tc := ⟨.hbm, 391, rfl⟩
abbrev main_call12_v2 : Ref sig .tc := ⟨.hbm, 392, rfl⟩
abbrev main_call12_v3 : Ref sig .tc := ⟨.hbm, 393, rfl⟩
abbrev main_call12_v4 : Ref sig .tc := ⟨.hbm, 394, rfl⟩
abbrev main_v260 : Ref sig .tc := ⟨.hbm, 395, rfl⟩
abbrev main_cst_62 : Ref sig .tc := ⟨.hbm, 396, rfl⟩
abbrev main_v261 : Ref sig .tc := ⟨.hbm, 397, rfl⟩
abbrev main_cst_63 : Ref sig .tc := ⟨.hbm, 398, rfl⟩
abbrev main_v262 : Ref sig .tc := ⟨.hbm, 399, rfl⟩
abbrev main_v263 : Ref sig .tc := ⟨.hbm, 400, rfl⟩
abbrev main_v264 : Ref sig .tc := ⟨.hbm, 401, rfl⟩
abbrev main_v265 : Ref sig .tc := ⟨.hbm, 402, rfl⟩
abbrev main_call13_c : Ref sig .tc := ⟨.hbm, 403, rfl⟩
abbrev main_call13_v0 : Ref sig .tc := ⟨.hbm, 404, rfl⟩
abbrev main_call13_v1 : Ref sig .tc := ⟨.hbm, 405, rfl⟩
abbrev main_call13_c_0 : Ref sig .tc := ⟨.hbm, 406, rfl⟩
abbrev main_call13_v2 : Ref sig .tc := ⟨.hbm, 407, rfl⟩
abbrev main_call13_v3 : Ref sig .tc := ⟨.hbm, 408, rfl⟩
abbrev main_call13_v4 : Ref sig .tc := ⟨.hbm, 409, rfl⟩
abbrev main_call13_v5 : Ref sig .tc := ⟨.hbm, 410, rfl⟩
abbrev main_call13_c_1 : Ref sig .tc := ⟨.hbm, 411, rfl⟩
abbrev main_call13_c_2 : Ref sig .tc := ⟨.hbm, 412, rfl⟩
abbrev main_call13_v6 : Ref sig .tc := ⟨.hbm, 413, rfl⟩
abbrev main_call13_v7 : Ref sig .tc := ⟨.hbm, 414, rfl⟩
abbrev main_call13_v8 : Ref sig .tc := ⟨.hbm, 415, rfl⟩
abbrev main_call13_v9 : Ref sig .tc := ⟨.hbm, 416, rfl⟩
abbrev main_call13_v10 : Ref sig .tc := ⟨.hbm, 417, rfl⟩
abbrev main_call13_v11 : Ref sig .tc := ⟨.hbm, 418, rfl⟩
abbrev main_call13_c_3 : Ref sig .tc := ⟨.hbm, 419, rfl⟩
abbrev main_call13_v12 : Ref sig .tc := ⟨.hbm, 420, rfl⟩
abbrev main_call13_v13 : Ref sig .tc := ⟨.hbm, 421, rfl⟩
abbrev main_call13_v14 : Ref sig .tc := ⟨.hbm, 422, rfl⟩
abbrev main_call13_c_4 : Ref sig .tc := ⟨.hbm, 423, rfl⟩
abbrev main_call13_v15 : Ref sig .tc := ⟨.hbm, 424, rfl⟩
abbrev main_v266 : Ref sig .tc := ⟨.hbm, 425, rfl⟩
abbrev main_v267 : Ref sig .tc := ⟨.hbm, 426, rfl⟩
abbrev main_v268 : Ref sig .tc := ⟨.hbm, 427, rfl⟩
abbrev main_v269 : Ref sig .tc := ⟨.hbm, 428, rfl⟩
abbrev main_v270 : Ref sig .tc := ⟨.hbm, 429, rfl⟩
abbrev main_v271 : Ref sig .tc := ⟨.hbm, 430, rfl⟩
abbrev main_v272 : Ref sig .tc := ⟨.hbm, 431, rfl⟩
abbrev main_cst_64 : Ref sig .tc := ⟨.hbm, 432, rfl⟩
abbrev main_v273 : Ref sig .tc := ⟨.hbm, 433, rfl⟩
abbrev main_v274 : Ref sig .tc := ⟨.hbm, 434, rfl⟩
abbrev main_v275 : Ref sig .tc := ⟨.hbm, 435, rfl⟩
abbrev main_v276 : Ref sig .tc := ⟨.hbm, 436, rfl⟩
abbrev main_v277 : Ref sig .tc := ⟨.hbm, 437, rfl⟩
abbrev main_cst_65 : Ref sig .tc := ⟨.hbm, 438, rfl⟩
abbrev main_call14_v0 : Ref sig .tc := ⟨.hbm, 439, rfl⟩
abbrev main_call14_v1 : Ref sig .tc := ⟨.hbm, 440, rfl⟩
abbrev main_v278 : Ref sig .tc := ⟨.hbm, 441, rfl⟩
abbrev main_cst_66 : Ref sig .tc := ⟨.hbm, 442, rfl⟩
abbrev main_v279 : Ref sig .tc := ⟨.hbm, 443, rfl⟩
abbrev main_cst_67 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_cst_68 : Ref sig .tc := ⟨.hbm, 451, rfl⟩
abbrev main_v286 : Ref sig .tc := ⟨.hbm, 452, rfl⟩
abbrev main_v287 : Ref sig .tc := ⟨.hbm, 453, rfl⟩
abbrev main_v288 : Ref sig .tc := ⟨.hbm, 454, rfl⟩
abbrev main_v289 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_v295 : Ref sig .tc := ⟨.hbm, 461, rfl⟩
abbrev main_v296 : Ref sig .tc := ⟨.hbm, 462, rfl⟩
abbrev main_c_69 : Ref sig .tc := ⟨.hbm, 463, rfl⟩
abbrev main_v297 : Ref sig .tc := ⟨.hbm, 464, rfl⟩
abbrev main_v298 : Ref sig .tc := ⟨.hbm, 465, rfl⟩
abbrev main_v299 : Ref sig .tc := ⟨.hbm, 466, rfl⟩
abbrev main_v300 : Ref sig .tc := ⟨.hbm, 467, rfl⟩
abbrev main_cst_70 : Ref sig .tc := ⟨.hbm, 468, rfl⟩
abbrev main_call15_v0 : Ref sig .tc := ⟨.hbm, 469, rfl⟩
abbrev main_call15_v1 : Ref sig .tc := ⟨.hbm, 470, rfl⟩
abbrev main_call15_v2 : Ref sig .tc := ⟨.hbm, 471, rfl⟩
abbrev main_v301 : Ref sig .tc := ⟨.hbm, 472, rfl⟩
abbrev main_cst_71 : Ref sig .tc := ⟨.hbm, 473, rfl⟩
abbrev main_v302 : Ref sig .tc := ⟨.hbm, 474, rfl⟩
abbrev main_cst_72 : Ref sig .tc := ⟨.hbm, 475, rfl⟩
abbrev main_v303 : Ref sig .tc := ⟨.hbm, 476, rfl⟩
abbrev main_v304 : Ref sig .tc := ⟨.hbm, 477, rfl⟩
abbrev main_v305 : Ref sig .tc := ⟨.hbm, 478, rfl⟩
abbrev main_v306 : Ref sig .tc := ⟨.hbm, 479, rfl⟩
abbrev main_v307 : Ref sig .tc := ⟨.hbm, 480, rfl⟩
abbrev main_v308 : Ref sig .tc := ⟨.hbm, 481, rfl⟩
abbrev main_cst_73 : Ref sig .tc := ⟨.hbm, 482, rfl⟩
abbrev main_v309 : Ref sig .tc := ⟨.hbm, 483, rfl⟩
abbrev main_v310 : Ref sig .tc := ⟨.hbm, 484, rfl⟩
abbrev main_v311 : Ref sig .tc := ⟨.hbm, 485, rfl⟩
abbrev main_v312 : Ref sig .tc := ⟨.hbm, 486, rfl⟩
abbrev main_v313 : Ref sig .tc := ⟨.hbm, 487, rfl⟩
abbrev main_v314 : Ref sig .tc := ⟨.hbm, 488, rfl⟩
abbrev main_v315 : Ref sig .tc := ⟨.hbm, 489, rfl⟩
abbrev main_v316 : Ref sig .tc := ⟨.hbm, 490, rfl⟩
abbrev main_v317 : Ref sig .tc := ⟨.hbm, 491, rfl⟩
abbrev main_v318 : Ref sig .tc := ⟨.hbm, 492, rfl⟩
abbrev main_v319 : Ref sig .tc := ⟨.hbm, 493, rfl⟩
abbrev main_v320 : Ref sig .tc := ⟨.hbm, 494, rfl⟩
abbrev main_v321 : Ref sig .tc := ⟨.hbm, 495, rfl⟩
abbrev main_v322 : Ref sig .tc := ⟨.hbm, 496, rfl⟩
abbrev main_v323 : Ref sig .tc := ⟨.hbm, 497, rfl⟩
abbrev main_v324 : Ref sig .tc := ⟨.hbm, 498, rfl⟩
abbrev main_v325 : Ref sig .tc := ⟨.hbm, 499, rfl⟩
abbrev main_v326 : Ref sig .tc := ⟨.hbm, 500, rfl⟩
abbrev main_v327 : Ref sig .tc := ⟨.hbm, 501, rfl⟩
abbrev main_v328 : Ref sig .tc := ⟨.hbm, 502, rfl⟩

abbrev nD : Nat := 1
abbrev τ : Topo := Topo.v7x

variable {F : FTy → Type} [FloatOps F]
-- ==== Proof.KernelIdeal.PrepBase.lean ====
/-
  The first custom call (`_prep`: projections, rotary embedding, gates and pooled keys and values), stated before its run:
  the two conditions of its body over the grid's points, the windows' blocks, the staging and scratch memrefs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp
public import Idealize.ShloMosaic.Lib.WritesUnit
public import Idealize.ShloMosaic.Lib.ValueIdx
public import Idealize.ShloMosaic.Lib.Exec
public import Idealize.ShloMosaic.Lib.Pipeline.Kit

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-- The body's first condition: the point is the first. -/
abbrev first (i : grid0.Coords) : Prop := (Scalar.cmpi .ne (Scalar.extui (Scalar.cmpi .eq (BitVec.ofNat 32 (i 0).val) 0#32)) 0#32) = 1#1
/-- The body's second condition: the point is the last. -/
abbrev last (i : grid0.Coords) : Prop := k0_cond2 i = 1#1

theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

theorem first_iff (t : Fin cfg0.N) : first (grid0.coords t) ↔ t.val = 0 := by
  have ht : t.val < 8 := Nat.lt_of_lt_of_eq t.isLt N_0
  simp only [first, coord_val]
  word_cmp

theorem last_iff (t : Fin cfg0.N) : last (grid0.coords t) ↔ t.val = 7 := by
  have ht : t.val < 8 := Nat.lt_of_lt_of_eq t.isLt N_0
  simp only [last, k0_cond2, coord_val]
  word_cmp

/-- The row offset of the key and value stores. -/
theorem off_eq (i : grid0.Coords) :
    k0_off1 i = ![0, 256 * (i 0).val, 0] ∧ k0_off2 i = ![1, 256 * (i 0).val, 0]
      ∧ k0_off3 i = ![2, 256 * (i 0).val, 0] ∧ k0_off4 i = ![3, 256 * (i 0).val, 0] := by
  have hi : (i 0).val < 8 := (i 0).isLt
  have e : (Scalar.indexCast (Scalar.muli (BitVec.ofNat 32 (i 0).val) 256#32) : BitVec 32).toNat = 256 * (i 0).val := by
    generalize (i 0).val = n at hi
    interval_cases n <;> decide
  refine ⟨?_, ?_, ?_, ?_⟩ <;> funext a <;> fin_cases a <;> first | rfl | exact e

/-- The body as its skeleton, part by part: stated once so that the three runs below share it. -/
theorem body_as_skeleton (i : grid0.Coords) (arg1 : Memref sig .tc .vmem S256x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x128 .bf16) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S16x256x128 .bf16) (harg11 : arg11.IsWhole) (arg12 : Memref sig .tc .vmem S4x2048x128 .bf16) (harg12 : arg12.IsWhole) (arg13 : Memref sig .tc .vmem S4x2048x128 .bf16) (harg13 : arg13.IsWhole) (arg14 : Memref sig .tc .vmem S256x128 .f32) (harg14 : arg14.IsWhole) (arg15 : Memref sig .tc .vmem S4x128x128 .bf16) (harg15 : arg15.IsWhole) (arg16 : Memref sig .tc .vmem S4x128x128 .bf16) (harg16 : arg16.IsWhole) (arg17 : Memref sig .tc .vmem S2048x2048 .bf16) (harg17 : arg17.IsWhole) (arg18 : Memref sig .tc .vmem S2048x512 .bf16) (harg18 : arg18.IsWhole) (arg19 : Memref sig .tc .vmem S2048x512 .bf16) (harg19 : arg19.IsWhole) (arg20 : Memref sig .tc .vmem S2048x128 .bf16) (harg20 : arg20.IsWhole) (Q : Prog (TpuEff nD τ sig (Elt F) Λ₀ .tc) PUnit → Prop) (h : ∀ p, Q p) :
    Q (cc0__prep_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  simp only [cc0__prep_body_eq_skeleton]; unfold cc0__prep_body_skel
  simp only [k0_part3_eq_skeleton, k0_part4_eq_skeleton, k0_part5_eq_skeleton, k0_part6_eq_skeleton, k0_part7_eq_skeleton, k0_part8_eq_skeleton, k0_part9_eq_skeleton, k0_part1_eq_skeleton, k0_part2_eq_skeleton]
  exact h _

/-! ## Contents written piece by piece -/

/-- The choice of one of four. -/
abbrev pick4 {α : Type} (a b c d : α) : Fin 4 → α := ![a, b, c, d]

/-- Sixteen slabs stacked. -/
def stack16 (p : Fin 16 → Vec F S1x256x128 .bf16) : Vec F S16x256x128 .bf16 :=
  fun idx => p (idx 0) (ix3 0 (idx 1) (idx 2))

/-- Four square slabs stacked. -/
def stack4 (p : Fin 4 → Vec F S1x128x128 .bf16) : Vec F S4x128x128 .bf16 :=
  fun idx => p (idx 0) (ix3 0 (idx 1) (idx 2))

/-- The contents `Y` with rows `256 n` to `256 n + 255` of each of the four slabs replaced. -/
def put4 (n : ℕ) (p : Fin 4 → Vec F S1x256x128 .bf16) (Y : Vec F S4x2048x128 .bf16) : Vec F S4x2048x128 .bf16 :=
  fun idx => if h : 256 * n ≤ (idx 1).val ∧ (idx 1).val < 256 * n + 256 then
    p (idx 0) (ix3 0 (⟨(idx 1).val - 256 * n, by omega⟩ : Fin 256) (idx 2)) else Y idx

/-- One slab of four. -/
def slab (Y : Vec F S4x2048x128 .bf16) (n : Fin 4) : Vec F S1x2048x128 .bf16 :=
  fun j => Y (ix3 n (j 1) (j 2))

/-! ## Reading back -/

section ReadBack

variable {sp : Space} {s : Shape} {e : EltTy}

/-- A load of all of a whole memref held at `X` reads `X`. -/
theorem whole_ld (m : Memref sig .tc sp s e) (h : m.IsWhole) (X : s.Idx → Elt F e) {off : Fin s.rank → ℕ}
    (inb : ∀ a, off a + s.size a ≤ s.size a) :
    m.view.readAt (Elt F) (Rect.unit (s := s) off s.size inb).toLoadRect (h.unread X) = X := by
  funext x
  refine (congrFun (h.read_unread X) _).trans (congrArg X (funext fun a => Fin.ext ?_))
  have := inb a
  show off a + 1 * (x a).val = (x a).val
  omega

/-- A covered load of all of what one store over all left reads the store's payload. -/
theorem whole_cov (v : View sig .tc sp s e) {off : Fin s.rank → ℕ} (inb : ∀ a, off a + s.size a ≤ s.size a) (P : s.Idx → Elt F e)
    {off' : Fin s.rank → ℕ} (inb' : ∀ a, off' a + s.size a ≤ s.size a) :
    v.readCov [(⟨Rect.unit (s := s) off s.size inb, P⟩ : View.Piece (Elt F) s e)] (Rect.unit (s := s) off' s.size inb').toLoadRect = P := by
  rw [View.readCov_eq_canon']
  funext x
  have hx : (Rect.unit (s := s) off' s.size inb').toLoadRect.idx x = (Rect.unit (s := s) off s.size inb).emb x := funext fun a => Fin.ext (by
    have h1 := inb a
    have h2 := inb' a
    show off' a + 1 * (x a).val = off a + 1 * (x a).val
    omega)
  show View.canon _ ((Rect.unit (s := s) off' s.size inb').toLoadRect.idx x) = P x
  rw [hx]
  exact View.canon_cons_emb (Rect.unit (s := s) off s.size inb) P [] x

/-- `whole_ld` at rank two, its sizes a list. -/
theorem whole_ld2 {d : Fin 2 → ℕ} (m : Memref sig .tc sp ⟨2, d⟩ e) (h : m.IsWhole) (X : (⟨2, d⟩ : Shape).Idx → Elt F e) (off : Fin 2 → ℕ)
    (inb : ∀ a, off a + d a ≤ d a) :
    m.view.readAt (Elt F) (Rect.unit (s := (⟨2, d⟩ : Shape)) off d inb).toLoadRect (h.unread X) = X :=
  whole_ld m h X inb

/-- `whole_cov` at rank two, its sizes a list. -/
theorem whole_cov2 {d : Fin 2 → ℕ} (v : View sig .tc sp ⟨2, d⟩ e) (off off' : Fin 2 → ℕ) (inb : ∀ a, off a + d a ≤ d a) (inb' : ∀ a, off' a + d a ≤ d a)
    (P : (⟨2, d⟩ : Shape).Idx → Elt F e) :
    v.readCov [(⟨Rect.unit (s := (⟨2, d⟩ : Shape)) off d inb, P⟩ : View.Piece (Elt F) ⟨2, d⟩ e)] (Rect.unit (s := (⟨2, d⟩ : Shape)) off' d inb').toLoadRect = P :=
  whole_cov v inb P inb'

/-- What one store over all leaves. -/
theorem whole_st (v : View sig .tc sp s e) (f : v.ty.Contents (Elt F)) {off : Fin s.rank → ℕ} (inb : ∀ a, off a + s.size a ≤ s.size a)
    (P : s.Idx → Elt F e) :
    v.read (Elt F) (v.writes (Elt F) f [(⟨Rect.unit (s := s) off s.size inb, P⟩ : View.Piece (Elt F) s e)]) = P := by
  funext y
  exact View.read_writes_cons_unit_of_mem v f inb P [] y y rfl fun a => by have := inb a; omega

/-- A load of one slab of four. -/
theorem slab_ld (v : View sig .tc sp S4x2048x128 .bf16) (f : v.ty.Contents (Elt F)) (n : Fin 4)
    (inb : ∀ a, (![n.val, 0, 0] : Fin 3 → ℕ) a + S1x2048x128.size a ≤ S4x2048x128.size a) :
    v.readAt (Elt F) (Rect.unit (s := S4x2048x128) ![n.val, 0, 0] S1x2048x128.size inb).toLoadRect f = slab (v.read (Elt F) f) n := by
  funext x
  refine congrArg (v.read (Elt F) f) (funext fun a => Fin.ext ?_)
  have hx : (x 0).val < 1 := (x 0).isLt
  fin_cases a
  · show n.val + 1 * (x 0).val = n.val; omega
  · show 0 + 1 * (x 1).val = (x 1).val; omega
  · show 0 + 1 * (x 2).val = (x 2).val; omega

theorem slab_ld0 (v : View sig .tc sp S4x2048x128 .bf16) (f : v.ty.Contents (Elt F))
    (inb : ∀ a, (![0, 0, 0] : Fin 3 → ℕ) a + (![1, 2048, 128] : Fin 3 → ℕ) a ≤ S4x2048x128.size a) :
    v.readAt (Elt F) (Rect.unit (s := S4x2048x128) ![0, 0, 0] ![1, 2048, 128] inb).toLoadRect f = slab (v.read (Elt F) f) 0 :=
  slab_ld v f 0 inb

theorem slab_ld1 (v : View sig .tc sp S4x2048x128 .bf16) (f : v.ty.Contents (Elt F))
    (inb : ∀ a, (![1, 0, 0] : Fin 3 → ℕ) a + (![1, 2048, 128] : Fin 3 → ℕ) a ≤ S4x2048x128.size a) :
    v.readAt (Elt F) (Rect.unit (s := S4x2048x128) ![1, 0, 0] ![1, 2048, 128] inb).toLoadRect f = slab (v.read (Elt F) f) 1 :=
  slab_ld v f 1 inb

theorem slab_ld2 (v : View sig .tc sp S4x2048x128 .bf16) (f : v.ty.Contents (Elt F))
    (inb : ∀ a, (![2, 0, 0] : Fin 3 → ℕ) a + (![1, 2048, 128] : Fin 3 → ℕ) a ≤ S4x2048x128.size a) :
    v.readAt (Elt F) (Rect.unit (s := S4x2048x128) ![2, 0, 0] ![1, 2048, 128] inb).toLoadRect f = slab (v.read (Elt F) f) 2 :=
  slab_ld v f 2 inb

theorem slab_ld3 (v : View sig .tc sp S4x2048x128 .bf16) (f : v.ty.Contents (Elt F))
    (inb : ∀ a, (![3, 0, 0] : Fin 3 → ℕ) a + (![1, 2048, 128] : Fin 3 → ℕ) a ≤ S4x2048x128.size a) :
    v.readAt (Elt F) (Rect.unit (s := S4x2048x128) ![3, 0, 0] ![1, 2048, 128] inb).toLoadRect f = slab (v.read (Elt F) f) 3 :=
  slab_ld v f 3 inb

/-- Four stores of rows `256 n` on of the four slabs. -/
theorem read_put4 (v : View sig .tc sp S4x2048x128 .bf16) (f : v.ty.Contents (Elt F)) (i : grid0.Coords)
    (p0 p1 p2 p3 : Vec F S1x256x128 .bf16) :
    v.read (Elt F) (v.writes (Elt F) f [(⟨Rect.unit (s := S4x2048x128) (k0_off4 i) S1x256x128.size (k0_off4_inb i), p3⟩ : View.Piece (Elt F) S4x2048x128 .bf16),
        ⟨Rect.unit (s := S4x2048x128) (k0_off3 i) S1x256x128.size (k0_off3_inb i), p2⟩,
        ⟨Rect.unit (s := S4x2048x128) (k0_off2 i) S1x256x128.size (k0_off2_inb i), p1⟩,
        ⟨Rect.unit (s := S4x2048x128) (k0_off1 i) S1x256x128.size (k0_off1_inb i), p0⟩])
      = put4 (i 0).val (pick4 p0 p1 p2 p3) (v.read (Elt F) f) := by
  obtain ⟨e1, e2, e3, e4⟩ := off_eq i
  funext y
  by_cases h : 256 * (i 0).val ≤ (y 1).val ∧ (y 1).val < 256 * (i 0).val + 256
  · have hx : ∀ k : Fin 4, (y 0).val = k.val → ∀ a : Fin 3, (y a).val = (![k.val, 256 * (i 0).val, 0] : Fin 3 → ℕ) a
        + ((ix3 (0 : Fin 1) (⟨(y 1).val - 256 * (i 0).val, by omega⟩ : Fin 256) (y 2)) a).val := fun k hk a => by
      fin_cases a
      · show (y 0).val = k.val + 0; omega
      · show (y 1).val = 256 * (i 0).val + ((y 1).val - 256 * (i 0).val); omega
      · show (y 2).val = 0 + (y 2).val; omega
    have hR : put4 (i 0).val (pick4 p0 p1 p2 p3) (v.read (Elt F) f) y
        = pick4 p0 p1 p2 p3 (y 0) (ix3 (0 : Fin 1) (⟨(y 1).val - 256 * (i 0).val, by omega⟩ : Fin 256) (y 2)) := by
      unfold put4; rw [dif_pos h]
    rw [hR]
    have h0 : ∀ k : ℕ, (y 0).val ≠ k → (y (0 : Fin 3)).val < (![k, 256 * (i 0).val, 0] : Fin 3 → ℕ) 0
        ∨ (![k, 256 * (i 0).val, 0] : Fin 3 → ℕ) 0 + S1x256x128.size (0 : Fin 3) ≤ (y (0 : Fin 3)).val := fun k hk => by
      show (y 0).val < k ∨ k + 1 ≤ (y 0).val
      omega
    obtain hv | hv | hv | hv : (y 0).val = 0 ∨ (y 0).val = 1 ∨ (y 0).val = 2 ∨ (y 0).val = 3 := by
      have : (y 0).val < 4 := (y 0).isLt
      omega
    · rw [show (y 0 : Fin 4) = (0 : Fin 4) from Fin.ext hv]
      refine (View.read_writes_cons_unit_of_not_mem v f _ p3 _ y e4 (0 : Fin 3) (h0 3 (by omega))).trans ?_
      refine (View.read_writes_cons_unit_of_not_mem v f _ p2 _ y e3 (0 : Fin 3) (h0 2 (by omega))).trans ?_
      refine (View.read_writes_cons_unit_of_not_mem v f _ p1 _ y e2 (0 : Fin 3) (h0 1 (by omega))).trans ?_
      exact View.read_writes_cons_unit_of_mem v f _ p0 _ y _ e1 (hx 0 hv)
    · rw [show (y 0 : Fin 4) = (1 : Fin 4) from Fin.ext hv]
      refine (View.read_writes_cons_unit_of_not_mem v f _ p3 _ y e4 (0 : Fin 3) (h0 3 (by omega))).trans ?_
      refine (View.read_writes_cons_unit_of_not_mem v f _ p2 _ y e3 (0 : Fin 3) (h0 2 (by omega))).trans ?_
      exact View.read_writes_cons_unit_of_mem v f _ p1 _ y _ e2 (hx 1 hv)
    · rw [show (y 0 : Fin 4) = (2 : Fin 4) from Fin.ext hv]
      refine (View.read_writes_cons_unit_of_not_mem v f _ p3 _ y e4 (0 : Fin 3) (h0 3 (by omega))).trans ?_
      exact View.read_writes_cons_unit_of_mem v f _ p2 _ y _ e3 (hx 2 hv)
    · rw [show (y 0 : Fin 4) = (3 : Fin 4) from Fin.ext hv]
      exact View.read_writes_cons_unit_of_mem v f _ p3 _ y _ e4 (hx 3 hv)
  · have ha : ∀ k : ℕ, (y (1 : Fin 3)).val < (![k, 256 * (i 0).val, 0] : Fin 3 → ℕ) 1
        ∨ (![k, 256 * (i 0).val, 0] : Fin 3 → ℕ) 1 + S1x256x128.size (1 : Fin 3) ≤ (y (1 : Fin 3)).val := fun k => by
      show (y 1).val < 256 * (i 0).val ∨ 256 * (i 0).val + 256 ≤ (y 1).val
      omega
    refine (View.read_writes_cons_unit_of_not_mem v f _ p3 _ y e4 (1 : Fin 3) (ha 3)).trans ?_
    refine (View.read_writes_cons_unit_of_not_mem v f _ p2 _ y e3 (1 : Fin 3) (ha 2)).trans ?_
    refine (View.read_writes_cons_unit_of_not_mem v f _ p1 _ y e2 (1 : Fin 3) (ha 1)).trans ?_
    refine (View.read_writes_cons_unit_of_not_mem v f _ p0 _ y e1 (1 : Fin 3) (ha 0)).trans ?_
    unfold put4; rw [dif_neg h]; rfl

/-- `read_put4`, the sizes a list. -/
theorem read_put4' (v : View sig .tc sp S4x2048x128 .bf16) (f : v.ty.Contents (Elt F)) (i : grid0.Coords)
    (p0 p1 p2 p3 : Vec F S1x256x128 .bf16) :
    v.read (Elt F) (v.writes (Elt F) f [(⟨Rect.unit (s := S4x2048x128) (k0_off4 i) ![1, 256, 128] (k0_off4_inb i), p3⟩ : View.Piece (Elt F) S4x2048x128 .bf16),
        ⟨Rect.unit (s := S4x2048x128) (k0_off3 i) ![1, 256, 128] (k0_off3_inb i), p2⟩,
        ⟨Rect.unit (s := S4x2048x128) (k0_off2 i) ![1, 256, 128] (k0_off2_inb i), p1⟩,
        ⟨Rect.unit (s := S4x2048x128) (k0_off1 i) ![1, 256, 128] (k0_off1_inb i), p0⟩])
      = put4 (i 0).val (pick4 p0 p1 p2 p3) (v.read (Elt F) f) := read_put4 v f i p0 p1 p2 p3

/-- Four stores of whole square slabs. -/
theorem read_stack4 (v : View sig .tc sp S4x128x128 .bf16) (f : v.ty.Contents (Elt F)) (p0 p1 p2 p3 : Vec F S1x128x128 .bf16) :
    v.read (Elt F) (v.writes (Elt F) f [(⟨Rect.unit (s := S4x128x128) ![3, 0, 0] S1x128x128.size inb_S4x128x128_S1x128x128_3_0_0, p3⟩ : View.Piece (Elt F) S4x128x128 .bf16),
        ⟨Rect.unit (s := S4x128x128) ![2, 0, 0] S1x128x128.size inb_S4x128x128_S1x128x128_2_0_0, p2⟩,
        ⟨Rect.unit (s := S4x128x128) ![1, 0, 0] S1x128x128.size inb_S4x128x128_S1x128x128_1_0_0, p1⟩,
        ⟨Rect.unit (s := S4x128x128) ![0, 0, 0] S1x128x128.size inb_S4x128x128_S1x128x128_0_0_0, p0⟩])
      = stack4 (pick4 p0 p1 p2 p3) := by
  funext y
  have hx : ∀ k : Fin 4, (y 0).val = k.val → ∀ a : Fin 3, (y a).val = (![k.val, 0, 0] : Fin 3 → ℕ) a
      + ((ix3 (0 : Fin 1) (y 1) (y 2)) a).val := fun k hk a => by
    fin_cases a
    · show (y 0).val = k.val + 0; omega
    · show (y 1).val = 0 + (y 1).val; omega
    · show (y 2).val = 0 + (y 2).val; omega
  show _ = pick4 p0 p1 p2 p3 (y 0) (ix3 (0 : Fin 1) (y 1) (y 2))
  obtain ⟨k, hk⟩ : ∃ k : Fin 4, y 0 = k := ⟨_, rfl⟩
  have hv : (y 0).val = k.val := congrArg Fin.val hk
  rw [hk]
  fin_cases k
  all_goals
    repeat refine (View.read_writes_cons_unit_of_not_mem v f _ _ _ y rfl (0 : Fin 3) (by rw [hv]; decide)).trans ?_
    exact View.read_writes_cons_unit_of_mem v f _ _ _ y _ rfl (hx _ hv)

/-- Sixteen stores of whole slabs. -/
theorem read_stack16 (v : View sig .tc sp S16x256x128 .bf16) (f : v.ty.Contents (Elt F)) (p : Fin 16 → Vec F S1x256x128 .bf16) :
    v.read (Elt F) (v.writes (Elt F) f [(⟨Rect.unit (s := S16x256x128) ![15, 0, 0] S1x256x128.size inb_S16x256x128_S1x256x128_15_0_0, p 15⟩ : View.Piece (Elt F) S16x256x128 .bf16),
        ⟨Rect.unit (s := S16x256x128) ![14, 0, 0] S1x256x128.size inb_S16x256x128_S1x256x128_14_0_0, p 14⟩,
        ⟨Rect.unit (s := S16x256x128) ![13, 0, 0] S1x256x128.size inb_S16x256x128_S1x256x128_13_0_0, p 13⟩,
        ⟨Rect.unit (s := S16x256x128) ![12, 0, 0] S1x256x128.size inb_S16x256x128_S1x256x128_12_0_0, p 12⟩,
        ⟨Rect.unit (s := S16x256x128) ![11, 0, 0] S1x256x128.size inb_S16x256x128_S1x256x128_11_0_0, p 11⟩,
        ⟨Rect.unit (s := S16x256x128) ![10, 0, 0] S1x256x128.size inb_S16x256x128_S1x256x128_10_0_0, p 10⟩,
        ⟨Rect.unit (s := S16x256x128) ![9, 0, 0] S1x256x128.size inb_S16x256x128_S1x256x128_9_0_0, p 9⟩,
        ⟨Rect.unit (s := S16x256x128) ![8, 0, 0] S1x256x128.size inb_S16x256x128_S1x256x128_8_0_0, p 8⟩,
        ⟨Rect.unit (s := S16x256x128) ![7, 0, 0] S1x256x128.size inb_S16x256x128_S1x256x128_7_0_0, p 7⟩,
        ⟨Rect.unit (s := S16x256x128) ![6, 0, 0] S1x256x128.size inb_S16x256x128_S1x256x128_6_0_0, p 6⟩,
        ⟨Rect.unit (s := S16x256x128) ![5, 0, 0] S1x256x128.size inb_S16x256x128_S1x256x128_5_0_0, p 5⟩,
        ⟨Rect.unit (s := S16x256x128) ![4, 0, 0] S1x256x128.size inb_S16x256x128_S1x256x128_4_0_0, p 4⟩,
        ⟨Rect.unit (s := S16x256x128) ![3, 0, 0] S1x256x128.size inb_S16x256x128_S1x256x128_3_0_0, p 3⟩,
        ⟨Rect.unit (s := S16x256x128) ![2, 0, 0] S1x256x128.size inb_S16x256x128_S1x256x128_2_0_0, p 2⟩,
        ⟨Rect.unit (s := S16x256x128) ![1, 0, 0] S1x256x128.size inb_S16x256x128_S1x256x128_1_0_0, p 1⟩,
        ⟨Rect.unit (s := S16x256x128) ![0, 0, 0] S1x256x128.size inb_S16x256x128_S1x256x128_0_0_0, p 0⟩])
      = stack16 p := by
  funext y
  have hx : ∀ k : Fin 16, (y 0).val = k.val → ∀ a : Fin 3, (y a).val = (![k.val, 0, 0] : Fin 3 → ℕ) a
      + ((ix3 (0 : Fin 1) (y 1) (y 2)) a).val := fun k hk a => by
    fin_cases a
    · show (y 0).val = k.val + 0; omega
    · show (y 1).val = 0 + (y 1).val; omega
    · show (y 2).val = 0 + (y 2).val; omega
  show _ = p (y 0) (ix3 (0 : Fin 1) (y 1) (y 2))
  obtain ⟨k, hk⟩ : ∃ k : Fin 16, y 0 = k := ⟨_, rfl⟩
  have hv : (y 0).val = k.val := congrArg Fin.val hk
  rw [hk]
  fin_cases k
  all_goals
    repeat refine (View.read_writes_cons_unit_of_not_mem v f _ _ _ y rfl (0 : Fin 3) (by rw [hv]; decide)).trans ?_
    exact View.read_writes_cons_unit_of_mem v f _ _ _ y _ rfl (hx _ hv)

end ReadBack

/-! ## What the body leaves, from what it reads -/

/-- The sixteen query slabs. -/
def qpay (x : Vec F S256x2048 .f32) (w : Vec F S2048x2048 .bf16) (cs sn : Vec F S256x128 .f32) (sw : Vec F S128x128 .bf16) :
    Fin 16 → Vec F S1x256x128 .bf16 :=
  let q := k0_pay17 x w
  let a := k0_pay21 cs
  let b := k0_pay22 sn
  let m := k0_pay23 sw
  ![k0_pay25 (k0_pay24 x w cs sn sw), k0_pay26 q a b m, k0_pay27 q a b m, k0_pay28 q a b m, k0_pay29 q a b m, k0_pay30 q a b m,
    k0_pay31 q a b m, k0_pay35 b (k0_pay33 q m) (k0_pay34 q a), k0_pay36 q a b m, k0_pay37 q a b m, k0_pay39 (k0_pay38 q a b m),
    k0_pay40 q a b m, k0_pay41 q a b m, k0_pay42 q a b m, k0_pay43 q a b m, k0_pay44 q a b m]

/-- The sixteen query stores as they stand in the body. -/
theorem read_q {sp : Space} (v : View sig .tc sp S16x256x128 .bf16) (f : v.ty.Contents (Elt F))
    (x : Vec F S256x2048 .f32) (w : Vec F S2048x2048 .bf16) (cs sn : Vec F S256x128 .f32) (sw : Vec F S128x128 .bf16) :
    v.read (Elt F) (v.writes (Elt F) f [(⟨Rect.unit (s := S16x256x128) ![15, 0, 0] S1x256x128.size inb_S16x256x128_S1x256x128_15_0_0, k0_pay44 (k0_pay17 x w) (k0_pay21 cs) (k0_pay22 sn) (k0_pay23 sw)⟩ : View.Piece (Elt F) S16x256x128 .bf16),
        ⟨Rect.unit (s := S16x256x128) ![14, 0, 0] S1x256x128.size inb_S16x256x128_S1x256x128_14_0_0, k0_pay43 (k0_pay17 x w) (k0_pay21 cs) (k0_pay22 sn) (k0_pay23 sw)⟩,
        ⟨Rect.unit (s := S16x256x128) ![13, 0, 0] S1x256x128.size inb_S16x256x128_S1x256x128_13_0_0, k0_pay42 (k0_pay17 x w) (k0_pay21 cs) (k0_pay22 sn) (k0_pay23 sw)⟩,
        ⟨Rect.unit (s := S16x256x128) ![12, 0, 0] S1x256x128.size inb_S16x256x128_S1x256x128_12_0_0, k0_pay41 (k0_pay17 x w) (k0_pay21 cs) (k0_pay22 sn) (k0_pay23 sw)⟩,
        ⟨Rect.unit (s := S16x256x128) ![11, 0, 0] S1x256x128.size inb_S16x256x128_S1x256x128_11_0_0, k0_pay40 (k0_pay17 x w) (k0_pay21 cs) (k0_pay22 sn) (k0_pay23 sw)⟩,
        ⟨Rect.unit (s := S16x256x128) ![10, 0, 0] S1x256x128.size inb_S16x256x128_S1x256x128_10_0_0, k0_pay39 (k0_pay38 (k0_pay17 x w) (k0_pay21 cs) (k0_pay22 sn) (k0_pay23 sw))⟩,
        ⟨Rect.unit (s := S16x256x128) ![9, 0, 0] S1x256x128.size inb_S16x256x128_S1x256x128_9_0_0, k0_pay37 (k0_pay17 x w) (k0_pay21 cs) (k0_pay22 sn) (k0_pay23 sw)⟩,
        ⟨Rect.unit (s := S16x256x128) ![8, 0, 0] S1x256x128.size inb_S16x256x128_S1x256x128_8_0_0, k0_pay36 (k0_pay17 x w) (k0_pay21 cs) (k0_pay22 sn) (k0_pay23 sw)⟩,
        ⟨Rect.unit (s := S16x256x128) ![7, 0, 0] S1x256x128.size inb_S16x256x128_S1x256x128_7_0_0, k0_pay35 (k0_pay22 sn) (k0_pay33 (k0_pay17 x w) (k0_pay23 sw)) (k0_pay34 (k0_pay17 x w) (k0_pay21 cs))⟩,
        ⟨Rect.unit (s := S16x256x128) ![6, 0, 0] S1x256x128.size inb_S16x256x128_S1x256x128_6_0_0, k0_pay31 (k0_pay17 x w) (k0_pay21 cs) (k0_pay22 sn) (k0_pay23 sw)⟩,
        ⟨Rect.unit (s := S16x256x128) ![5, 0, 0] S1x256x128.size inb_S16x256x128_S1x256x128_5_0_0, k0_pay30 (k0_pay17 x w) (k0_pay21 cs) (k0_pay22 sn) (k0_pay23 sw)⟩,
        ⟨Rect.unit (s := S16x256x128) ![4, 0, 0] S1x256x128.size inb_S16x256x128_S1x256x128_4_0_0, k0_pay29 (k0_pay17 x w) (k0_pay21 cs) (k0_pay22 sn) (k0_pay23 sw)⟩,
        ⟨Rect.unit (s := S16x256x128) ![3, 0, 0] S1x256x128.size inb_S16x256x128_S1x256x128_3_0_0, k0_pay28 (k0_pay17 x w) (k0_pay21 cs) (k0_pay22 sn) (k0_pay23 sw)⟩,
        ⟨Rect.unit (s := S16x256x128) ![2, 0, 0] S1x256x128.size inb_S16x256x128_S1x256x128_2_0_0, k0_pay27 (k0_pay17 x w) (k0_pay21 cs) (k0_pay22 sn) (k0_pay23 sw)⟩,
        ⟨Rect.unit (s := S16x256x128) ![1, 0, 0] S1x256x128.size inb_S16x256x128_S1x256x128_1_0_0, k0_pay26 (k0_pay17 x w) (k0_pay21 cs) (k0_pay22 sn) (k0_pay23 sw)⟩,
        ⟨Rect.unit (s := S16x256x128) ![0, 0, 0] S1x256x128.size inb_S16x256x128_S1x256x128_0_0_0, k0_pay25 (k0_pay24 x w cs sn sw)⟩])
      = stack16 (qpay x w cs sn sw) :=
  read_stack16 v f (qpay x w cs sn sw)

/-- The four key slabs. -/
def kpay (x : Vec F S256x2048 .f32) (w : Vec F S2048x512 .bf16) (cs sn : Vec F S256x128 .f32) (sw : Vec F S128x128 .bf16) :
    Fin 4 → Vec F S1x256x128 .bf16 :=
  let k := k0_pay18 x w
  let a := k0_pay21 cs
  let b := k0_pay22 sn
  let m := k0_pay23 sw
  pick4 (k0_pay45 k a b m) (k0_pay48 k a b m) (k0_pay50 k a b m) (k0_pay1 k a b m)

/-- The four value slabs. -/
def vpay (x : Vec F S256x2048 .f32) (w : Vec F S2048x512 .bf16) : Fin 4 → Vec F S1x256x128 .bf16 :=
  let v := k0_pay19 x w
  pick4 (k0_pay47 (k0_pay46 v)) (k0_pay49 v) (k0_pay51 v) (k0_pay2 v)

/-- The four compressed key slabs. -/
def ckpay (pk : Vec F S128x2048 .bf16) (K : Vec F S4x2048x128 .bf16) : Fin 4 → Vec F S1x128x128 .bf16 :=
  pick4 (k0_pay5 pk (slab K 0)) (k0_pay7 pk (slab K 1)) (k0_pay9 pk (slab K 2)) (k0_pay3 (k0_pay11 pk) (slab K 3))

/-- The four compressed value slabs. -/
def cvpay (pv : Vec F S128x2048 .bf16) (V : Vec F S4x2048x128 .bf16) : Fin 4 → Vec F S1x128x128 .bf16 :=
  pick4 (k0_pay6 pv (slab V 0)) (k0_pay8 pv (slab V 1)) (k0_pay10 pv (slab V 2)) (k0_pay4 pv (slab V 3))

end Cert.KernelIdeal.Prep
-- ==== Proof.KernelIdeal.PrepRunA.lean ====
/-
  One case of the first custom call's body, run through its memory operations; what it leaves is named by `qpay`, `kpay`, `vpay`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp
public import Idealize.ShloMosaic.Lib.WritesUnit
public import Idealize.ShloMosaic.Lib.ValueIdx
public import Idealize.ShloMosaic.Lib.Exec
public import Idealize.ShloMosaic.Lib.Pipeline.Kit
public import proofs.«01_k».proof.Proof.KernelIdeal.PrepBase

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

variable {Ix : Type} [DecidableEq Ix] {U : Type} [URA U] {Lvl : Type} [Preorder Lvl]

local notation "𝕄" => MT nD τ sig Ix (Elt F) ℕ U Lvl

set_option maxHeartbeats 1600000 in
/-- The body at the first point: it fills the four weight copies and leaves the first row block's slabs. -/
theorem runA (𝒱₀ : Variants) (c : Dev nD) (i : grid0.Coords) (arg1 : Memref sig .tc .vmem S256x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x128 .bf16) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S16x256x128 .bf16) (harg11 : arg11.IsWhole) (arg12 : Memref sig .tc .vmem S4x2048x128 .bf16) (harg12 : arg12.IsWhole) (arg13 : Memref sig .tc .vmem S4x2048x128 .bf16) (harg13 : arg13.IsWhole) (arg14 : Memref sig .tc .vmem S256x128 .f32) (harg14 : arg14.IsWhole) (arg15 : Memref sig .tc .vmem S4x128x128 .bf16) (harg15 : arg15.IsWhole) (arg16 : Memref sig .tc .vmem S4x128x128 .bf16) (harg16 : arg16.IsWhole) (arg17 : Memref sig .tc .vmem S2048x2048 .bf16) (harg17 : arg17.IsWhole) (arg18 : Memref sig .tc .vmem S2048x512 .bf16) (harg18 : arg18.IsWhole) (arg19 : Memref sig .tc .vmem S2048x512 .bf16) (harg19 : arg19.IsWhole) (arg20 : Memref sig .tc .vmem S2048x128 .bf16) (harg20 : arg20.IsWhole) (hc0 : first i) (hc1 : ¬last i)
    (x0 : Vec F S256x2048 .f32) (x1 : Vec F S2048x2048 .f32) (x2 : Vec F S2048x512 .f32) (x3 : Vec F S2048x512 .f32) (x4 : Vec F S2048x128 .f32) (x5 : Vec F S256x128 .f32) (x6 : Vec F S256x128 .f32) (x7 : Vec F S128x128 .bf16) (x8 : Vec F S128x2048 .bf16) (x9 : Vec F S128x2048 .bf16) (y11 : Vec F S4x2048x128 .bf16) (y12 : Vec F S4x2048x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare y11 ∗ owns (c : Thread nD τ) arg13 fullShare y12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (stack16 (qpay x0 (k0_pay12 x1) x5 x6 x7)) ∗ owns (c : Thread nD τ) arg12 fullShare (put4 (i 0).val (kpay x0 (k0_pay13 x2) x5 x6 x7) y11) ∗ owns (c : Thread nD τ) arg13 fullShare (put4 (i 0).val (vpay x0 (k0_pay14 x3)) y12) ∗ owns (c : Thread nD τ) arg14 fullShare (k0_pay20 x0 (k0_pay15 x4)) ∗ (∃ d, owns (c : Thread nD τ) arg15 fullShare d) ∗ (∃ d, owns (c : Thread nD τ) arg16 fullShare d) ∗ owns (c : Thread nD τ) arg17 fullShare (k0_pay12 x1) ∗ owns (c : Thread nD τ) arg18 fullShare (k0_pay13 x2) ∗ owns (c : Thread nD τ) arg19 fullShare (k0_pay14 x3) ∗ owns (c : Thread nD τ) arg20 fullShare (k0_pay15 x4)) -∗ K ⟨⟩))
      ⊢ wp frame (wpE (defs₀ (F := F)) 𝒱₀ c none) E (cc0__prep_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__prep_body_eq_skeleton]; unfold cc0__prep_body_skel
  simp only [k0_part3_eq_skeleton, k0_part4_eq_skeleton, k0_part5_eq_skeleton, k0_part6_eq_skeleton, k0_part7_eq_skeleton, k0_part8_eq_skeleton, k0_part9_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact read_q _ _ x0 (k0_pay12 x1) x5 x6 x7
  isplitl [H11]
  · iexists _; isplitr; swap; · iexact H11
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact (read_put4 _ _ i _ _ _ _).trans (congrArg _ (harg12.read_unread _))
  isplitl [H12]
  · iexists _; isplitr; swap; · iexact H12
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact (read_put4 _ _ i _ _ _ _).trans (congrArg _ (harg13.read_unread _))
  isplitl [H13]
  · iexists _; isplitr; swap; · iexact H13
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact whole_st _ _ _ _
  isplitl [H14]
  · iexists (arg15.view.read (Elt F) f14); iexists f14; isplitr; · ipureintro; rfl
    iexact H14
  isplitl [H15]
  · iexists (arg16.view.read (Elt F) f15); iexists f15; isplitr; · ipureintro; rfl
    iexact H15
  isplitl [H16]
  · iexists _; isplitr; swap; · iexact H16
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact whole_st _ _ _ _
  isplitl [H17]
  · iexists _; isplitr; swap; · iexact H17
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact whole_st _ _ _ _
  isplitl [H18]
  · iexists _; isplitr; swap; · iexact H18
    ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
    simp only [whole_ld2, whole_cov2]; exact whole_st _ _ _ _
  iexists _; isplitr; swap; · iexact H19
  ipureintro; repeat delta runA.sl.v0 runA.sl.v1 runA.sl.v2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.H16_1 runA.sl.H17_1 runA.sl.H18_1 runA.sl.H19_1 runA.sl.v6 runA.sl.v8 runA.sl.v10 runA.sl.v12
  simp only [whole_ld2, whole_cov2]; exact whole_st _ _ _ _

end Cert.KernelIdeal.Prep

end
-- ==== Proof.KernelIdeal.PrepRunB.lean ====
/-
  One case of the first custom call's body, run through its memory operations; what it leaves is named by `qpay`, `kpay`, `vpay`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp
public import Idealize.ShloMosaic.Lib.WritesUnit
public import Idealize.ShloMosaic.Lib.ValueIdx
public import Idealize.ShloMosaic.Lib.Exec
public import Idealize.ShloMosaic.Lib.Pipeline.Kit
public import proofs.«01_k».proof.Proof.KernelIdeal.PrepBase

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

variable {Ix : Type} [DecidableEq Ix] {U : Type} [URA U] {Lvl : Type} [Preorder Lvl]

local notation "𝕄" => MT nD τ sig Ix (Elt F) ℕ U Lvl

set_option maxHeartbeats 1600000 in
/-- The body at a point between: the row block's slabs, the weight copies as they were. -/
theorem runB (𝒱₀ : Variants) (c : Dev nD) (i : grid0.Coords) (arg1 : Memref sig .tc .vmem S256x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x128 .bf16) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S16x256x128 .bf16) (harg11 : arg11.IsWhole) (arg12 : Memref sig .tc .vmem S4x2048x128 .bf16) (harg12 : arg12.IsWhole) (arg13 : Memref sig .tc .vmem S4x2048x128 .bf16) (harg13 : arg13.IsWhole) (arg14 : Memref sig .tc .vmem S256x128 .f32) (harg14 : arg14.IsWhole) (arg15 : Memref sig .tc .vmem S4x128x128 .bf16) (harg15 : arg15.IsWhole) (arg16 : Memref sig .tc .vmem S4x128x128 .bf16) (harg16 : arg16.IsWhole) (arg17 : Memref sig .tc .vmem S2048x2048 .bf16) (harg17 : arg17.IsWhole) (arg18 : Memref sig .tc .vmem S2048x512 .bf16) (harg18 : arg18.IsWhole) (arg19 : Memref sig .tc .vmem S2048x512 .bf16) (harg19 : arg19.IsWhole) (arg20 : Memref sig .tc .vmem S2048x128 .bf16) (harg20 : arg20.IsWhole) (hc0 : ¬first i) (hc1 : ¬last i)
    (x0 : Vec F S256x2048 .f32) (x1 : Vec F S2048x2048 .f32) (x2 : Vec F S2048x512 .f32) (x3 : Vec F S2048x512 .f32) (x4 : Vec F S2048x128 .f32) (x5 : Vec F S256x128 .f32) (x6 : Vec F S256x128 .f32) (x7 : Vec F S128x128 .bf16) (x8 : Vec F S128x2048 .bf16) (x9 : Vec F S128x2048 .bf16) (y11 : Vec F S4x2048x128 .bf16) (y12 : Vec F S4x2048x128 .bf16) (w0 : Vec F S2048x2048 .bf16) (w1 : Vec F S2048x512 .bf16) (w2 : Vec F S2048x512 .bf16) (w3 : Vec F S2048x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare y11 ∗ owns (c : Thread nD τ) arg13 fullShare y12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare w0 ∗ owns (c : Thread nD τ) arg18 fullShare w1 ∗ owns (c : Thread nD τ) arg19 fullShare w2 ∗ owns (c : Thread nD τ) arg20 fullShare w3 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (stack16 (qpay x0 w0 x5 x6 x7)) ∗ owns (c : Thread nD τ) arg12 fullShare (put4 (i 0).val (kpay x0 w1 x5 x6 x7) y11) ∗ owns (c : Thread nD τ) arg13 fullShare (put4 (i 0).val (vpay x0 w2) y12) ∗ owns (c : Thread nD τ) arg14 fullShare (k0_pay20 x0 w3) ∗ (∃ d, owns (c : Thread nD τ) arg15 fullShare d) ∗ (∃ d, owns (c : Thread nD τ) arg16 fullShare d) ∗ owns (c : Thread nD τ) arg17 fullShare w0 ∗ owns (c : Thread nD τ) arg18 fullShare w1 ∗ owns (c : Thread nD τ) arg19 fullShare w2 ∗ owns (c : Thread nD τ) arg20 fullShare w3) -∗ K ⟨⟩))
      ⊢ wp frame (wpE (defs₀ (F := F)) 𝒱₀ c none) E (cc0__prep_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__prep_body_eq_skeleton]; unfold cc0__prep_body_skel
  simp only [k0_part3_eq_skeleton, k0_part4_eq_skeleton, k0_part5_eq_skeleton, k0_part6_eq_skeleton, k0_part7_eq_skeleton, k0_part8_eq_skeleton, k0_part9_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg17.eq_unread hf16; obtain rfl := harg18.eq_unread hf17; obtain rfl := harg19.eq_unread hf18; obtain rfl := harg20.eq_unread hf19
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; repeat delta runB.sl.v0 runB.sl.v1 runB.sl.v2 runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13
    simp only [whole_ld2, whole_cov2]; exact read_q _ _ x0 w0 x5 x6 x7
  isplitl [H11]
  · iexists _; isplitr; swap; · iexact H11
    ipureintro; repeat delta runB.sl.v0 runB.sl.v1 runB.sl.v2 runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13
    simp only [whole_ld2, whole_cov2]; exact (read_put4 _ _ i _ _ _ _).trans (congrArg _ (harg12.read_unread _))
  isplitl [H12]
  · iexists _; isplitr; swap; · iexact H12
    ipureintro; repeat delta runB.sl.v0 runB.sl.v1 runB.sl.v2 runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13
    simp only [whole_ld2, whole_cov2]; exact (read_put4 _ _ i _ _ _ _).trans (congrArg _ (harg13.read_unread _))
  isplitl [H13]
  · iexists _; isplitr; swap; · iexact H13
    ipureintro; repeat delta runB.sl.v0 runB.sl.v1 runB.sl.v2 runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13
    simp only [whole_ld2, whole_cov2]; exact whole_st _ _ _ _
  isplitl [H14]
  · iexists (arg15.view.read (Elt F) f14); iexists f14; isplitr; · ipureintro; rfl
    iexact H14
  isplitl [H15]
  · iexists (arg16.view.read (Elt F) f15); iexists f15; isplitr; · ipureintro; rfl
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  iexists _; isplitr; · ipureintro; exact harg20.read_unread _
  iexact H19

end Cert.KernelIdeal.Prep

end
-- ==== Proof.KernelIdeal.PrepRunC.lean ====
/-
  One case of the first custom call's body, run through its memory operations; what it leaves is named by `qpay`, `kpay`, `vpay`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp
public import Idealize.ShloMosaic.Lib.WritesUnit
public import Idealize.ShloMosaic.Lib.ValueIdx
public import Idealize.ShloMosaic.Lib.Exec
public import Idealize.ShloMosaic.Lib.Pipeline.Kit
public import proofs.«01_k».proof.Proof.KernelIdeal.PrepBase

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

variable {Ix : Type} [DecidableEq Ix] {U : Type} [URA U] {Lvl : Type} [Preorder Lvl]

local notation "𝕄" => MT nD τ sig Ix (Elt F) ℕ U Lvl

set_option maxHeartbeats 1600000 in
/-- The body at the last point: the row block's slabs, and the pooled keys and values of all rows. -/
theorem runC (𝒱₀ : Variants) (c : Dev nD) (i : grid0.Coords) (arg1 : Memref sig .tc .vmem S256x2048 .f32) (harg1 : arg1.IsWhole) (arg2 : Memref sig .tc .vmem S2048x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x128 .bf16) (harg8 : arg8.IsWhole) (arg9 : Memref sig .tc .vmem S128x2048 .bf16) (harg9 : arg9.IsWhole) (arg10 : Memref sig .tc .vmem S128x2048 .bf16) (harg10 : arg10.IsWhole) (arg11 : Memref sig .tc .vmem S16x256x128 .bf16) (harg11 : arg11.IsWhole) (arg12 : Memref sig .tc .vmem S4x2048x128 .bf16) (harg12 : arg12.IsWhole) (arg13 : Memref sig .tc .vmem S4x2048x128 .bf16) (harg13 : arg13.IsWhole) (arg14 : Memref sig .tc .vmem S256x128 .f32) (harg14 : arg14.IsWhole) (arg15 : Memref sig .tc .vmem S4x128x128 .bf16) (harg15 : arg15.IsWhole) (arg16 : Memref sig .tc .vmem S4x128x128 .bf16) (harg16 : arg16.IsWhole) (arg17 : Memref sig .tc .vmem S2048x2048 .bf16) (harg17 : arg17.IsWhole) (arg18 : Memref sig .tc .vmem S2048x512 .bf16) (harg18 : arg18.IsWhole) (arg19 : Memref sig .tc .vmem S2048x512 .bf16) (harg19 : arg19.IsWhole) (arg20 : Memref sig .tc .vmem S2048x128 .bf16) (harg20 : arg20.IsWhole) (hc0 : ¬first i) (hc1 : last i)
    (x0 : Vec F S256x2048 .f32) (x1 : Vec F S2048x2048 .f32) (x2 : Vec F S2048x512 .f32) (x3 : Vec F S2048x512 .f32) (x4 : Vec F S2048x128 .f32) (x5 : Vec F S256x128 .f32) (x6 : Vec F S256x128 .f32) (x7 : Vec F S128x128 .bf16) (x8 : Vec F S128x2048 .bf16) (x9 : Vec F S128x2048 .bf16) (y11 : Vec F S4x2048x128 .bf16) (y12 : Vec F S4x2048x128 .bf16) (w0 : Vec F S2048x2048 .bf16) (w1 : Vec F S2048x512 .bf16) (w2 : Vec F S2048x512 .bf16) (w3 : Vec F S2048x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare y11 ∗ owns (c : Thread nD τ) arg13 fullShare y12 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare w0 ∗ owns (c : Thread nD τ) arg18 fullShare w1 ∗ owns (c : Thread nD τ) arg19 fullShare w2 ∗ owns (c : Thread nD τ) arg20 fullShare w3 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (stack16 (qpay x0 w0 x5 x6 x7)) ∗ owns (c : Thread nD τ) arg12 fullShare (put4 (i 0).val (kpay x0 w1 x5 x6 x7) y11) ∗ owns (c : Thread nD τ) arg13 fullShare (put4 (i 0).val (vpay x0 w2) y12) ∗ owns (c : Thread nD τ) arg14 fullShare (k0_pay20 x0 w3) ∗ owns (c : Thread nD τ) arg15 fullShare (stack4 (ckpay x8 (put4 (i 0).val (kpay x0 w1 x5 x6 x7) y11))) ∗ owns (c : Thread nD τ) arg16 fullShare (stack4 (cvpay x9 (put4 (i 0).val (vpay x0 w2) y12))) ∗ owns (c : Thread nD τ) arg17 fullShare w0 ∗ owns (c : Thread nD τ) arg18 fullShare w1 ∗ owns (c : Thread nD τ) arg19 fullShare w2 ∗ owns (c : Thread nD τ) arg20 fullShare w3) -∗ K ⟨⟩))
      ⊢ wp frame (wpE (defs₀ (F := F)) 𝒱₀ c none) E (cc0__prep_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__prep_body_eq_skeleton]; unfold cc0__prep_body_skel
  simp only [k0_part3_eq_skeleton, k0_part4_eq_skeleton, k0_part5_eq_skeleton, k0_part6_eq_skeleton, k0_part7_eq_skeleton, k0_part8_eq_skeleton, k0_part9_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg17.eq_unread hf16; obtain rfl := harg18.eq_unread hf17; obtain rfl := harg19.eq_unread hf18; obtain rfl := harg20.eq_unread hf19
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; repeat delta runC.sl.v0 runC.sl.v1 runC.sl.v2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.H11_4 runC.sl.H12_4 runC.sl.v295 runC.sl.v304 runC.sl.v313 runC.sl.v322 runC.sl.v331 runC.sl.v340 runC.sl.v349 runC.sl.v358
    simp only [whole_ld2, whole_cov2]; exact read_q _ _ x0 w0 x5 x6 x7
  isplitl [H11]
  · iexists _; isplitr; swap; · iexact H11
    ipureintro; repeat delta runC.sl.v0 runC.sl.v1 runC.sl.v2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.H11_4 runC.sl.H12_4 runC.sl.v295 runC.sl.v304 runC.sl.v313 runC.sl.v322 runC.sl.v331 runC.sl.v340 runC.sl.v349 runC.sl.v358
    simp only [whole_ld2, whole_cov2]; exact (read_put4 _ _ i _ _ _ _).trans (congrArg _ (harg12.read_unread _))
  isplitl [H12]
  · iexists _; isplitr; swap; · iexact H12
    ipureintro; repeat delta runC.sl.v0 runC.sl.v1 runC.sl.v2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.H11_4 runC.sl.H12_4 runC.sl.v295 runC.sl.v304 runC.sl.v313 runC.sl.v322 runC.sl.v331 runC.sl.v340 runC.sl.v349 runC.sl.v358
    simp only [whole_ld2, whole_cov2]; exact (read_put4 _ _ i _ _ _ _).trans (congrArg _ (harg13.read_unread _))
  isplitl [H13]
  · iexists _; isplitr; swap; · iexact H13
    ipureintro; repeat delta runC.sl.v0 runC.sl.v1 runC.sl.v2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.H11_4 runC.sl.H12_4 runC.sl.v295 runC.sl.v304 runC.sl.v313 runC.sl.v322 runC.sl.v331 runC.sl.v340 runC.sl.v349 runC.sl.v358
    simp only [whole_ld2, whole_cov2]; exact whole_st _ _ _ _
  isplitl [H14]
  · iexists _; isplitr; swap; · iexact H14
    ipureintro; repeat delta runC.sl.v0 runC.sl.v1 runC.sl.v2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.H11_4 runC.sl.H12_4 runC.sl.v295 runC.sl.v304 runC.sl.v313 runC.sl.v322 runC.sl.v331 runC.sl.v340 runC.sl.v349 runC.sl.v358
    simp only [whole_ld2, whole_cov2, slab_ld0, slab_ld1, slab_ld2, slab_ld3, read_put4', Memref.IsWhole.read_unread]; exact read_stack4 _ _ _ _ _ _
  isplitl [H15]
  · iexists _; isplitr; swap; · iexact H15
    ipureintro; repeat delta runC.sl.v0 runC.sl.v1 runC.sl.v2 runC.sl.r runC.sl.r_1 runC.sl.r_2 runC.sl.r_3 runC.sl.r_4 runC.sl.r_5 runC.sl.r_6 runC.sl.r_7 runC.sl.r_8 runC.sl.r_9 runC.sl.r_10 runC.sl.r_11 runC.sl.r_12 runC.sl.r_13 runC.sl.r_14 runC.sl.r_15 runC.sl.H11_4 runC.sl.H12_4 runC.sl.v295 runC.sl.v304 runC.sl.v313 runC.sl.v322 runC.sl.v331 runC.sl.v340 runC.sl.v349 runC.sl.v358
    simp only [whole_ld2, whole_cov2, slab_ld0, slab_ld1, slab_ld2, slab_ld3, read_put4', Memref.IsWhole.read_unread]; exact read_stack4 _ _ _ _ _ _
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  iexists _; isplitr; · ipureintro; exact harg20.read_unread _
  iexact H19

end Cert.KernelIdeal.Prep

end
-- ==== Proof.KernelIdeal.PrepDat.lean ====
/-
  The first custom call's proof data: the blocks it reads, what it leaves, the body's obligation at every point, and the arrays at the end.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp
public import Idealize.ShloMosaic.Lib.WritesUnit
public import Idealize.ShloMosaic.Lib.ValueIdx
public import Idealize.ShloMosaic.Lib.Exec
public import Idealize.ShloMosaic.Lib.Pipeline.Kit
public import proofs.«01_k».proof.Proof.KernelIdeal.PrepRunA
public import proofs.«01_k».proof.Proof.KernelIdeal.PrepRunB
public import proofs.«01_k».proof.Proof.KernelIdeal.PrepRunC
public import Idealize.ShloMosaic.Lib.Pipeline.ArrRel

@[expose] public section

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The blocks and what the region leaves -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- There are eight points; the first and the last. -/
theorem N0 : cfg0.N = 8 := N_0
def z0 : Fin cfg0.N := ⟨0, by rw [N0]; decide⟩
def z7 : Fin cfg0.N := ⟨7, by rw [N0]; decide⟩

/-- The weight copies that the first point leaves. -/
def W0 (c : Dev nD) : Vec F S2048x2048 .bf16 := k0_pay12 (iblk V c 1 z0)
def W1 (c : Dev nD) : Vec F S2048x512 .bf16 := k0_pay13 (iblk V c 2 z0)
def W2 (c : Dev nD) : Vec F S2048x512 .bf16 := k0_pay14 (iblk V c 3 z0)
def W3 (c : Dev nD) : Vec F S2048x128 .bf16 := k0_pay15 (iblk V c 4 z0)

/-- The query, key and value slabs of row block `t`, and its gate logits' logistic. -/
def qv (c : Dev nD) (t : Fin cfg0.N) : Fin 16 → Vec F S1x256x128 .bf16 := qpay (iblk V c 0 t) (W0 V c) (iblk V c 5 t) (iblk V c 6 t) (iblk V c 7 t)
def kv (c : Dev nD) (t : Fin cfg0.N) : Fin 4 → Vec F S1x256x128 .bf16 := kpay (iblk V c 0 t) (W1 V c) (iblk V c 5 t) (iblk V c 6 t) (iblk V c 7 t)
def vv (c : Dev nD) (t : Fin cfg0.N) : Fin 4 → Vec F S1x256x128 .bf16 := vpay (iblk V c 0 t) (W2 V c)
def gv (c : Dev nD) (t : Fin cfg0.N) : Vec F S256x128 .f32 := k0_pay20 (iblk V c 0 t) (W3 V c)

/-- Four slabs of 2048 rows from the row blocks' slabs. -/
def rows4 (p : Fin cfg0.N → Fin 4 → Vec F S1x256x128 .bf16) : Vec F S4x2048x128 .bf16 := fun y =>
  p ⟨(y 1).val / 256, by rw [N0]; have : (y 1).val < 2048 := (y 1).isLt; omega⟩ (y 0)
    (ix3 (0 : Fin 1) (⟨(y 1).val % 256, Nat.mod_lt _ (by decide)⟩ : Fin 256) (y 2))

/-- All the keys, all the values; the pooled ones. -/
def kval (c : Dev nD) : Vec F S4x2048x128 .bf16 := rows4 (kv V c)
def vval (c : Dev nD) : Vec F S4x2048x128 .bf16 := rows4 (vv V c)
def ckval (c : Dev nD) : Vec F S4x128x128 .bf16 := stack4 (ckpay (iblk V c 8 z7) (kval V c))
def cvval (c : Dev nD) : Vec F S4x128x128 .bf16 := stack4 (cvpay (iblk V c 9 z7) (vval V c))

/-- One more row block written: the rows so far are as they should be. -/
theorem put4_rows (p : Fin cfg0.N → Fin 4 → Vec F S1x256x128 .bf16) (t : Fin cfg0.N) (Y : Vec F S4x2048x128 .bf16)
    (hY : ∀ y : S4x2048x128.Idx, (y 1).val < 256 * t.val → Y y = rows4 p y) (y : S4x2048x128.Idx) (hy : (y 1).val < 256 * (t.val + 1)) :
    put4 (grid0.coords t 0).val (p t) Y y = rows4 p y := by
  rw [coord_val]
  unfold put4
  split
  · next h =>
    have e1 : (⟨(y 1).val / 256, by rw [N0]; have : (y 1).val < 2048 := (y 1).isLt; omega⟩ : Fin cfg0.N) = t := Fin.ext (by show (y 1).val / 256 = t.val; omega)
    unfold rows4
    rw [e1]
    exact congrArg (fun j : Fin 256 => p t (y 0) (ix3 (0 : Fin 1) j (y 2))) (Fin.ext (by show (y 1).val - 256 * t.val = (y 1).val % 256; omega))
  · next h => exact hY y (by omega)

/-- After the last point they all are. -/
theorem put4_last (p : Fin cfg0.N → Fin 4 → Vec F S1x256x128 .bf16) (t : Fin cfg0.N) (ht : t.val = 7) (Y : Vec F S4x2048x128 .bf16)
    (hY : ∀ y : S4x2048x128.Idx, (y 1).val < 256 * t.val → Y y = rows4 p y) : put4 (grid0.coords t 0).val (p t) Y = rows4 p :=
  funext fun y => put4_rows p t Y hY y (by have : (y 1).val < 2048 := (y 1).isLt; omega)

/-! ## The proof data -/

/-- The scratch copies as memrefs. -/
abbrev sc0 : Memref sig .tc .vmem S2048x2048 .bf16 := Memref.whole cc0_scratch0
abbrev sc1 : Memref sig .tc .vmem S2048x512 .bf16 := Memref.whole cc0_scratch1
abbrev sc2 : Memref sig .tc .vmem S2048x512 .bf16 := Memref.whole cc0_scratch2
abbrev sc3 : Memref sig .tc .vmem S2048x128 .bf16 := Memref.whole cc0_scratch3

/-- The invariant before point `n`: the scratch at some contents, from the first point on at the weight copies; the rest of the scoped
    buffers and the random-number register. -/
def ΦP (c : Dev nD) (n : ℕ) : sProp 𝕄 :=
  iprop((∃ w0 w1 w2 w3, ⌜n ≠ 0 → w0 = W0 V c ∧ w1 = W1 V c ∧ w2 = W2 V c ∧ w3 = W3 V c⌝
      ∗ owns (c : Thread nD τ) sc0 fullShare w0 ∗ owns (c : Thread nD τ) sc1 fullShare w1
      ∗ owns (c : Thread nD τ) sc2 fullShare w2 ∗ owns (c : Thread nD τ) sc3 fullShare w3)
    ∗ Pipeline.scopedRestBut (Ix := Ix) (Name := ℕ) (U := U) (Lvl := Lvl) (Val := Elt F) spec0 c [cc0_scratch0, cc0_scratch1, cc0_scratch2, cc0_scratch3]
    ∗ ∃ r, prngReg c r)

/-- The exact data. What they name for an output is what the body leaves at the points that write the block back. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => stack16 (qv V c t)
    | ⟨11, _⟩ => kval V c
    | ⟨12, _⟩ => vval V c
    | ⟨13, _⟩ => gv V c t
    | ⟨14, _⟩ => ckval V c
    | ⟨15, _⟩ => cvval V c
    | ⟨_ + 16, h⟩ => absurd h (Nat.not_lt.2 (Nat.le_add_left _ _))
  Φ t := ΦP (F := F) (Ix := Ix) (U := U) (Lvl := Lvl) V c t.val
  q _ := fullShare
  owed _ := D c

/-- The windows held to a predicate: the outputs. -/
def fgt : Fin cfg0.W → Bool := fun w => Nat.ble 10 w.val

/-- The predicate: the query block, the gates, are exact at every point; the keys and values are right on the rows written so far; the pooled
    ones are right at the last point. -/
def Rl (c : Dev nD) : (w : Fin cfg0.W) → Fin cfg0.N → ((cfg0.win w).block.Idx → Elt F (cfg0.win w).elt) → Prop
  | ⟨10, _⟩ => fun t X => X = stack16 (qv V c t)
  | ⟨11, _⟩ => fun t X => ∀ y : S4x2048x128.Idx, (y 1).val < 256 * (t.val + 1) → X y = kval V c y
  | ⟨12, _⟩ => fun t X => ∀ y : S4x2048x128.Idx, (y 1).val < 256 * (t.val + 1) → X y = vval V c y
  | ⟨13, _⟩ => fun t X => X = gv V c t
  | ⟨14, _⟩ => fun t X => t.val = 7 → X = ckval V c
  | ⟨15, _⟩ => fun t X => t.val = 7 → X = cvval V c
  | _ => fun _ _ => True

variable (ι : Ix)

local notation "𝕕" => dat (Ix := Ix) (U := U) (Lvl := Lvl) V D

theorem A_eq (c : Dev nD) (w : Fin cfg0.W) : (𝕕 c).A w = V c (Pipeline.arrRef spec0 w) := by
  dsimp only [dat]

theorem after_0 (c : Dev nD) (t : Fin cfg0.N) : (𝕕 c).after 0 t = iblk V c 0 t := by dsimp only [dat]

theorem after_1 (c : Dev nD) (t : Fin cfg0.N) : (𝕕 c).after 1 t = iblk V c 1 t := by dsimp only [dat]

theorem after_2 (c : Dev nD) (t : Fin cfg0.N) : (𝕕 c).after 2 t = iblk V c 2 t := by dsimp only [dat]

theorem after_3 (c : Dev nD) (t : Fin cfg0.N) : (𝕕 c).after 3 t = iblk V c 3 t := by dsimp only [dat]

theorem after_4 (c : Dev nD) (t : Fin cfg0.N) : (𝕕 c).after 4 t = iblk V c 4 t := by dsimp only [dat]

theorem after_5 (c : Dev nD) (t : Fin cfg0.N) : (𝕕 c).after 5 t = iblk V c 5 t := by dsimp only [dat]

theorem after_6 (c : Dev nD) (t : Fin cfg0.N) : (𝕕 c).after 6 t = iblk V c 6 t := by dsimp only [dat]

theorem after_7 (c : Dev nD) (t : Fin cfg0.N) : (𝕕 c).after 7 t = iblk V c 7 t := by dsimp only [dat]

theorem after_8 (c : Dev nD) (t : Fin cfg0.N) : (𝕕 c).after 8 t = iblk V c 8 t := by dsimp only [dat]

theorem after_9 (c : Dev nD) (t : Fin cfg0.N) : (𝕕 c).after 9 t = iblk V c 9 t := by dsimp only [dat]

theorem before_0 (c : Dev nD) (t : Fin cfg0.N) (d) : (𝕕 c).before 0 t d = iblk V c 0 t :=
  ((𝕕 c).before_in_eq_fetched 0 rfl (fun _ => rfl) (fun _ _ _ => rfl) (fun t => by rw [after_0 V D c t]; unfold Dat.blockOf iblk; rw [A_eq V D c 0]; try rfl) t d).trans
    (by unfold Dat.fetched Dat.blockOf iblk; rw [A_eq V D c 0]; try rfl)

theorem before_1 (c : Dev nD) (t : Fin cfg0.N) (d) : (𝕕 c).before 1 t d = iblk V c 1 t :=
  ((𝕕 c).before_in_eq_fetched 1 rfl (fun _ => rfl) (fun _ _ _ => rfl) (fun t => by rw [after_1 V D c t]; unfold Dat.blockOf iblk; rw [A_eq V D c 1]; try rfl) t d).trans
    (by unfold Dat.fetched Dat.blockOf iblk; rw [A_eq V D c 1]; try rfl)

theorem before_2 (c : Dev nD) (t : Fin cfg0.N) (d) : (𝕕 c).before 2 t d = iblk V c 2 t :=
  ((𝕕 c).before_in_eq_fetched 2 rfl (fun _ => rfl) (fun _ _ _ => rfl) (fun t => by rw [after_2 V D c t]; unfold Dat.blockOf iblk; rw [A_eq V D c 2]; try rfl) t d).trans
    (by unfold Dat.fetched Dat.blockOf iblk; rw [A_eq V D c 2]; try rfl)

theorem before_3 (c : Dev nD) (t : Fin cfg0.N) (d) : (𝕕 c).before 3 t d = iblk V c 3 t :=
  ((𝕕 c).before_in_eq_fetched 3 rfl (fun _ => rfl) (fun _ _ _ => rfl) (fun t => by rw [after_3 V D c t]; unfold Dat.blockOf iblk; rw [A_eq V D c 3]; try rfl) t d).trans
    (by unfold Dat.fetched Dat.blockOf iblk; rw [A_eq V D c 3]; try rfl)

theorem before_4 (c : Dev nD) (t : Fin cfg0.N) (d) : (𝕕 c).before 4 t d = iblk V c 4 t :=
  ((𝕕 c).before_in_eq_fetched 4 rfl (fun _ => rfl) (fun _ _ _ => rfl) (fun t => by rw [after_4 V D c t]; unfold Dat.blockOf iblk; rw [A_eq V D c 4]; try rfl) t d).trans
    (by unfold Dat.fetched Dat.blockOf iblk; rw [A_eq V D c 4]; try rfl)

theorem before_5 (c : Dev nD) (t : Fin cfg0.N) (d) : (𝕕 c).before 5 t d = iblk V c 5 t :=
  ((𝕕 c).before_in_eq_fetched 5 rfl (fun _ => rfl) (fun _ _ _ => rfl) (fun t => by rw [after_5 V D c t]; unfold Dat.blockOf iblk; rw [A_eq V D c 5]; try rfl) t d).trans
    (by unfold Dat.fetched Dat.blockOf iblk; rw [A_eq V D c 5]; try rfl)

theorem before_6 (c : Dev nD) (t : Fin cfg0.N) (d) : (𝕕 c).before 6 t d = iblk V c 6 t :=
  ((𝕕 c).before_in_eq_fetched 6 rfl (fun _ => rfl) (fun _ _ _ => rfl) (fun t => by rw [after_6 V D c t]; unfold Dat.blockOf iblk; rw [A_eq V D c 6]; try rfl) t d).trans
    (by unfold Dat.fetched Dat.blockOf iblk; rw [A_eq V D c 6]; try rfl)

theorem before_7 (c : Dev nD) (t : Fin cfg0.N) (d) : (𝕕 c).before 7 t d = iblk V c 7 t :=
  ((𝕕 c).before_in_eq_fetched 7 rfl (fun _ => rfl) (fun _ _ _ => rfl) (fun t => by rw [after_7 V D c t]; unfold Dat.blockOf iblk; rw [A_eq V D c 7]; try rfl) t d).trans
    (by unfold Dat.fetched Dat.blockOf iblk; rw [A_eq V D c 7]; try rfl)

theorem before_8 (c : Dev nD) (t : Fin cfg0.N) (d) : (𝕕 c).before 8 t d = iblk V c 8 t :=
  ((𝕕 c).before_in_eq_fetched 8 rfl (fun _ => rfl) (fun _ _ _ => rfl) (fun t => by rw [after_8 V D c t]; unfold Dat.blockOf iblk; rw [A_eq V D c 8]; try rfl) t d).trans
    (by unfold Dat.fetched Dat.blockOf iblk; rw [A_eq V D c 8]; try rfl)

theorem before_9 (c : Dev nD) (t : Fin cfg0.N) (d) : (𝕕 c).before 9 t d = iblk V c 9 t :=
  ((𝕕 c).before_in_eq_fetched 9 rfl (fun _ => rfl) (fun _ _ _ => rfl) (fun t => by rw [after_9 V D c t]; unfold Dat.blockOf iblk; rw [A_eq V D c 9]; try rfl) t d).trans
    (by unfold Dat.fetched Dat.blockOf iblk; rw [A_eq V D c 9]; try rfl)

/-- What window 11 may hold before point `t`: the rows of the points before are right. -/
theorem finds_11 (c : Dev nD) (t : Fin cfg0.N) (Y : S4x2048x128.Idx → Elt F .bf16)
    (h : ((𝕕 c).toRRel fgt (Rl V c)).Finds 11 t Y) (y : S4x2048x128.Idx) (hy : (y 1).val < 256 * t.val) : Y y = kval V c y := by
  have ht : t.val ≠ 0 := by intro h0; rw [h0] at hy; omega
  have hN : t.val < 8 := lt_of_lt_of_eq t.isLt N_0
  rcases (Pipeline.RDat.finds_of_pos _ (w := 11) rfl ht Y).mp h with hf | hl
  · have := (flush0_11 _).mp hf
    exfalso
    have e : (t.val - 1) % 8 = 7 := this
    omega
  · have := (𝕕 c).toRRel_leaves (w := 11) rfl hl
    exact this y (by show (y 1).val < 256 * (t.val - 1 + 1); omega)

/-- What window 12 may hold before point `t`: the rows of the points before are right. -/
theorem finds_12 (c : Dev nD) (t : Fin cfg0.N) (Y : S4x2048x128.Idx → Elt F .bf16)
    (h : ((𝕕 c).toRRel fgt (Rl V c)).Finds 12 t Y) (y : S4x2048x128.Idx) (hy : (y 1).val < 256 * t.val) : Y y = vval V c y := by
  have ht : t.val ≠ 0 := by intro h0; rw [h0] at hy; omega
  have hN : t.val < 8 := lt_of_lt_of_eq t.isLt N_0
  rcases (Pipeline.RDat.finds_of_pos _ (w := 12) rfl ht Y).mp h with hf | hl
  · have := (flush0_12 _).mp hf
    exfalso
    have e : (t.val - 1) % 8 = 7 := this
    omega
  · have := (𝕕 c).toRRel_leaves (w := 12) rfl hl
    exact this y (by show (y 1).val < 256 * (t.val - 1 + 1); omega)

/-- Each window's current staging memref. -/
abbrev ms_0 (t : Fin cfg0.N) : Memref sig .tc .vmem S256x2048 .f32 := win0_0.stage (cfg0.slots t 0)
abbrev ms_1 (t : Fin cfg0.N) : Memref sig .tc .vmem S2048x2048 .f32 := win0_1.stage (cfg0.slots t 1)
abbrev ms_2 (t : Fin cfg0.N) : Memref sig .tc .vmem S2048x512 .f32 := win0_2.stage (cfg0.slots t 2)
abbrev ms_3 (t : Fin cfg0.N) : Memref sig .tc .vmem S2048x512 .f32 := win0_3.stage (cfg0.slots t 3)
abbrev ms_4 (t : Fin cfg0.N) : Memref sig .tc .vmem S2048x128 .f32 := win0_4.stage (cfg0.slots t 4)
abbrev ms_5 (t : Fin cfg0.N) : Memref sig .tc .vmem S256x128 .f32 := win0_5.stage (cfg0.slots t 5)
abbrev ms_6 (t : Fin cfg0.N) : Memref sig .tc .vmem S256x128 .f32 := win0_6.stage (cfg0.slots t 6)
abbrev ms_7 (t : Fin cfg0.N) : Memref sig .tc .vmem S128x128 .bf16 := win0_7.stage (cfg0.slots t 7)
abbrev ms_8 (t : Fin cfg0.N) : Memref sig .tc .vmem S128x2048 .bf16 := win0_8.stage (cfg0.slots t 8)
abbrev ms_9 (t : Fin cfg0.N) : Memref sig .tc .vmem S128x2048 .bf16 := win0_9.stage (cfg0.slots t 9)
abbrev ms_10 (t : Fin cfg0.N) : Memref sig .tc .vmem S16x256x128 .bf16 := win0_10.stage (cfg0.slots t 10)
abbrev ms_11 (t : Fin cfg0.N) : Memref sig .tc .vmem S4x2048x128 .bf16 := win0_11.stage (cfg0.slots t 11)
abbrev ms_12 (t : Fin cfg0.N) : Memref sig .tc .vmem S4x2048x128 .bf16 := win0_12.stage (cfg0.slots t 12)
abbrev ms_13 (t : Fin cfg0.N) : Memref sig .tc .vmem S256x128 .f32 := win0_13.stage (cfg0.slots t 13)
abbrev ms_14 (t : Fin cfg0.N) : Memref sig .tc .vmem S4x128x128 .bf16 := win0_14.stage (cfg0.slots t 14)
abbrev ms_15 (t : Fin cfg0.N) : Memref sig .tc .vmem S4x128x128 .bf16 := win0_15.stage (cfg0.slots t 15)

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (ms_0 t) fullShare ((𝕕 c).before 0 t d))
    ∗ (∃ d, owns (c : Thread nD τ) (ms_1 t) fullShare ((𝕕 c).before 1 t d))
    ∗ (∃ d, owns (c : Thread nD τ) (ms_2 t) fullShare ((𝕕 c).before 2 t d))
    ∗ (∃ d, owns (c : Thread nD τ) (ms_3 t) fullShare ((𝕕 c).before 3 t d))
    ∗ (∃ d, owns (c : Thread nD τ) (ms_4 t) fullShare ((𝕕 c).before 4 t d))
    ∗ (∃ d, owns (c : Thread nD τ) (ms_5 t) fullShare ((𝕕 c).before 5 t d))
    ∗ (∃ d, owns (c : Thread nD τ) (ms_6 t) fullShare ((𝕕 c).before 6 t d))
    ∗ (∃ d, owns (c : Thread nD τ) (ms_7 t) fullShare ((𝕕 c).before 7 t d))
    ∗ (∃ d, owns (c : Thread nD τ) (ms_8 t) fullShare ((𝕕 c).before 8 t d))
    ∗ (∃ d, owns (c : Thread nD τ) (ms_9 t) fullShare ((𝕕 c).before 9 t d))
    ∗ (∃ Y, ⌜((𝕕 c).toRRel fgt (Rl V c)).Finds 10 t Y⌝ ∗ owns (c : Thread nD τ) (ms_10 t) fullShare Y)
    ∗ (∃ Y, ⌜((𝕕 c).toRRel fgt (Rl V c)).Finds 11 t Y⌝ ∗ owns (c : Thread nD τ) (ms_11 t) fullShare Y)
    ∗ (∃ Y, ⌜((𝕕 c).toRRel fgt (Rl V c)).Finds 12 t Y⌝ ∗ owns (c : Thread nD τ) (ms_12 t) fullShare Y)
    ∗ (∃ Y, ⌜((𝕕 c).toRRel fgt (Rl V c)).Finds 13 t Y⌝ ∗ owns (c : Thread nD τ) (ms_13 t) fullShare Y)
    ∗ (∃ Y, ⌜((𝕕 c).toRRel fgt (Rl V c)).Finds 14 t Y⌝ ∗ owns (c : Thread nD τ) (ms_14 t) fullShare Y)
    ∗ (∃ Y, ⌜((𝕕 c).toRRel fgt (Rl V c)).Finds 15 t Y⌝ ∗ owns (c : Thread nD τ) (ms_15 t) fullShare Y))

/-- and what it returns. -/
def bodyPost (c : Dev nD) (t : Fin cfg0.N) : sProp 𝕄 :=
  iprop((𝕕 c).Φ t.succ ∗ (𝕕 c).owesAt ι t.succ
    ∗ owns (c : Thread nD τ) (ms_0 t) fullShare ((𝕕 c).after 0 t)
    ∗ owns (c : Thread nD τ) (ms_1 t) fullShare ((𝕕 c).after 1 t)
    ∗ owns (c : Thread nD τ) (ms_2 t) fullShare ((𝕕 c).after 2 t)
    ∗ owns (c : Thread nD τ) (ms_3 t) fullShare ((𝕕 c).after 3 t)
    ∗ owns (c : Thread nD τ) (ms_4 t) fullShare ((𝕕 c).after 4 t)
    ∗ owns (c : Thread nD τ) (ms_5 t) fullShare ((𝕕 c).after 5 t)
    ∗ owns (c : Thread nD τ) (ms_6 t) fullShare ((𝕕 c).after 6 t)
    ∗ owns (c : Thread nD τ) (ms_7 t) fullShare ((𝕕 c).after 7 t)
    ∗ owns (c : Thread nD τ) (ms_8 t) fullShare ((𝕕 c).after 8 t)
    ∗ owns (c : Thread nD τ) (ms_9 t) fullShare ((𝕕 c).after 9 t)
    ∗ (∃ X, ⌜Rl V c 10 t X⌝ ∗ owns (c : Thread nD τ) (ms_10 t) fullShare X)
    ∗ (∃ X, ⌜Rl V c 11 t X⌝ ∗ owns (c : Thread nD τ) (ms_11 t) fullShare X)
    ∗ (∃ X, ⌜Rl V c 12 t X⌝ ∗ owns (c : Thread nD τ) (ms_12 t) fullShare X)
    ∗ (∃ X, ⌜Rl V c 13 t X⌝ ∗ owns (c : Thread nD τ) (ms_13 t) fullShare X)
    ∗ (∃ X, ⌜Rl V c 14 t X⌝ ∗ owns (c : Thread nD τ) (ms_14 t) fullShare X)
    ∗ (∃ X, ⌜Rl V c 15 t X⌝ ∗ owns (c : Thread nD τ) (ms_15 t) fullShare X))

set_option maxHeartbeats 6000000 in
/-- The body at any point. -/
theorem sound_body (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before_0, before_1, before_2, before_3, before_4, before_5, before_6, before_7, before_8, before_9, after_0, after_1, after_2, after_3, after_4, after_5, after_6, after_7, after_8, after_9]
  rw [show (𝕕 c).owesAt ι t.succ = (𝕕 c).owesAt ι t.castSucc from rfl,
    show (𝕕 c).Φ t.castSucc = ΦP (Ix := Ix) (U := U) (Lvl := Lvl) V c t.val from rfl,
    show (𝕕 c).Φ t.succ = ΦP (Ix := Ix) (U := U) (Lvl := Lvl) V c (t.val + 1) from rfl]
  unfold ΦP
  iintro ⟨⟨⟨%w0, %w1, %w2, %w3, %hw, S0, S1, S2, S3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  have hk := finds_11 V D c t Y11 hY11
  have hv := finds_12 V D c t Y12 hY12
  by_cases h0 : t.val = 0
  · have h7' : t.val ≠ 7 := by omega
    obtain rfl : t = z0 := Fin.ext h0
    clear hw
    iapply (runA (Ix := Ix) (U := U) (Lvl := Lvl) 𝒱₀ c (grid0.coords z0) _ _ _ _ _ _ _ _ _ _ _ _ _ _ _ _ _ _ _ _ _ _ _ _ _ _ _ _ _ _ _ _ _ _ _ _ _ _ _ _ ((first_iff z0).mpr h0) (fun h => h7' ((last_iff z0).mp h)) (iblk V c 0 z0) (iblk V c 1 z0) (iblk V c 2 z0) (iblk V c 3 z0) (iblk V c 4 z0) (iblk V c 5 z0) (iblk V c 6 z0) (iblk V c 7 z0) (iblk V c 8 z0) (iblk V c 9 z0) Y11 Y12  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexists _; iexact H13
    isplitl [H14]; · iexists _; iexact H14
    isplitl [H15]; · iexists _; iexact H15
    isplitl [S0]; · iexists _; iexact S0
    isplitl [S1]; · iexists _; iexact S1
    isplitl [S2]; · iexists _; iexact S2
    isplitl [S3]; · iexists _; iexact S3
    iintro ⟨H0, H1, H2, H3, H4, H5, H6, H7, H8, H9, H10, H11, H12, H13, ⟨%X14, H14⟩, ⟨%X15, H15⟩, S0, S1, S2, S3⟩
    isplitl [S0 S1 S2 S3 Hb Hg]
    · isplitl [S0 S1 S2 S3]
      · iexists _, _, _, _; isplitr; swap
        · isplitl [S0]; · iexact S0
          isplitl [S1]; · iexact S1
          isplitl [S2]; · iexact S2
          iexact S3
        · ipureintro; exact fun _ => ⟨rfl, rfl, rfl, rfl⟩
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro; rfl
    isplitl [H11]
    · iexists _; isplitr; swap; · iexact H11
      ipureintro; exact put4_rows (kv V c) z0 Y11 hk
    isplitl [H12]
    · iexists _; isplitr; swap; · iexact H12
      ipureintro; exact put4_rows (vv V c) z0 Y12 hv
    isplitl [H13]
    · iexists _; isplitr; swap; · iexact H13
      ipureintro; rfl
    isplitl [H14]
    · iexists _; isplitr; swap; · iexact H14
      ipureintro; exact fun h7 => absurd h7 h7'
    iexists _; isplitr; swap; · iexact H15
    ipureintro; exact fun h7 => absurd h7 h7'

  · obtain ⟨rfl, rfl, rfl, rfl⟩ := hw h0
    by_cases h7' : t.val = 7
    · iapply (runC (Ix := Ix) (U := U) (Lvl := Lvl) 𝒱₀ c (grid0.coords t) _ _ _ _ _ _ _ _ _ _ _ _ _ _ _ _ _ _ _ _ _ _ _ _ _ _ _ _ _ _ _ _ _ _ _ _ _ _ _ _ (fun h => h0 ((first_iff t).mp h)) ((last_iff t).mpr h7') (iblk V c 0 t) (iblk V c 1 t) (iblk V c 2 t) (iblk V c 3 t) (iblk V c 4 t) (iblk V c 5 t) (iblk V c 6 t) (iblk V c 7 t) (iblk V c 8 t) (iblk V c 9 t) Y11 Y12 (W0 V c) (W1 V c) (W2 V c) (W3 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexists _; iexact H13
      isplitl [H14]; · iexists _; iexact H14
      isplitl [H15]; · iexists _; iexact H15
      isplitl [S0]; · iexact S0
      isplitl [S1]; · iexact S1
      isplitl [S2]; · iexact S2
      isplitl [S3]; · iexact S3
      iintro ⟨H0, H1, H2, H3, H4, H5, H6, H7, H8, H9, H10, H11, H12, H13, H14, H15, S0, S1, S2, S3⟩
      isplitl [S0 S1 S2 S3 Hb Hg]
      · isplitl [S0 S1 S2 S3]
        · iexists _, _, _, _; isplitr; swap
          · isplitl [S0]; · iexact S0
            isplitl [S1]; · iexact S1
            isplitl [S2]; · iexact S2
            iexact S3
          · ipureintro; exact fun _ => ⟨rfl, rfl, rfl, rfl⟩
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro; rfl
      isplitl [H11]
      · iexists _; isplitr; swap; · iexact H11
        ipureintro; exact put4_rows (kv V c) t Y11 hk
      isplitl [H12]
      · iexists _; isplitr; swap; · iexact H12
        ipureintro; exact put4_rows (vv V c) t Y12 hv
      isplitl [H13]
      · iexists _; isplitr; swap; · iexact H13
        ipureintro; rfl
      isplitl [H14]
      · iexists _; isplitr; swap; · iexact H14
        ipureintro; intro h7; obtain rfl : t = z7 := Fin.ext h7; exact congrArg (fun K => stack4 (ckpay (iblk V c 8 z7) K)) (put4_last (kv V c) z7 rfl Y11 hk)
      iexists _; isplitr; swap; · iexact H15
      ipureintro; intro h7; obtain rfl : t = z7 := Fin.ext h7; exact congrArg (fun K => stack4 (cvpay (iblk V c 9 z7) K)) (put4_last (vv V c) z7 rfl Y12 hv)
    · iapply (runB (Ix := Ix) (U := U) (Lvl := Lvl) 𝒱₀ c (grid0.coords t) _ _ _ _ _ _ _ _ _ _ _ _ _ _ _ _ _ _ _ _ _ _ _ _ _ _ _ _ _ _ _ _ _ _ _ _ _ _ _ _ (fun h => h0 ((first_iff t).mp h)) (fun h => h7' ((last_iff t).mp h)) (iblk V c 0 t) (iblk V c 1 t) (iblk V c 2 t) (iblk V c 3 t) (iblk V c 4 t) (iblk V c 5 t) (iblk V c 6 t) (iblk V c 7 t) (iblk V c 8 t) (iblk V c 9 t) Y11 Y12 (W0 V c) (W1 V c) (W2 V c) (W3 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexists _; iexact H13
      isplitl [H14]; · iexists _; iexact H14
      isplitl [H15]; · iexists _; iexact H15
      isplitl [S0]; · iexact S0
      isplitl [S1]; · iexact S1
      isplitl [S2]; · iexact S2
      isplitl [S3]; · iexact S3
      iintro ⟨H0, H1, H2, H3, H4, H5, H6, H7, H8, H9, H10, H11, H12, H13, ⟨%X14, H14⟩, ⟨%X15, H15⟩, S0, S1, S2, S3⟩
      isplitl [S0 S1 S2 S3 Hb Hg]
      · isplitl [S0 S1 S2 S3]
        · iexists _, _, _, _; isplitr; swap
          · isplitl [S0]; · iexact S0
            isplitl [S1]; · iexact S1
            isplitl [S2]; · iexact S2
            iexact S3
          · ipureintro; exact fun _ => ⟨rfl, rfl, rfl, rfl⟩
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro; rfl
      isplitl [H11]
      · iexists _; isplitr; swap; · iexact H11
        ipureintro; exact put4_rows (kv V c) t Y11 hk
      isplitl [H12]
      · iexists _; isplitr; swap; · iexact H12
        ipureintro; exact put4_rows (vv V c) t Y12 hv
      isplitl [H13]
      · iexists _; isplitr; swap; · iexact H13
        ipureintro; rfl
      isplitl [H14]
      · iexists _; isplitr; swap; · iexact H14
        ipureintro; exact fun h7 => absurd h7 h7'
      iexists _; isplitr; swap; · iexact H15
      ipureintro; exact fun h7 => absurd h7 h7'

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, the outputs held to `Rl`. -/
theorem body_obligation (c : Dev nD) : Pipeline.BodyObligationRel (𝕕 c) (defs₀ (F := F)) 𝒱₀ ι Set.univ fgt (Rl V c) := fun t => by
  rw [bigSep_W0, bigSep_W0, defs₀_row]
  exact triple_restated (sound_body (U := U) (Lvl := Lvl) 𝒱₀ V D ι c t) rfl .rfl fun _ => .rfl

theorem leaf_10 (c : Dev nD) (u : Fin cfg0.N) (X) (hf : (cfg0.win 10).flush u = true) (hl : ((𝕕 c).toRRel fgt (Rl V c)).Leaves 10 u X) : (𝕕 c).after 10 u = X :=
  ((𝕕 c).toRRel_leaves (w := 10) rfl hl : Rl V c 10 u X).symm

theorem leaf_13 (c : Dev nD) (u : Fin cfg0.N) (X) (hf : (cfg0.win 13).flush u = true) (hl : ((𝕕 c).toRRel fgt (Rl V c)).Leaves 13 u X) : (𝕕 c).after 13 u = X :=
  ((𝕕 c).toRRel_leaves (w := 13) rfl hl : Rl V c 13 u X).symm

theorem leaf_11 (c : Dev nD) (u : Fin cfg0.N) (X) (hf : (cfg0.win 11).flush u = true) (hl : ((𝕕 c).toRRel fgt (Rl V c)).Leaves 11 u X) : (𝕕 c).after 11 u = X := by
  have h7 : u.val % 8 = 7 := (flush0_11 u).mp hf
  have hR : Rl V c 11 u X := (𝕕 c).toRRel_leaves (w := 11) rfl hl
  exact (funext fun y : S4x2048x128.Idx => hR y (by have : (y 1).val < 2048 := (y 1).isLt; omega)).symm

theorem leaf_12 (c : Dev nD) (u : Fin cfg0.N) (X) (hf : (cfg0.win 12).flush u = true) (hl : ((𝕕 c).toRRel fgt (Rl V c)).Leaves 12 u X) : (𝕕 c).after 12 u = X := by
  have h7 : u.val % 8 = 7 := (flush0_12 u).mp hf
  have hR : Rl V c 12 u X := (𝕕 c).toRRel_leaves (w := 12) rfl hl
  exact (funext fun y : S4x2048x128.Idx => hR y (by have : (y 1).val < 2048 := (y 1).isLt; omega)).symm

theorem leaf_14 (c : Dev nD) (u : Fin cfg0.N) (X) (hf : (cfg0.win 14).flush u = true) (hl : ((𝕕 c).toRRel fgt (Rl V c)).Leaves 14 u X) : (𝕕 c).after 14 u = X := by
  have h7 : u.val % 8 = 7 := (flush0_14 u).mp hf
  have hN : u.val < 8 := lt_of_lt_of_eq u.isLt N0
  have hR : Rl V c 14 u X := (𝕕 c).toRRel_leaves (w := 14) rfl hl
  exact (hR (by omega)).symm

theorem leaf_15 (c : Dev nD) (u : Fin cfg0.N) (X) (hf : (cfg0.win 15).flush u = true) (hl : ((𝕕 c).toRRel fgt (Rl V c)).Leaves 15 u X) : (𝕕 c).after 15 u = X := by
  have h7 : u.val % 8 = 7 := (flush0_15 u).mp hf
  have hN : u.val < 8 := lt_of_lt_of_eq u.isLt N0
  have hR : Rl V c 15 u X := (𝕕 c).toRRel_leaves (w := 15) rfl hl
  exact (hR (by omega)).symm

set_option maxHeartbeats 2000000 in
/-- What a window holds where it is written back is what the exact data name. -/
theorem leaf (c : Dev nD) (u : Fin cfg0.N) : ∀ (w : Fin cfg0.W) (X), (cfg0.win w).flush u = true →
    ((𝕕 c).toRRel fgt (Rl V c)).Leaves w u X → (𝕕 c).after w u = X
  | ⟨0, _⟩ => fun _ hf _ => absurd (hf : (cfg0.win 0).flush u = true) Bool.false_ne_true
  | ⟨1, _⟩ => fun _ hf _ => absurd (hf : (cfg0.win 1).flush u = true) Bool.false_ne_true
  | ⟨2, _⟩ => fun _ hf _ => absurd (hf : (cfg0.win 2).flush u = true) Bool.false_ne_true
  | ⟨3, _⟩ => fun _ hf _ => absurd (hf : (cfg0.win 3).flush u = true) Bool.false_ne_true
  | ⟨4, _⟩ => fun _ hf _ => absurd (hf : (cfg0.win 4).flush u = true) Bool.false_ne_true
  | ⟨5, _⟩ => fun _ hf _ => absurd (hf : (cfg0.win 5).flush u = true) Bool.false_ne_true
  | ⟨6, _⟩ => fun _ hf _ => absurd (hf : (cfg0.win 6).flush u = true) Bool.false_ne_true
  | ⟨7, _⟩ => fun _ hf _ => absurd (hf : (cfg0.win 7).flush u = true) Bool.false_ne_true
  | ⟨8, _⟩ => fun _ hf _ => absurd (hf : (cfg0.win 8).flush u = true) Bool.false_ne_true
  | ⟨9, _⟩ => fun _ hf _ => absurd (hf : (cfg0.win 9).flush u = true) Bool.false_ne_true
  | ⟨10, _⟩ => leaf_10 V D c u
  | ⟨11, _⟩ => leaf_11 V D c u
  | ⟨12, _⟩ => leaf_12 V D c u
  | ⟨13, _⟩ => leaf_13 V D c u
  | ⟨14, _⟩ => leaf_14 V D c u
  | ⟨15, _⟩ => leaf_15 V D c u
  | ⟨_ + 16, h⟩ => absurd h (Nat.not_lt.2 (Nat.le_add_left _ _))

/-- What an array may hold at the end is what the exact data name. -/
theorem arr_eq (c : Dev nD) (w : Fin cfg0.W) (G) (hG : ((𝕕 c).toRRel fgt (Rl V c)).ArrAt w cfg0.N G) : G = (𝕕 c).arrAt w cfg0.N := by
  obtain ⟨X, hX, hA⟩ := hG.exists_exact
  exact hA (𝕕 c).after fun u hu hf => leaf V D c u w (X u) hf (hX u hu hf)

end Cert.KernelIdeal.Prep

end
-- ==== Proof.KernelIdeal.Region0.lean ====
/-
  The first custom call's region: its record for the program's run, entered from the buffers before it and left with its six results at what
  the proof data name.
-/
module

public import proofs.«01_k».proof.Proof.KernelIdeal.PrepDat
public import proofs.«01_k».proof.Proof.Gen.Own.KernelIdeal.RegionsD
public import Idealize.ShloMosaic.Lib.Pipeline.RegionArraysF

@[expose] public section

set_option maxRecDepth 16384
set_option maxHeartbeats 1000000

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Gen0

variable {Ix : Type} [DecidableEq Ix] {U : Type} [URA U] {Lvl : Type} [Preorder Lvl]
variable (V : (c : Dev nD) → (b : Ref sig .tc) → Buf (Elt F) ((c : Thread nD τ).loc b)) (D : Dev nD → CellTallies nD τ sig Ix)

/-- At the end of the region every array holds what the exact data name. -/
theorem arrays_end (c : Dev nD) :
    ((dat (Ix := Ix) (U := U) (Lvl := Lvl) V D c).toRRel fgt (Rl V c)).arraysAt cfg0.N
      ⊢ (dat (Ix := Ix) (U := U) (Lvl := Lvl) V D c).arrays ((dat (Ix := Ix) (U := U) (Lvl := Lvl) V D c).arrAt · cfg0.N) := by
  unfold Pipeline.RDat.arraysAt Dat.arrays
  refine (BI.bigSep_exists_pi Finset.univ _).trans ?_
  iintro ⟨%A, H⟩
  ihave H' := (BI.bigSep_pure_sep Finset.univ (fun w => ((dat (Ix := Ix) (U := U) (Lvl := Lvl) V D c).toRRel fgt (Rl V c)).ArrAt w cfg0.N (A w)) _) $$ H
  icases H' with ⟨%hA, H⟩
  obtain rfl : A = ((dat (Ix := Ix) (U := U) (Lvl := Lvl) V D c).arrAt · cfg0.N) := funext fun w => arr_eq V D c w (A w) (hA w (Finset.mem_univ w))
  iexact H

/-- The invariant before the first point, from the scoped buffers and the random-number register, -/
theorem Φ_in (c : Dev nD) :
    iprop(Pipeline.scopedRest (Ix := Ix) (Name := ℕ) (U := U) (Lvl := Lvl) (Val := Elt F) spec0 c ∗ ∃ r, prngReg c r)
      ⊢ ΦP (Ix := Ix) (U := U) (Lvl := Lvl) V c 0 := by
  unfold ΦP
  simp only [owns_whole]
  rw [scopedRest0_split]
  iintro ⟨⟨⟨⟨%f0, H0⟩, ⟨%f1, H1⟩, ⟨%f2, H2⟩, ⟨%f3, H3⟩⟩, Hb⟩, Hg⟩
  isplitl [H0 H1 H2 H3]
  · iexists f0, f1, f2, f3
    isplitr; · ipureintro; exact fun h => absurd rfl h
    isplitl [H0]; · iexact H0
    isplitl [H1]; · iexact H1
    isplitl [H2]; · iexact H2
    iexact H3
  isplitl [Hb]; · iexact Hb
  iexact Hg

/-- and what it gives back after the last. -/
theorem Φ_out (c : Dev nD) (n : ℕ) : ΦP (Ix := Ix) (U := U) (Lvl := Lvl) V c n
    ⊢ iprop(Pipeline.scopedRest (Ix := Ix) (Name := ℕ) (U := U) (Lvl := Lvl) (Val := Elt F) spec0 c ∗ ∃ r, prngReg c r) := by
  unfold ΦP
  simp only [owns_whole]
  rw [scopedRest0_split]
  iintro ⟨⟨%f0, %f1, %f2, %f3, %hf, H0, H1, H2, H3⟩, Hb, Hg⟩
  isplitl [H0 H1 H2 H3 Hb]
  · isplitl [H0 H1 H2 H3]
    · isplitl [H0]; · iexists f0; iexact H0
      isplitl [H1]; · iexists f1; iexact H1
      isplitl [H2]; · iexists f2; iexact H2
      iexists f3; iexact H3
    iexact Hb
  iexact Hg

end Gen0

/-! ## The region's buffers -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

theorem arr0_S : Pipeline.arrRefs (τ := τ) spec0 ⊆ Pipeline.ucRefs τ sig :=
  Pipeline.arrRefs_sub_ucRefs spec0 (by decide)

/-- The contents at the region's entry. -/
abbrev Ve0 (m : (ℓ : Loc nD τ sig) → Buf (Elt F) ℓ) (c : Dev nD) (b : Ref sig .tc) : Buf (Elt F) ((c : Thread nD τ).loc b) := V16 m c (Proc.devRef .tc b)

variable (m : (ℓ : Loc nD τ sig) → Buf (Elt F) ℓ) (outs : Outs (F := F))

theorem rest0_eq (c : Dev nD) : ∀ b ∈ (Pipeline.ucRefs τ sig) \ Pipeline.arrRefs (τ := τ) spec0, V17 m outs c b = V16 m c b := fun b hb => by
  have hn : b ∉ Pipeline.arrRefs (τ := τ) spec0 := (Finset.mem_sdiff.mp hb).2
  have h0 : b ≠ Proc.devRef .tc main_v128_0 := by rintro rfl; exact hn (arr0_mem 10)
  have h1 : b ≠ Proc.devRef .tc main_v128_1 := by rintro rfl; exact hn (arr0_mem 11)
  have h2 : b ≠ Proc.devRef .tc main_v128_2 := by rintro rfl; exact hn (arr0_mem 12)
  have h3 : b ≠ Proc.devRef .tc main_v128_3 := by rintro rfl; exact hn (arr0_mem 13)
  have h4 : b ≠ Proc.devRef .tc main_v128_4 := by rintro rfl; exact hn (arr0_mem 14)
  have h5 : b ≠ Proc.devRef .tc main_v128_5 := by rintro rfl; exact hn (arr0_mem 15)
  simp only [V17, Function.update_of_ne h0, Function.update_of_ne h1, Function.update_of_ne h2, Function.update_of_ne h3, Function.update_of_ne h4, Function.update_of_ne h5]

theorem V17_at_5 (c : Dev nD) : V17 m outs c (Proc.devRef .tc main_v128_5) = outs 17 main_v128_5 c := by
  unfold V17; rw [Function.update_self]
theorem V17_at_4 (c : Dev nD) : V17 m outs c (Proc.devRef .tc main_v128_4) = outs 17 main_v128_4 c := by
  unfold V17; rw [Function.update_of_ne (StableHlo.devRef_ne_of_ne (by decide)), Function.update_self]
theorem V17_at_3 (c : Dev nD) : V17 m outs c (Proc.devRef .tc main_v128_3) = outs 17 main_v128_3 c := by
  unfold V17; iterate 2 rw [Function.update_of_ne (StableHlo.devRef_ne_of_ne (by decide))]
  rw [Function.update_self]
theorem V17_at_2 (c : Dev nD) : V17 m outs c (Proc.devRef .tc main_v128_2) = outs 17 main_v128_2 c := by
  unfold V17; iterate 3 rw [Function.update_of_ne (StableHlo.devRef_ne_of_ne (by decide))]
  rw [Function.update_self]
theorem V17_at_1 (c : Dev nD) : V17 m outs c (Proc.devRef .tc main_v128_1) = outs 17 main_v128_1 c := by
  unfold V17; iterate 4 rw [Function.update_of_ne (StableHlo.devRef_ne_of_ne (by decide))]
  rw [Function.update_self]
theorem V17_at_0 (c : Dev nD) : V17 m outs c (Proc.devRef .tc main_v128_0) = outs 17 main_v128_0 c := by
  unfold V17; iterate 5 rw [Function.update_of_ne (StableHlo.devRef_ne_of_ne (by decide))]
  rw [Function.update_self]

/-! ## The families of proof data -/

/-- Nothing is owed anywhere. -/
abbrev D0 : Dev nD → CellTallies nD τ sig Unit := fun _ => 0

/-- The levels: the one index at every TensorCore cell, at level 0. -/
def lvL : GSem nD τ sig → Finset Unit := fun g => if g.1.2 = .tc then {()} else ∅
def lv0 : GSem nD τ sig → Unit → ℕ := fun _ _ => 0

theorem lvL_off : ∀ g : GSem nD τ sig, g.1.2 ≠ .tc → lvL g = ∅ := fun _ h => if_neg h

theorem cut (p : Fin 6) : Pipeline.LevelCut (pcfgs (F := F)) adm () lvL lv0 p D0 (fun _ => 0) where
  hι _ _ _ := by unfold lvL; rw [if_pos rfl]; exact Finset.mem_singleton_self _
  hιb _ _ _ := le_rfl
  hD _ _ _ h := absurd h (lt_irrefl _)

/-- The first region's data. -/
abbrev dat0 (c : Dev nD) : Dat τ (Elt F) Unit ℕ (UR sig nD τ) ℕ cfg0 c := dat (Ve0 m) D0 c

/-- The exact family. -/
def pd0 : (p : Fin 6) → (c : Dev nD) → Dat τ (Elt F) Unit ℕ (UR sig nD τ) ℕ (cfgs p) c
  | ⟨0, _⟩ => fun c => dat0 m c
  | ⟨1, _⟩ => fun c => Own.K1.dat Variants.none (Own.Ve1 m outs) D0 c
  | ⟨2, _⟩ => fun c => Own.K2.dat Variants.none (Own.Ve2 m outs) D0 c
  | ⟨3, _⟩ => fun c => Own.K3.dat Variants.none (Own.Ve3 m outs) D0 c
  | ⟨4, _⟩ => fun c => Own.K4.dat Variants.none (Own.Ve4 m outs) D0 c
  | ⟨5, _⟩ => fun c => Own.K5.dat Variants.none (Own.Ve5 m outs) D0 c
  | ⟨_ + 6, h⟩ => absurd h (Nat.not_lt.2 (Nat.le_add_left _ _))

abbrev pd : (p : Fin 6) → (c : Dev nD) → Dat τ (Elt F) Unit ℕ (UR sig nD τ) ℕ (cfgs p) c :=
  Own.pdatsD m outs Variants.none (pd0 m outs) D0 D0 D0 D0 D0

/-- The family the run is over: the first region's outputs held to predicates, the others exact. -/
def rdats : (p : Fin 6) → (c : Dev nD) → Pipeline.RDat τ (Elt F) Unit ℕ (UR sig nD τ) ℕ (cfgs p) c
  | ⟨0, _⟩ => fun c => (dat0 m c).toRRel fgt (Rl (Ve0 m) c)
  | ⟨k + 1, h⟩ => fun c => (pd m outs ⟨k + 1, h⟩ c).toR

theorem kit0 : Pipeline.PLaunchFacts (nD := nD) (τ := τ) (pcfgs (F := F)) 0 := launch0.toP

theorem dat0_share (c : Dev nD) (w : Fin cfg0.W) : (dat0 m c).share w = fullShare := (dat0 m c).share_full (fun _ => rfl) w

include outs in
set_option backward.isDefEq.respectTransparency.types false in
/-- The region's arrays at contents `G` are its buffers held at any valuation that has them at `G`. -/
theorem arrays_held0 (c : Dev nD) (G : (w : Fin cfg0.W) → Buf (Elt F) ((cfg0.win w).arr.view.loc (c.tc : Thread nD τ))) (Wc : Valuation τ sig (Elt F))
    (hG : ∀ w, G w = Wc (Proc.devRef .tc (Pipeline.arrRef spec0 w))) :
    ((dat0 m c).arrays G : sProp 𝕄) = StableHlo.held (c.tc : Thread nD τ) (Pipeline.arrRefs (τ := τ) spec0) Wc :=
  Pipeline.arrays_held (pcfgs (F := F)) adm (pd m outs) 0 launch0.toP c (dat0_share m c) G Wc hG

/-- The unknowns hold what the first region's data name. -/
abbrev Hout : Prop := ∀ (c : Dev nD) (w : Fin cfg0.W), (dat0 m c).arrAt w cfg0.N = V17 m outs c (Proc.devRef .tc (Pipeline.arrRef spec0 w))

set_option backward.isDefEq.respectTransparency.types false in
/-- The first region's record: its arrays held at `V16` in and at `V17` out, every other held buffer riding at `V16`. -/
def R0 (hout : Hout m outs) :
    Pipeline.RDat.RegionSeg (pcfgs (F := F)) adm (rdats m outs) () defs₀ Variants.none lvL lv0 0 where
  win := (kit0 (F := F)).to₀.win
  block_pos := (kit0 (F := F)).to₀.block_pos
  stage_whole := (kit0 (F := F)).to₀.stage_whole
  K := PEmpty
  osem k := k.elim
  ho := Pipeline.OwnSemFacts.none _
  hbody c := (body_obligation Variants.none (Ve0 m) D0 () c).toRRel
  hwaits c := Pipeline.RDat.cellsWaits_of_cut (Pipeline.pin (pcfgs (F := F)) adm) (rdats m outs) () 0 c 0 (D0 c) (fun _ => rfl)
    ((cut (F := F) 0).hι c) ((cut (F := F) 0).hιb c) ((cut (F := F) 0).hD c)
  pre c := iprop(StableHlo.held (c.tc : Thread nD τ) (Pipeline.arrRefs (τ := τ) spec0) (V16 m c) ∗ (∃ r, prngReg c r)
    ∗ StableHlo.held (c.tc : Thread nD τ) ((Pipeline.ucRefs τ sig) \ Pipeline.arrRefs (τ := τ) spec0) (V16 m c) ∗ ∃ Wd, owes (c : Thread nD τ) (D0 c) Wd)
  post c := iprop(StableHlo.held (c.tc : Thread nD τ) (Pipeline.arrRefs (τ := τ) spec0) (V17 m outs c) ∗ (∃ r, prngReg c r)
    ∗ StableHlo.held (c.tc : Thread nD τ) ((Pipeline.ucRefs τ sig) \ Pipeline.arrRefs (τ := τ) spec0) (V16 m c) ∗ ∃ Wd, owes (c : Thread nD τ) (D0 c) Wd)
  X c := iprop(∃ r, prngReg c r)
  Y c := iprop(∃ r, prngReg c r)
  Z c := StableHlo.held (c.tc : Thread nD τ) ((Pipeline.ucRefs τ sig) \ Pipeline.arrRefs (τ := τ) spec0) (V16 m c)
  hentry c := by
    show _ ⊢ |={Set.univ}=> iprop((dat0 m c).arrays ((dat0 m c).arrAt · 0) ∗ Pipeline.prefHeld (pcfgs (F := F) 0).pre c (fun _ => fullShare) (adm (F := F) 0).1
        ∗ (dat0 m c).owesAt () 0 ∗ _ ∗ _)
    rw [Pipeline.prefHeld_of_none _ rfl, arrays_held0 m outs c ((dat0 m c).arrAt · 0) (V16 m c) (fun _ => rfl)]
    iintro ⟨⟨Ha, Hp, Hr, HO⟩, -, -⟩
    imodintro
    isplitl [Ha]; · iexact Ha
    isplitr; · iempintro
    isplitl [HO]
    · unfold Dat.owesAt Pipeline.owesWithin Dat.bound
      icases HO with ⟨%Wd, HO⟩; iexists Wd; isplitr; · ipureintro; exact fun _ _ => Or.inl trivial
      iexact HO
    isplitl [Hp]; · iexact Hp
    iexact Hr
  hin c := (show _ ⊢ iprop(Pipeline.scopedRest (Ix := Unit) (Name := ℕ) (U := UR sig nD τ) (Lvl := ℕ) (Val := Elt F) spec0 c ∗ ∃ r, prngReg c r) from by
    iintro ⟨Hp, -, Hr⟩
    isplitl [Hr]; · iexact Hr
    iexact Hp).trans (Φ_in (Ve0 m) c)
  hout c := (Φ_out (Ve0 m) c _).trans (by
    rw [Pipeline.ownSems0_none]
    iintro ⟨Hr, Hp⟩
    isplitl [Hp]; · iexact Hp
    isplitr; · iempintro
    iexact Hr)
  hexit c := by
    show iprop(((dat0 m c).toRRel fgt (Rl (Ve0 m) c)).arraysAt cfg0.N ∗ (dat0 m c).owesAt () (Fin.last cfg0.N) ∗ _ ∗ _) ⊢ _
    iintro ⟨Ha, HO, Hp, Hr⟩
    ihave Ha := (arrays_end (Ve0 m) D0 c) $$ Ha
    imodintro
    rw [← arrays_held0 m outs c ((dat0 m c).arrAt · cfg0.N) (V17 m outs c) (hout c)]
    isplitl [Ha]; · iexact Ha
    isplitl [Hp]; · iexact Hp
    isplitl [Hr]; · iexact Hr
    unfold Dat.owesAt Pipeline.owesWithin
    icases HO with ⟨%Wd, -, HO⟩; iexists Wd; iexact HO

/-- What every region is entered from and leaves beside the buffers. -/
abbrev Est : Fin 7 → Dev nD → sProp 𝕄 := fun _ c => iprop((∃ r, prngReg c r) ∗ ∃ Wd, owes (c : Thread nD τ) (D0 c) Wd)

theorem hpre0 (hout : Hout m outs) (c : Dev nD) :
    (iprop(StableHlo.held (c : Thread nD τ) (Pipeline.ucRefs τ sig) (V16 m c) ∗ Est (F := F) 0 c) : sProp 𝕄) ⊢ ((R0 m outs hout).pre c : sProp 𝕄) := by
  show _ ⊢ (iprop(StableHlo.held (c.tc : Thread nD τ) (Pipeline.arrRefs (τ := τ) spec0) (V16 m c) ∗ (∃ r, prngReg c r)
    ∗ StableHlo.held (c.tc : Thread nD τ) ((Pipeline.ucRefs τ sig) \ Pipeline.arrRefs (τ := τ) spec0) (V16 m c) ∗ ∃ Wd, owes (c : Thread nD τ) (D0 c) Wd) : sProp 𝕄)
  rw [StableHlo.held_sub_split (c : Thread nD τ) arr0_S (V16 m c)]
  iintro ⟨⟨Ha, Hr⟩, Hp, HO⟩
  isplitl [Ha]; · iexact Ha
  isplitl [Hp]; · iexact Hp
  isplitl [Hr]; · iexact Hr
  iexact HO

theorem hpost0 (hout : Hout m outs) (c : Dev nD) :
    ((R0 m outs hout).post c : sProp 𝕄) ⊢ (iprop(StableHlo.held (c : Thread nD τ) (Pipeline.ucRefs τ sig) (V17 m outs c) ∗ Est (F := F) 1 c) : sProp 𝕄) := by
  show (iprop(StableHlo.held (c.tc : Thread nD τ) (Pipeline.arrRefs (τ := τ) spec0) (V17 m outs c) ∗ (∃ r, prngReg c r)
    ∗ StableHlo.held (c.tc : Thread nD τ) ((Pipeline.ucRefs τ sig) \ Pipeline.arrRefs (τ := τ) spec0) (V16 m c) ∗ ∃ Wd, owes (c : Thread nD τ) (D0 c) Wd) : sProp 𝕄) ⊢ _
  rw [StableHlo.held_sub_split (c : Thread nD τ) arr0_S (V17 m outs c),
    StableHlo.held_congr (c : Thread nD τ) (S := (Pipeline.ucRefs τ sig) \ Pipeline.arrRefs (τ := τ) spec0) (rest0_eq m outs c)]
  iintro ⟨Ha, Hp, Hr, HO⟩
  isplitl [Ha Hr]; · isplitl [Ha] <;> iassumption
  isplitl [Hp]; · iexact Hp
  iexact HO

set_option backward.isDefEq.respectTransparency.types false in
/-- An exact region's record serves the mixed family. -/
def recast {p : Fin 6} (h : ∀ c, rdats m outs p c = (pd m outs p c).toR) (h0 : ∀ c t, (rdats m outs p c).owed t = D0 c)
    (R : Pipeline.RegionSeg (pcfgs (F := F)) adm (pd m outs) () defs₀ Variants.none lvL lv0 p) :
    Pipeline.RDat.RegionSeg (pcfgs (F := F)) adm (rdats m outs) () defs₀ Variants.none lvL lv0 p where
  win := R.win
  block_pos := R.block_pos
  stage_whole := R.stage_whole
  K := R.K
  fK := R.fK
  osem := R.osem
  ho := R.ho
  hbody c := by
    rw [show rdats m outs p c = (pd m outs p c).toR from h c]
    exact (R.hbody c).toR
  hwaits c := Pipeline.RDat.cellsWaits_of_cut (Pipeline.pin (pcfgs (F := F)) adm) (rdats m outs) () p c 0 (D0 c) (h0 c)
    ((cut (F := F) p).hι c) ((cut (F := F) p).hιb c) ((cut (F := F) p).hD c)
  pre := R.pre
  post := R.post
  X := R.X
  Y := R.Y
  Z := R.Z
  hentry c := by
    rw [show rdats m outs p c = (pd m outs p c).toR from h c]
    exact (R.toR _ _ _ _ _ _ _ _).hentry c
  hin c := by
    rw [show rdats m outs p c = (pd m outs p c).toR from h c]
    exact R.hin c
  hout c := by
    rw [show rdats m outs p c = (pd m outs p c).toR from h c]
    exact R.hout c
  hexit c := by
    rw [show rdats m outs p c = (pd m outs p c).toR from h c]
    exact (R.toR _ _ _ _ _ _ _ _).hexit c

end Cert.KernelIdeal.Prep

end
-- ==== Proof.KernelIdeal.MainRun.lean ====
/-
  The program's run: what each region leaves, stage by stage; the regions' records put together; every buffer at the end holds what the
  host stretches and the regions compute.
-/
module

public import proofs.«01_k».proof.Proof.KernelIdeal.Region0
public import Idealize.ShloMosaic.Lib.Pipeline.FrameTail

@[expose] public section

set_option maxRecDepth 16384
set_option maxHeartbeats 2000000

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the regions leave -/

/-- After the first region: its arrays as its data name them. -/
def o0 : Outs (F := F) := fun _ b c => Pipeline.afterRegion (dat0 m c) (V16 m c) (Proc.devRef .tc b)

/-- The data of the later regions, entered from the contents that `outs` gives. -/
abbrev dat1 (outs : Outs (F := F)) (c : Dev nD) : Dat τ (Elt F) Unit ℕ (UR sig nD τ) ℕ cfg1 c := Own.K1.dat Variants.none (Own.Ve1 m outs) D0 c
abbrev dat2 (outs : Outs (F := F)) (c : Dev nD) : Dat τ (Elt F) Unit ℕ (UR sig nD τ) ℕ cfg2 c := Own.K2.dat Variants.none (Own.Ve2 m outs) D0 c
abbrev dat3 (outs : Outs (F := F)) (c : Dev nD) : Dat τ (Elt F) Unit ℕ (UR sig nD τ) ℕ cfg3 c := Own.K3.dat Variants.none (Own.Ve3 m outs) D0 c
abbrev dat4 (outs : Outs (F := F)) (c : Dev nD) : Dat τ (Elt F) Unit ℕ (UR sig nD τ) ℕ cfg4 c := Own.K4.dat Variants.none (Own.Ve4 m outs) D0 c
abbrev dat5 (outs : Outs (F := F)) (c : Dev nD) : Dat τ (Elt F) Unit ℕ (UR sig nD τ) ℕ cfg5 c := Own.K5.dat Variants.none (Own.Ve5 m outs) D0 c

/-- `outs` with the contents after item `n - 1` replaced. -/
def setOut (n : ℕ) (f : (r : Ref sig .tc) → (c : Dev nD) → Buf (Elt F) ((c : Thread nD τ).loc r)) (outs : Outs (F := F)) : Outs (F := F) :=
  fun k => if k = n then f else outs k

theorem setOut_self (n : ℕ) (f) (outs : Outs (F := F)) : setOut n f outs n = f := if_pos rfl
theorem setOut_ne {n k : ℕ} (h : k ≠ n) (f) (outs : Outs (F := F)) : setOut n f outs k = outs k := if_neg h

def o1 : Outs (F := F) := setOut 19 (fun b c => Pipeline.afterRegion (dat1 m (o0 m) c) (V18 m (o0 m) c) (Proc.devRef .tc b)) (o0 m)
def o2 : Outs (F := F) := setOut 20 (fun b c => Pipeline.afterRegion (dat2 m (o1 m) c) (V19 m (o1 m) c) (Proc.devRef .tc b)) (o1 m)
def o3 : Outs (F := F) := setOut 21 (fun b c => Pipeline.afterRegion (dat3 m (o2 m) c) (V20 m (o2 m) c) (Proc.devRef .tc b)) (o2 m)
def o4 : Outs (F := F) := setOut 22 (fun b c => Pipeline.afterRegion (dat4 m (o3 m) c) (V21 m (o3 m) c) (Proc.devRef .tc b)) (o3 m)
/-- All of them. -/
def oo : Outs (F := F) := setOut 24 (fun b c => Pipeline.afterRegion (dat5 m (o4 m) c) (V23 m (o4 m) c) (Proc.devRef .tc b)) (o4 m)

theorem oo_24 : oo m 24 = fun b c => Pipeline.afterRegion (dat5 m (o4 m) c) (V23 m (o4 m) c) (Proc.devRef .tc b) := setOut_self _ _ _
theorem oo_lt {k : ℕ} (h : k ≠ 24) : oo m k = o4 m k := setOut_ne h _ _
theorem o4_lt {k : ℕ} (h : k ≠ 22) : o4 m k = o3 m k := setOut_ne h _ _
theorem o3_lt {k : ℕ} (h : k ≠ 21) : o3 m k = o2 m k := setOut_ne h _ _
theorem o2_lt {k : ℕ} (h : k ≠ 20) : o2 m k = o1 m k := setOut_ne h _ _
theorem o1_lt {k : ℕ} (h : k ≠ 19) : o1 m k = o0 m k := setOut_ne h _ _

/-- The contents depend on the unknowns written so far alone. -/
theorem V17_congr {a b : Outs (F := F)} (h : a 17 = b 17) (c : Dev nD) : V17 m a c = V17 m b c := by unfold V17; rw [h]
theorem V18_congr {a b : Outs (F := F)} (h : a 17 = b 17) (c : Dev nD) : V18 m a c = V18 m b c := by unfold V18; rw [V17_congr m h]
theorem V19_congr {a b : Outs (F := F)} (h : a 17 = b 17) (h' : a 19 = b 19) (c : Dev nD) : V19 m a c = V19 m b c := by unfold V19; rw [V18_congr m h, h']
theorem V20_congr {a b : Outs (F := F)} (h : a 17 = b 17) (h' : a 19 = b 19) (h2 : a 20 = b 20) (c : Dev nD) : V20 m a c = V20 m b c := by
  unfold V20; rw [V19_congr m h h', h2]
theorem V21_congr {a b : Outs (F := F)} (h : a 17 = b 17) (h' : a 19 = b 19) (h2 : a 20 = b 20) (h3 : a 21 = b 21) (c : Dev nD) : V21 m a c = V21 m b c := by
  unfold V21; rw [V20_congr m h h' h2, h3]
theorem V22_congr {a b : Outs (F := F)} (h : a 17 = b 17) (h' : a 19 = b 19) (h2 : a 20 = b 20) (h3 : a 21 = b 21) (h4 : a 22 = b 22) (c : Dev nD) :
    V22 m a c = V22 m b c := by
  unfold V22; rw [V21_congr m h h' h2 h3, h4]
theorem V23_congr {a b : Outs (F := F)} (h : a 17 = b 17) (h' : a 19 = b 19) (h2 : a 20 = b 20) (h3 : a 21 = b 21) (h4 : a 22 = b 22) (c : Dev nD) :
    V23 m a c = V23 m b c := by
  unfold V23; rw [V22_congr m h h' h2 h3 h4]

theorem oo_17 : oo m 17 = o0 m 17 := (oo_lt m (by decide)).trans ((o4_lt m (by decide)).trans ((o3_lt m (by decide)).trans ((o2_lt m (by decide)).trans (o1_lt m (by decide)))))
theorem oo_19 : oo m 19 = o1 m 19 := (oo_lt m (by decide)).trans ((o4_lt m (by decide)).trans ((o3_lt m (by decide)).trans (o2_lt m (by decide))))
theorem oo_20 : oo m 20 = o2 m 20 := (oo_lt m (by decide)).trans ((o4_lt m (by decide)).trans (o3_lt m (by decide)))
theorem oo_21 : oo m 21 = o3 m 21 := (oo_lt m (by decide)).trans (o4_lt m (by decide))
theorem oo_22 : oo m 22 = o4 m 22 := oo_lt m (by decide)
theorem o2_17 : o2 m 17 = o0 m 17 := (o2_lt m (by decide)).trans (o1_lt m (by decide))
theorem o3_17 : o3 m 17 = o0 m 17 := (o3_lt m (by decide)).trans (o2_17 m)
theorem o3_19 : o3 m 19 = o1 m 19 := (o3_lt m (by decide)).trans (o2_lt m (by decide))
theorem o4_17 : o4 m 17 = o0 m 17 := (o4_lt m (by decide)).trans (o3_17 m)
theorem o4_19 : o4 m 19 = o1 m 19 := (o4_lt m (by decide)).trans (o3_19 m)
theorem o4_20 : o4 m 20 = o2 m 20 := (o4_lt m (by decide)).trans (o3_lt m (by decide))
theorem o4_21 : o4 m 21 = o3 m 21 := o4_lt m (by decide)

theorem Ve1_oo : Own.Ve1 m (oo m) = Own.Ve1 m (o0 m) :=
  funext fun c => funext fun b => congrFun (V18_congr m (oo_17 m) c) _
theorem Ve2_oo : Own.Ve2 m (oo m) = Own.Ve2 m (o1 m) :=
  funext fun c => funext fun b => congrFun (V19_congr m ((oo_17 m).trans (o1_lt m (by decide)).symm) (oo_19 m) c) _
theorem Ve3_oo : Own.Ve3 m (oo m) = Own.Ve3 m (o2 m) :=
  funext fun c => funext fun b => congrFun (V20_congr m ((oo_17 m).trans (o2_17 m).symm) ((oo_19 m).trans (o2_lt m (by decide)).symm) (oo_20 m) c) _
theorem Ve4_oo : Own.Ve4 m (oo m) = Own.Ve4 m (o3 m) :=
  funext fun c => funext fun b => congrFun (V21_congr m ((oo_17 m).trans (o3_17 m).symm) ((oo_19 m).trans (o3_19 m).symm)
    ((oo_20 m).trans (o3_lt m (by decide)).symm) (oo_21 m) c) _
theorem Ve5_oo : Own.Ve5 m (oo m) = Own.Ve5 m (o4 m) :=
  funext fun c => funext fun b => congrFun (V23_congr m ((oo_17 m).trans (o4_17 m).symm) ((oo_19 m).trans (o4_19 m).symm)
    ((oo_20 m).trans (o4_20 m).symm) ((oo_21 m).trans (o4_21 m).symm) (oo_22 m) c) _

/-- What each region's unknown is: what its data leave. -/
theorem out1 (c : Dev nD) : oo m 19 main_v148 c = (dat1 m (oo m) c).arrAt 7 cfg1.N := by
  unfold dat1; rw [Ve1_oo, oo_19, o1, setOut_self]; exact Pipeline.afterRegion_arr (dat1 m (o0 m) c) _ launch1.win.arr_inj 7
theorem out2 (c : Dev nD) : oo m 20 main_v149 c = (dat2 m (oo m) c).arrAt 7 cfg2.N := by
  unfold dat2; rw [Ve2_oo, oo_20, o2, setOut_self]; exact Pipeline.afterRegion_arr (dat2 m (o1 m) c) _ launch2.win.arr_inj 7
theorem out3 (c : Dev nD) : oo m 21 main_v150 c = (dat3 m (oo m) c).arrAt 7 cfg3.N := by
  unfold dat3; rw [Ve3_oo, oo_21, o3, setOut_self]; exact Pipeline.afterRegion_arr (dat3 m (o2 m) c) _ launch3.win.arr_inj 7
theorem out4 (c : Dev nD) : oo m 22 main_v151 c = (dat4 m (oo m) c).arrAt 7 cfg4.N := by
  unfold dat4; rw [Ve4_oo, oo_22, o4, setOut_self]; exact Pipeline.afterRegion_arr (dat4 m (o3 m) c) _ launch4.win.arr_inj 7
theorem out5 (c : Dev nD) : oo m 24 main_v153 c = (dat5 m (oo m) c).arrAt 2 cfg5.N := by
  unfold dat5; rw [Ve5_oo, oo_24]; exact Pipeline.afterRegion_arr (dat5 m (o4 m) c) _ launch5.win.arr_inj 2
theorem out0 (c : Dev nD) (w : Fin cfg0.W) : oo m 17 (Pipeline.arrRef spec0 w) c = (dat0 m c).arrAt w cfg0.N := by
  rw [oo_17]; exact Pipeline.afterRegion_arr (dat0 m c) _ launch0.win.arr_inj w

theorem in0 (c : Dev nD) (w : Fin cfg0.W) (h : (cfg0.win w).isOut = false)
    (hr : Pipeline.arrRef spec0 w ∉ ([main_v128_0, main_v128_1, main_v128_2, main_v128_3, main_v128_4, main_v128_5] : List (Ref sig .tc))) :
    (dat0 m c).arrAt w cfg0.N = V17 m (oo m) c (Proc.devRef .tc (Pipeline.arrRef spec0 w)) :=
  ((dat0 m c).arrAt_in w h _).trans ((A_eq (Ve0 m) D0 c w).trans (V17_of m (oo m) c _ hr).symm)

theorem hout : Hout m (oo m) := fun c => fun
  | ⟨0, _⟩ => in0 m c 0 rfl (by decide)
  | ⟨1, _⟩ => in0 m c 1 rfl (by decide)
  | ⟨2, _⟩ => in0 m c 2 rfl (by decide)
  | ⟨3, _⟩ => in0 m c 3 rfl (by decide)
  | ⟨4, _⟩ => in0 m c 4 rfl (by decide)
  | ⟨5, _⟩ => in0 m c 5 rfl (by decide)
  | ⟨6, _⟩ => in0 m c 6 rfl (by decide)
  | ⟨7, _⟩ => in0 m c 7 rfl (by decide)
  | ⟨8, _⟩ => in0 m c 8 rfl (by decide)
  | ⟨9, _⟩ => in0 m c 9 rfl (by decide)
  | ⟨10, _⟩ => (out0 m c 10).symm.trans (V17_at_0 m (oo m) c).symm
  | ⟨11, _⟩ => (out0 m c 11).symm.trans (V17_at_1 m (oo m) c).symm
  | ⟨12, _⟩ => (out0 m c 12).symm.trans (V17_at_2 m (oo m) c).symm
  | ⟨13, _⟩ => (out0 m c 13).symm.trans (V17_at_3 m (oo m) c).symm
  | ⟨14, _⟩ => (out0 m c 14).symm.trans (V17_at_4 m (oo m) c).symm
  | ⟨15, _⟩ => (out0 m c 15).symm.trans (V17_at_5 m (oo m) c).symm
  | ⟨_ + 16, h⟩ => absurd h (Nat.not_lt.2 (Nat.le_add_left _ _))

/-! ## The records and the run -/

abbrev Er0 : Dev nD → sProp 𝕄 := fun _ => iprop(emp)

theorem hEin (k : Fin 7) (c : Dev nD) : (Est (F := F) k c : sProp 𝕄) ⊢ iprop((∃ r, prngReg c r) ∗ (∃ W, owes (c : Thread nD τ) (D0 c) W) ∗ Er0 (F := F) c) := by
  iintro ⟨Hp, HO⟩
  isplitl [Hp]; · iexact Hp
  isplitl [HO]; · iexact HO
  iempintro

theorem hEout (k : Fin 7) (c : Dev nD) : (iprop((∃ r, prngReg c r) ∗ (∃ W, owes (c : Thread nD τ) (D0 c) W) ∗ Er0 (F := F) c) : sProp 𝕄) ⊢ Est (F := F) k c := by
  iintro ⟨Hp, HO, -⟩
  isplitl [Hp]; · iexact Hp
  iexact HO

abbrev S1 := recast m (oo m) (p := 1) (fun _ => rfl) (fun _ _ => rfl)
  (Own.R1D m (oo m) Variants.none lvL lv0 () (pd0 m (oo m)) D0 D0 D0 D0 D0 (fun _ => 0) (cut 1) Er0 (out1 m))
abbrev S2 := recast m (oo m) (p := 2) (fun _ => rfl) (fun _ _ => rfl)
  (Own.R2D m (oo m) Variants.none lvL lv0 () (pd0 m (oo m)) D0 D0 D0 D0 D0 (fun _ => 0) (cut 2) Er0 (out2 m))
abbrev S3 := recast m (oo m) (p := 3) (fun _ => rfl) (fun _ _ => rfl)
  (Own.R3D m (oo m) Variants.none lvL lv0 () (pd0 m (oo m)) D0 D0 D0 D0 D0 (fun _ => 0) (cut 3) Er0 (out3 m))
abbrev S4 := recast m (oo m) (p := 4) (fun _ => rfl) (fun _ _ => rfl)
  (Own.R4D m (oo m) Variants.none lvL lv0 () (pd0 m (oo m)) D0 D0 D0 D0 D0 (fun _ => 0) (cut 4) Er0 (out4 m))
abbrev S5 := recast m (oo m) (p := 5) (fun _ => rfl) (fun _ _ => rfl)
  (Own.R5D m (oo m) Variants.none lvL lv0 () (pd0 m (oo m)) D0 D0 D0 D0 D0 (fun _ => 0) (cut 5) Er0 (out5 m))

/-- The program as segments. -/
abbrev segsR (_c : Dev nD) : List (Pipeline.RDat.Seg (pcfgs (F := F)) adm (rdats m (oo m)) () defs₀ Variants.none lvL lv0) :=
  [.host (seg0 m Variants.none lvL lv0 Est), .host (seg1 m Variants.none lvL lv0 Est), .host (seg2 m Variants.none lvL lv0 Est), .host (seg3 m Variants.none lvL lv0 Est),
    .host (seg4 m Variants.none lvL lv0 Est), .host (seg5 m Variants.none lvL lv0 Est), .host (seg6 m Variants.none lvL lv0 Est), .host (seg7 m Variants.none lvL lv0 Est),
    .host (seg8 m Variants.none lvL lv0 Est), .host (seg9 m Variants.none lvL lv0 Est), .host (seg10 m Variants.none lvL lv0 Est), .host (seg11 m Variants.none lvL lv0 Est),
    .host (seg12 m Variants.none lvL lv0 Est), .host (seg13 m Variants.none lvL lv0 Est), .host (seg14 m Variants.none lvL lv0 Est), .host (seg15 m Variants.none lvL lv0 Est),
    .region (R0 m (oo m) (hout m)), .host (seg17 m (oo m) Variants.none lvL lv0 Est), .region (S1 m), .region (S2 m), .region (S3 m), .region (S4 m),
    .host (seg22 m (oo m) Variants.none lvL lv0 Est), .region (S5 m), .host (seg24 m (oo m) Variants.none lvL lv0 Est)]

/-- At the end every unscoped buffer holds what the last valuation says. -/
def Post (c : Dev nD) (s : MemSt nD τ sig (Elt F)) : Prop := ∀ b ∈ Pipeline.ucRefs τ sig, s.mem ((c.tc : Thread nD τ).1, b) = V25 m (oo m) c b

set_option backward.isDefEq.respectTransparency.types false in
/-- The run. -/
theorem run (ρ : Dev nD → PrngReg) :
    θ_run defs (onTc (τ := τ) (main (F := F))) ⟨m, fun _ => 0, ρ⟩ (fun r => (∀ c : Dev nD, Post m c r.2) ∧ r.2.sem = fun _ => 0) := by
  refine Pipeline.RDat.θ_run_regions_kit_dev_sems (pcfgs (F := F)) adm (rdats m (oo m)) () cellOf_inj emb₁ defs₀ Variants.none lvL lv0 m ρ main
    (segsR m)
    (fun c Q => by
      rewrite [main_chain c, Pipeline.RDat.Seg.run_eq_chain,
        show (segsR m c).map Pipeline.RDat.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      dsimp (config := { failIfUnchanged := false }) only
      exact .rfl)
    (fun c => by simp only [segsR, Pipeline.RDat.Seg.pipes_host, Pipeline.RDat.Seg.pipes_region, Pipeline.RDat.Seg.pipes_nil]; decide)
    (O₀ := D0) lvL_off (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Est (F := F) 0 c))
    (Tₙ := fun c => StableHlo.held (c : Thread nD τ) (Pipeline.ucRefs τ sig) (V25 m (oo m) c))
    (hch := fun c => ⟨.rfl, .rfl, .rfl, .rfl, .rfl, .rfl, .rfl, .rfl, .rfl, .rfl, .rfl, .rfl, .rfl, .rfl, .rfl, .rfl,
      hpre0 m (oo m) (hout m) c, hpost0 m (oo m) (hout m) c,
      Own.hpre1D m (oo m) Variants.none lvL lv0 () (pd0 m (oo m)) D0 D0 D0 D0 D0 (fun _ => 0) (cut 1) Est Er0 (hEin 1) (out1 m) c,
      (Own.hpost1D m (oo m) Variants.none lvL lv0 () (pd0 m (oo m)) D0 D0 D0 D0 D0 (fun _ => 0) (cut 1) Est Er0 (hEout 2) (out1 m) c).trans
        (Own.hpre2D m (oo m) Variants.none lvL lv0 () (pd0 m (oo m)) D0 D0 D0 D0 D0 (fun _ => 0) (cut 2) Est Er0 (hEin 2) (out2 m) c),
      (Own.hpost2D m (oo m) Variants.none lvL lv0 () (pd0 m (oo m)) D0 D0 D0 D0 D0 (fun _ => 0) (cut 2) Est Er0 (hEout 3) (out2 m) c).trans
        (Own.hpre3D m (oo m) Variants.none lvL lv0 () (pd0 m (oo m)) D0 D0 D0 D0 D0 (fun _ => 0) (cut 3) Est Er0 (hEin 3) (out3 m) c),
      (Own.hpost3D m (oo m) Variants.none lvL lv0 () (pd0 m (oo m)) D0 D0 D0 D0 D0 (fun _ => 0) (cut 3) Est Er0 (hEout 4) (out3 m) c).trans
        (Own.hpre4D m (oo m) Variants.none lvL lv0 () (pd0 m (oo m)) D0 D0 D0 D0 D0 (fun _ => 0) (cut 4) Est Er0 (hEin 4) (out4 m) c),
      Own.hpost4D m (oo m) Variants.none lvL lv0 () (pd0 m (oo m)) D0 D0 D0 D0 D0 (fun _ => 0) (cut 4) Est Er0 (hEout 5) (out4 m) c,
      Own.hpre5D m (oo m) Variants.none lvL lv0 () (pd0 m (oo m)) D0 D0 D0 D0 D0 (fun _ => 0) (cut 5) Est Er0 (hEin 5) (out5 m) c,
      Own.hpost5D m (oo m) Variants.none lvL lv0 () (pd0 m (oo m)) D0 D0 D0 D0 D0 (fun _ => 0) (cut 5) Est Er0 (hEout 6) (out5 m) c,
      sep_mono .rfl (by iintro ⟨-, HO⟩; iexact HO)⟩)
    (hinit := ?_) (QY := Post m)
    (hfin := fun c s' => ?_) (hQ := fun _ h hz => ⟨h, funext fun g => hz g (.inr (regions_no_unscoped g.2))⟩)
  · refine Pipeline.initEach lvL lv0 fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (Pipeline.ucRefs τ sig) (fun b => ((c : Thread nD τ).1, b)) (V25 m (oo m) c) s') $$ [Hh HSI]
    · isplitl [Hh] <;> iassumption
    imodintro
    iexact Hr

/-- A buffer's final contents. -/
theorem Post.at {c : Dev nD} {s : MemSt nD τ sig (Elt F)} (h : Post m c s) (b : Ref sig .tc) (hb : Proc.devRef .tc b ∈ Pipeline.ucRefs τ sig) :
    s.mem ((c.tc : Thread nD τ).loc b) = V25 m (oo m) c (Proc.devRef .tc b) := h _ hb

/-- The frame: the arguments end as launched, every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨((h.1 c).at m main_arg0 (Finset.mem_filter.mpr ⟨StableHlo.devRef_mem_tcRefs _, by decide⟩)).trans (V25_main_arg0 m (oo m) c),
      ((h.1 c).at m main_arg1 (Finset.mem_filter.mpr ⟨StableHlo.devRef_mem_tcRefs _, by decide⟩)).trans (V25_main_arg1 m (oo m) c),
      ((h.1 c).at m main_arg2 (Finset.mem_filter.mpr ⟨StableHlo.devRef_mem_tcRefs _, by decide⟩)).trans (V25_main_arg2 m (oo m) c),
      ((h.1 c).at m main_arg3 (Finset.mem_filter.mpr ⟨StableHlo.devRef_mem_tcRefs _, by decide⟩)).trans (V25_main_arg3 m (oo m) c),
      ((h.1 c).at m main_arg4 (Finset.mem_filter.mpr ⟨StableHlo.devRef_mem_tcRefs _, by decide⟩)).trans (V25_main_arg4 m (oo m) c),
      ((h.1 c).at m main_arg5 (Finset.mem_filter.mpr ⟨StableHlo.devRef_mem_tcRefs _, by decide⟩)).trans (V25_main_arg5 m (oo m) c),
      ((h.1 c).at m main_arg6 (Finset.mem_filter.mpr ⟨StableHlo.devRef_mem_tcRefs _, by decide⟩)).trans (V25_main_arg6 m (oo m) c),
      ((h.1 c).at m main_arg7 (Finset.mem_filter.mpr ⟨StableHlo.devRef_mem_tcRefs _, by decide⟩)).trans (V25_main_arg7 m (oo m) c)⟩, h.2⟩) (run m ρ)

end Cert.KernelIdeal.Prep

end
-- ==== Proof.Value.Math.lean ====
/-
  The mathematics of the value claim, over the extended reals and apart from any program: an average weighted by exponentials does not
  change when the division is moved past the sum, when entries at minus infinity are left out, or when the row is shifted by another
  maximum than its own.
-/
module

public import Idealize.ShloMosaic.PureOps.Ideal.Laws

@[expose] public section

noncomputable section

namespace Nsa

open Idealize.ShloMosaic

variable {ι κ : Type} [Fintype ι] [Fintype κ]

/-- The largest entry of a row. -/
def top (s : ι → EReal) : EReal := Finset.univ.fold max ⊥ s

/-- The unnormalised weights of a row. -/
def wt (s : ι → EReal) (i : ι) : EReal := Ideal.exp (s i - top s)

/-- The average of `v` under the normalised weights of the row `s`. -/
def avg (s v : ι → EReal) : EReal := ∑ i, v i * Ideal.div (wt s i) (∑ j, wt s j)

/-- Every entry is a real number or minus infinity, and there is a real one. -/
def Good (s : ι → EReal) : Prop := (∀ i, s i = ⊥ ∨ ∃ r : ℝ, s i = r) ∧ ∃ i, ∃ r : ℝ, s i = r

theorem top_eq_sup (s : ι → EReal) : top s = Finset.univ.sup s := rfl

theorem le_top (s : ι → EReal) (i : ι) : s i ≤ top s := by
  rw [top_eq_sup]; exact Finset.le_sup (Finset.mem_univ i)

theorem top_le (s : ι → EReal) (x : EReal) (h : ∀ i, s i ≤ x) : top s ≤ x := by
  rw [top_eq_sup]; exact Finset.sup_le fun i _ => h i

/-- The largest entry of such a row is real. -/
theorem top_real {s : ι → EReal} (h : Good s) : ∃ M : ℝ, top s = M := by
  obtain ⟨h1, i, r, hi⟩ := h
  have hb : top s ≠ ⊥ := fun e => by
    have := le_top s i
    rw [e, hi] at this
    exact absurd (le_bot_iff.mp this) (EReal.coe_ne_bot r)
  have ht : top s ≠ ⊤ := fun e => by
    have : top s < ⊤ := by
      rw [top_eq_sup, Finset.sup_lt_iff (by exact bot_lt_top)]
      intro j _
      rcases h1 j with hj | ⟨x, hj⟩ <;> rw [hj]
      · exact bot_lt_top
      · exact EReal.coe_lt_top x
    exact absurd e this.ne
  exact ⟨(top s).toReal, (EReal.coe_toReal ht hb).symm⟩

/-- The exponential of an entry against a real shift. -/
theorem exp_sub (x : EReal) (hx : x = ⊥ ∨ ∃ r : ℝ, x = r) (M : ℝ) :
    ∃ a : ℝ, 0 ≤ a ∧ Ideal.exp (x - M) = a ∧ ((∃ r : ℝ, x = r) → 0 < a)
      ∧ ∀ M' : ℝ, Ideal.exp (x - M') = ((a * Real.exp (M - M') : ℝ) : EReal) := by
  rcases hx with rfl | ⟨r, rfl⟩
  · refine ⟨0, le_rfl, ?_, ?_, ?_⟩
    · rw [EReal.bot_sub]; rfl
    · rintro ⟨r, hr⟩; exact absurd hr (EReal.bot_ne_coe r)
    · intro M'; rw [EReal.bot_sub, zero_mul]; rfl
  · refine ⟨Real.exp (r - M), (Real.exp_pos _).le, ?_, fun _ => Real.exp_pos _, ?_⟩
    · rw [← EReal.coe_sub]; rfl
    · intro M'
      rw [← EReal.coe_sub, ← Real.exp_add]
      show ((Real.exp (r - M') : ℝ) : EReal) = _
      congr 2; ring

theorem coe_sum (a : ι → ℝ) : ((∑ i, a i : ℝ) : EReal) = ∑ i, (a i : EReal) := by
  classical
  induction (Finset.univ : Finset ι) using Finset.induction_on with
  | empty => simp
  | insert i S hi ih => rw [Finset.sum_insert hi, Finset.sum_insert hi, EReal.coe_add, ih]

/-- A sum times a nonnegative real number. -/
theorem sum_mul_real (f : ι → EReal) (r : ℝ) (hr : 0 ≤ r) : (∑ i, f i) * (r : EReal) = ∑ i, f i * (r : EReal) := by
  classical
  induction (Finset.univ : Finset ι) using Finset.induction_on with
  | empty => simp
  | insert i S hi ih =>
    rw [Finset.sum_insert hi, Finset.sum_insert hi,
      EReal.right_distrib_of_nonneg_of_ne_top (EReal.coe_nonneg.mpr hr) (EReal.coe_ne_top r), ih]

theorem div_real (x : EReal) (l : ℝ) (hl : 0 < l) : Ideal.div x (l : EReal) = x * ((l⁻¹ : ℝ) : EReal) := by
  have h0 : (l : EReal) ≠ 0 := by exact_mod_cast hl.ne'
  unfold Ideal.div
  rw [if_neg h0, EReal.coe_inv]

/-- Dividing the weighted sum is weighting by the divided weights. -/
theorem div_sum (a : ι → ℝ) (e v : ι → EReal) (he : ∀ i, e i = a i) (ha : 0 < ∑ i, a i) :
    Ideal.div (∑ i, e i * v i) (∑ i, e i) = ∑ i, v i * ((a i * (∑ j, a j)⁻¹ : ℝ) : EReal) := by
  have hs : ∑ i, e i = ((∑ i, a i : ℝ) : EReal) := by rw [coe_sum]; exact Finset.sum_congr rfl fun i _ => he i
  rw [hs, div_real _ _ ha, sum_mul_real _ _ (inv_nonneg.mpr ha.le)]
  refine Finset.sum_congr rfl fun i _ => ?_
  rw [he i, EReal.coe_mul, mul_comm (a i : EReal), mul_assoc]

theorem sum_div (a : ι → ℝ) (e v : ι → EReal) (he : ∀ i, e i = a i) (ha : 0 < ∑ i, a i) :
    ∑ i, v i * Ideal.div (e i) (∑ j, e j) = ∑ i, v i * ((a i * (∑ j, a j)⁻¹ : ℝ) : EReal) := by
  have hs : ∑ i, e i = ((∑ i, a i : ℝ) : EReal) := by rw [coe_sum]; exact Finset.sum_congr rfl fun i _ => he i
  refine Finset.sum_congr rfl fun i _ => ?_
  rw [hs, div_real _ _ ha, he i, EReal.coe_mul]

/-- The weights of such a row are real numbers with a positive sum. -/
theorem weights {s : ι → EReal} (h : Good s) : ∃ (M : ℝ) (a : ι → ℝ), top s = M ∧ (∀ i, 0 ≤ a i) ∧ 0 < ∑ i, a i
    ∧ (∀ i, wt s i = a i) ∧ (∀ i (M' : ℝ), Ideal.exp (s i - M') = ((a i * Real.exp (M - M') : ℝ) : EReal))
    ∧ ∀ i, s i = ⊥ → a i = 0 := by
  obtain ⟨M, hM⟩ := top_real h
  choose a h0 h1 h2 h3 using fun i => exp_sub (s i) (h.1 i) M
  refine ⟨M, a, hM, h0, ?_, fun i => by rw [wt, hM]; exact h1 i, h3, fun i hi => ?_⟩
  · obtain ⟨i, r, hi⟩ := h.2
    exact Finset.sum_pos' (fun j _ => h0 j) ⟨i, Finset.mem_univ i, h2 i ⟨r, hi⟩⟩
  · have := h1 i
    rw [hi, EReal.bot_sub] at this
    exact (EReal.coe_eq_zero.mp this.symm)

/-- Leaving out entries at minus infinity does not change the largest. -/
theorem top_comp (φ : ι → κ) (s : κ → EReal) (off : ∀ k, (∀ i, φ i ≠ k) → s k = ⊥) : top (fun i => s (φ i)) = top s := by
  refine le_antisymm (top_le _ _ fun i => le_top s (φ i)) (top_le _ _ fun k => ?_)
  by_cases hk : ∃ i, φ i = k
  · obtain ⟨i, rfl⟩ := hk; exact le_top (fun i => s (φ i)) i
  · rw [off k fun i hi => hk ⟨i, hi⟩]; exact bot_le

/-- Leaving out entries at which the summand is zero. -/
theorem sum_comp (φ : ι → κ) (hφ : Function.Injective φ) (f : κ → EReal) (off : ∀ k, (∀ i, φ i ≠ k) → f k = 0) :
    ∑ i, f (φ i) = ∑ k, f k :=
  Fintype.sum_of_injective φ hφ (fun i => f (φ i)) f (fun k hk => off k fun i hi => hk ⟨i, hi⟩) fun _ => rfl

/-- The causal branch: the weighted sum over the rows in reach, divided once at the end, is the average over all rows. -/
theorem avg_reach (φ : ι → κ) (hφ : Function.Injective φ) (s v : κ → EReal) (h : Good s) (off : ∀ k, (∀ i, φ i ≠ k) → s k = ⊥) :
    Ideal.div (∑ i, wt (fun i => s (φ i)) i * v (φ i)) (∑ i, wt (fun i => s (φ i)) i) = avg s v := by
  obtain ⟨M, a, hM, h0, hpos, hw, -, hz⟩ := weights h
  have e : ∀ i, wt (fun i => s (φ i)) i = wt s (φ i) := fun i => by unfold wt; rw [top_comp φ s off]
  have zero : ∀ k, (∀ i, φ i ≠ k) → wt s k = 0 := fun k hk => by rw [hw k, hz k (off k hk)]; rfl
  simp only [e]
  rw [sum_comp φ hφ (fun k => wt s k * v k) fun k hk => by rw [zero k hk, zero_mul],
    sum_comp φ hφ (wt s) zero, div_sum a (wt s) v hw hpos]
  unfold avg
  rw [sum_div a (wt s) v hw hpos]

/-- The window branch: the causal weights kept inside the window, divided by their own sum, are the weights of the window's own row. -/
theorem avg_window (ψ : ι → κ) (hψ : Function.Injective ψ) (s v : κ → EReal) (P : κ → Prop) [DecidablePred P] (h : Good s)
    (hP : ∃ k, P k ∧ ∃ r : ℝ, s k = r) (off : ∀ k, (∀ i, ψ i ≠ k) → ¬P k ∨ s k = ⊥) :
    Ideal.div (∑ i, (if P (ψ i) then wt s (ψ i) else 0) * v (ψ i)) (∑ i, if P (ψ i) then wt s (ψ i) else 0)
      = avg (fun k => if P k then s k else ⊥) v := by
  have hg : Good (fun k => if P k then s k else ⊥) := by
    refine ⟨fun k => ?_, ?_⟩
    · by_cases hk : P k
      · simp only [if_pos hk]; exact h.1 k
      · exact Or.inl (if_neg hk)
    · obtain ⟨k, hk, r, hr⟩ := hP
      exact ⟨k, r, by simp only [if_pos hk]; exact hr⟩
  obtain ⟨M, a, hM, h0, -, hw, hsh, hz⟩ := weights h
  obtain ⟨N, b, hN, -, bpos, bw, bsh, bz⟩ := weights hg
  have ew : ∀ k, (if P k then wt s k else 0) = ((b k * Real.exp (N - M) : ℝ) : EReal) := fun k => by
    by_cases hk : P k
    · have := bsh k M
      simp only [if_pos hk] at this ⊢
      rw [wt, hM]; exact this
    · rw [if_neg hk, bz k (by simp only [if_neg hk]), zero_mul]; rfl
  have zero : ∀ k, (∀ i, ψ i ≠ k) → (if P k then wt s k else 0) = 0 := fun k hk => by
    rcases off k hk with h1 | h1
    · rw [if_neg h1]
    · by_cases h2 : P k
      · rw [if_pos h2, hw k, hz k h1]; rfl
      · rw [if_neg h2]
  have hc : 0 < Real.exp (N - M) := Real.exp_pos _
  have hs : ∑ k, b k * Real.exp (N - M) = (∑ k, b k) * Real.exp (N - M) := (Finset.sum_mul _ _ _).symm
  rw [sum_comp ψ hψ (fun k => (if P k then wt s k else 0) * v k) fun k hk => by rw [zero k hk, zero_mul],
    sum_comp ψ hψ (fun k => if P k then wt s k else 0) zero,
    div_sum (fun k => b k * Real.exp (N - M)) _ v ew (by rw [hs]; exact mul_pos bpos hc)]
  unfold avg
  rw [sum_div b _ v bw bpos]
  refine Finset.sum_congr rfl fun k _ => ?_
  congr 2
  rw [hs, mul_inv]
  field_simp

/-- The compressed branch of a row that sees a whole window: the sum over the padded windows times the reciprocal of the weights' sum. -/
theorem avg_pooled (φ : κ → ι) (hφ : Function.Injective φ) (s v : ι → EReal) (h : Good (fun k => s (φ k))) (off : ∀ i, (∀ k, φ k ≠ i) → s i = ⊥) :
    (∑ i, wt s i * v i) * Ideal.div 1 (∑ i, wt s i) = avg (fun k => s (φ k)) (fun k => v (φ k)) := by
  have hg : Good s := by
    refine ⟨fun i => ?_, ?_⟩
    · by_cases hi : ∃ k, φ k = i
      · obtain ⟨k, rfl⟩ := hi; exact h.1 k
      · exact Or.inl (off i fun k hk => hi ⟨k, hk⟩)
    · obtain ⟨k, r, hr⟩ := h.2; exact ⟨φ k, r, hr⟩
  have hd : (∑ i, wt s i * v i) * Ideal.div 1 (∑ i, wt s i) = Ideal.div (∑ i, wt s i * v i) (∑ i, wt s i) := by
    obtain ⟨M, a, -, -, hpos, hw, -, -⟩ := weights hg
    have hs : ∑ i, wt s i = ((∑ i, a i : ℝ) : EReal) := by rw [coe_sum]; exact Finset.sum_congr rfl fun i _ => hw i
    rw [hs, div_real _ _ hpos, div_real _ _ hpos, one_mul]
  rw [hd]
  obtain ⟨M, a, hM, h0, hpos, hw, -, hz⟩ := weights hg
  have e : ∀ k, wt (fun k => s (φ k)) k = wt s (φ k) := fun k => by unfold wt; rw [top_comp φ s off]
  have zero : ∀ i, (∀ k, φ k ≠ i) → wt s i = 0 := fun i hi => by rw [hw i, hz i (off i hi)]; rfl
  unfold avg
  simp only [e]
  rw [sum_comp φ hφ (wt s) zero, sum_comp φ hφ (fun i => v i * Ideal.div (wt s i) (∑ j, wt s j)) fun i hi => by
    rw [zero i hi]
    have hs : ∑ i, wt s i = ((∑ i, a i : ℝ) : EReal) := by rw [coe_sum]; exact Finset.sum_congr rfl fun i _ => hw i
    rw [hs, div_real _ _ hpos, zero_mul, mul_zero], div_sum a _ v hw hpos, sum_div a _ v hw hpos]

/-- The compressed branch of a row that sees none: nothing, whatever the reciprocal is. -/
theorem pooled_none (s v : ι → EReal) (h : ∀ i, s i = ⊥) (x : EReal) : (∑ i, wt s i * v i) * x = 0 := by
  have e : ∀ i, wt s i = 0 := fun i => by unfold wt; rw [h i, EReal.bot_sub]; rfl
  simp only [e, zero_mul, Finset.sum_const_zero]

/-! ## Real numbers among the extended ones -/

/-- It is a real number. -/
def Real' (x : EReal) : Prop := ∃ r : ℝ, x = r

theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sum {f : ι → EReal} (h : ∀ i, Real' (f i)) : Real' (∑ i, f i) := by
  choose a ha using h
  exact ⟨∑ i, a i, by rw [coe_sum]; exact Finset.sum_congr rfl fun i _ => ha i⟩
theorem Real'.cos {x : EReal} (hx : Real' x) : Real' (Ideal.cos x) := by
  obtain ⟨a, rfl⟩ := hx; exact ⟨Real.cos a, rfl⟩
theorem Real'.sin {x : EReal} (hx : Real' x) : Real' (Ideal.sin x) := by
  obtain ⟨a, rfl⟩ := hx; exact ⟨Real.sin a, rfl⟩
theorem Real'.div {x y : EReal} (hx : Real' x) (hy : Real' y) (h0 : y ≠ 0) : Real' (Ideal.div x y) := by
  obtain ⟨a, rfl⟩ := hx; obtain ⟨b, rfl⟩ := hy
  exact ⟨a * b⁻¹, by unfold Ideal.div; rw [if_neg h0, EReal.coe_mul, EReal.coe_inv]⟩

/-- The weights of a row of real numbers, normalised, are real. -/
theorem Real'.softmax {s : ι → EReal} (h : ∀ i, Real' (s i)) (i : ι) : Real' (Ideal.div (wt s i) (∑ j, wt s j)) := by
  obtain ⟨M, a, -, -, hpos, hw, -, -⟩ := weights (s := s) ⟨fun i => Or.inr (h i), i, h i⟩
  have hs : ∑ i, wt s i = ((∑ i, a i : ℝ) : EReal) := by rw [coe_sum]; exact Finset.sum_congr rfl fun i _ => hw i
  exact ⟨a i * (∑ j, a j)⁻¹, by rw [hs, div_real _ _ hpos, hw, EReal.coe_mul]⟩

/-- A real number scaled inside a sum of products of real numbers is scaled outside. -/
theorem scale_out {x y : ι → EReal} (hx : ∀ i, Real' (x i)) (hy : ∀ i, Real' (y i)) {c : EReal} (hc : Real' c) :
    ∑ i, (x i * c) * y i = (∑ i, x i * y i) * c := by
  choose a ha using hx
  choose b hb using hy
  obtain ⟨r, rfl⟩ := hc
  simp only [ha, hb, ← EReal.coe_mul, ← coe_sum]
  congr 1
  rw [Finset.sum_mul]
  exact Finset.sum_congr rfl fun i _ => by ring

end Nsa
-- ==== Proof.Value.Pre.lean ====
module

public import proofs.«01_k».proof.Defs
public import proofs.«01_k».proof.Proof.Value.Math
public import Idealize.ShloMosaic.Lib.ReduceAll

@[expose] public section

set_option maxRecDepth 16384

noncomputable section

namespace Cert.Pre_finite

open Idealize.ShloMosaic

/-! # What the precondition says: four of the arguments hold real numbers only -/

instance facts : Facts where
  bcast_S_S1x2048x2048 := by decide
  reducesTo_S1x2048x2048_S_d0_1_2 := by decide
  h_S_ := by decide
  bcast_S_S2048x2048 := by decide
  reducesTo_S2048x2048_S_d0_1 := by decide
  bcast_S_S2048x512 := by decide
  reducesTo_S2048x512_S_d0_1 := by decide
  bcast_S_S32 := by decide
  reducesTo_S32_S_d0 := by decide

/-- A number whose magnitude is below plus infinity is real. -/
theorem real_of_bit (x : EReal) (h : FloatOps.cmpf (F := Ideal) (φ := .f32) .olt (max x (-x) : EReal) (Ideal.ofBits FTy.f32 0x7F800000#32) = 1#1) : Nsa.Real' x := by
  have ht : Ideal.ofBits FTy.f32 0x7F800000#32 = ⊤ := by simp [Ideal.ofBits, Ideal.ieee]
  rw [ht] at h
  have hlt : max x (-x) < ⊤ := by
    by_contra hn
    change BitVec.ofBool (decide (max x (-x) < ⊤)) = 1#1 at h
    rw [decide_eq_false hn] at h
    exact absurd h (by decide)
  induction x using EReal.rec with
  | bot => exact absurd hlt (by simp)
  | top => exact absurd hlt (by simp)
  | coe r => exact ⟨r, rfl⟩

instance : Subsingleton S_.Idx := ⟨fun a b => funext fun k => k.elim0⟩

theorem reals (x0 : FVec Ideal S1x2048x2048 .f32) (x1 : FVec Ideal S2048x2048 .f32) (x2 x3 : FVec Ideal S2048x512 .f32) (x4 : FVec Ideal S2048x2048 .f32)
    (x5 : FVec Ideal S2048x48 .f32) (x6 x7 : FVec Ideal S32 .f32) (h : fn (F := Ideal) x0 x1 x2 x3 x4 x5 x6 x7 = fun _ => 1#1) :
    (∀ i, Nsa.Real' (x0 i)) ∧ (∀ i, Nsa.Real' (x1 i)) ∧ (∀ i, Nsa.Real' (x2 i)) ∧ (∀ i, Nsa.Real' (x6 i)) := by
  have h' := congrFun h (fun a => a.elim0)
  unfold fn fn_part1 at h'
  obtain ⟨h', h6⟩ := IntOp.andi_eq_one.1 h'
  obtain ⟨h', h2⟩ := IntOp.andi_eq_one.1 h'
  obtain ⟨h0, h1⟩ := IntOp.andi_eq_one.1 h'
  exact ⟨fun i => real_of_bit _ (Host.reduce_andi_all _ _ _ _ _ h0 i), fun i => real_of_bit _ (Host.reduce_andi_all _ _ _ _ _ h1 i),
    fun i => real_of_bit _ (Host.reduce_andi_all _ _ _ _ _ h2 i), fun i => real_of_bit _ (Host.reduce_andi_all _ _ _ _ _ h6 i)⟩

end Cert.Pre_finite
-- ==== Proof.Value.RefRows.lean ====
module

public import proofs.«01_k».proof.Proof.Gen.ReferenceIdeal.Read
public import proofs.«01_k».proof.Proof.Value.Math
public import Idealize.ShloMosaic.Lib.Pointwise
public import Idealize.ShloMosaic.Lib.WordCmp

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

variable (x0 : FVec Ideal S1x2048x2048 .f32) (x1 : FVec Ideal S2048x2048 .f32) (x2 x3 : FVec Ideal S2048x512 .f32)
  (x4 : FVec Ideal S2048x2048 .f32) (x5 : FVec Ideal S2048x48 .f32) (x6 x7 : FVec Ideal S32 .f32)

/-- The words of minus infinity and of one. -/
theorem ninf : Ideal.ofBits FTy.f32 4286578688#32 = ⊥ := by
  simp [Ideal.ofBits, Ideal.ieee]

theorem max_ninf (x : EReal) : max (Ideal.ofBits FTy.f32 4286578688#32) x = x := by
  rw [ninf]; exact max_bot_left x

/-! ## Every key a row may see (`out_s`) -/

/-- The largest score of a row. -/
theorem max_at (x : FVec Ideal S16x2048x2048 .f32) (t : Fin 2048) (h : Fin 16) :
    Host.reduce FloatOps.maximumf x (constant S_ .f32 0xFF800000#32) reducesTo_S16x2048x2048_S16x2048_d2 h_S_ (ix2 h t)
      = Nsa.top (fun c : Fin 2048 => x (ix3 h t c)) := by
  unfold Nsa.top; rw [← ninf]
  pointwise!

theorem v281_at (t : Fin 2048) (h : Fin 16) :
    val_main_v281 (F := Ideal) x0 x1 x2 x6 (ix2 h t) = Nsa.top (fun c : Fin 2048 => val_main_v278 (F := Ideal) x0 x1 x2 x6 (ix3 h t c)) := by
  rw [val_main_v281_apply, val_main_v280_apply]
  unfold val_main_v279
  generalize val_main_v278 (F := Ideal) x0 x1 x2 x6 = x
  exact (max_ninf _).trans (max_at x t h)

theorem v285_at (t c : Fin 2048) (h : Fin 16) :
    val_main_v285 (F := Ideal) x0 x1 x2 x6 (ix3 h t c) = Nsa.wt (fun c : Fin 2048 => val_main_v278 (F := Ideal) x0 x1 x2 x6 (ix3 h t c)) c := by
  unfold Nsa.wt
  rw [← v281_at]
  unfold val_main_v285 val_main_v284 val_main_v283 val_main_v282
  generalize val_main_v278 (F := Ideal) x0 x1 x2 x6 = x
  generalize val_main_v281 (F := Ideal) x0 x1 x2 x6 = y
  pointwise

theorem v289_at (t c : Fin 2048) (h : Fin 16) :
    val_main_v289 (F := Ideal) x0 x1 x2 x6 (ix3 h t c) = Ideal.div (val_main_v285 (F := Ideal) x0 x1 x2 x6 (ix3 h t c)) (∑ c : Fin 2048, val_main_v285 (F := Ideal) x0 x1 x2 x6 (ix3 h t c)) := by
  unfold val_main_v289 val_main_v288 val_main_v287 val_main_v286 val_main_cst_68
  generalize val_main_v285 (F := Ideal) x0 x1 x2 x6 = x
  pointwise

/-- The branch over every key, as an average. -/
theorem v291_at (t : Fin 2048) (h : Fin 16) (d : Fin 128) :
    val_main_v291 (F := Ideal) x0 x1 x2 x3 x6 (ix3 t h d)
      = Nsa.avg (fun c : Fin 2048 => val_main_v278 (F := Ideal) x0 x1 x2 x6 (ix3 h t c)) (fun c => val_main_v6 (F := Ideal) x0 x3 (ix3 c (⟨h.val / 4, by omega⟩ : Fin 4) d)) := by
  have e : val_main_v291 (F := Ideal) x0 x1 x2 x3 x6 (ix3 t h d) = ∑ c : Fin 2048, val_main_v6 (F := Ideal) x0 x3 (ix3 c (⟨h.val / 4, by omega⟩ : Fin 4) d) * val_main_v289 (F := Ideal) x0 x1 x2 x6 (ix3 h t c) := by
    unfold val_main_v291 val_main_v290 val_main_v141 val_main_v140
    generalize val_main_v289 (F := Ideal) x0 x1 x2 x6 = x
    pointwise
  rw [e]
  unfold Nsa.avg
  refine Finset.sum_congr rfl fun c _ => ?_
  rw [v289_at, v285_at]
  exact congrArg _ (congrArg _ (Finset.sum_congr rfl fun c' _ => v285_at x0 x1 x2 x6 t c' h))

/-! ## The window (`out_w`) -/

theorem v304_at (t : Fin 2048) (h : Fin 16) :
    val_main_v304 (F := Ideal) x0 x1 x2 (ix2 h t) = Nsa.top (fun c : Fin 2048 => val_main_v301 (F := Ideal) x0 x1 x2 (ix3 h t c)) := by
  rw [val_main_v304_apply, val_main_v303_apply]
  unfold val_main_v302
  generalize val_main_v301 (F := Ideal) x0 x1 x2 = x
  exact (max_ninf _).trans (max_at x t h)

theorem v308_at (t c : Fin 2048) (h : Fin 16) :
    val_main_v308 (F := Ideal) x0 x1 x2 (ix3 h t c) = Nsa.wt (fun c : Fin 2048 => val_main_v301 (F := Ideal) x0 x1 x2 (ix3 h t c)) c := by
  unfold Nsa.wt
  rw [← v304_at]
  unfold val_main_v308 val_main_v307 val_main_v306 val_main_v305
  generalize val_main_v301 (F := Ideal) x0 x1 x2 = x
  generalize val_main_v304 (F := Ideal) x0 x1 x2 = y
  pointwise

theorem v312_at (t c : Fin 2048) (h : Fin 16) :
    val_main_v312 (F := Ideal) x0 x1 x2 (ix3 h t c) = Ideal.div (val_main_v308 (F := Ideal) x0 x1 x2 (ix3 h t c)) (∑ c : Fin 2048, val_main_v308 (F := Ideal) x0 x1 x2 (ix3 h t c)) := by
  unfold val_main_v312 val_main_v311 val_main_v310 val_main_v309 val_main_cst_73
  generalize val_main_v308 (F := Ideal) x0 x1 x2 = x
  pointwise

/-- The window branch, as an average. -/
theorem v314_at (t : Fin 2048) (h : Fin 16) (d : Fin 128) :
    val_main_v314 (F := Ideal) x0 x1 x2 x3 (ix3 t h d)
      = Nsa.avg (fun c : Fin 2048 => val_main_v301 (F := Ideal) x0 x1 x2 (ix3 h t c)) (fun c => val_main_v6 (F := Ideal) x0 x3 (ix3 c (⟨h.val / 4, by omega⟩ : Fin 4) d)) := by
  have e : val_main_v314 (F := Ideal) x0 x1 x2 x3 (ix3 t h d) = ∑ c : Fin 2048, val_main_v6 (F := Ideal) x0 x3 (ix3 c (⟨h.val / 4, by omega⟩ : Fin 4) d) * val_main_v312 (F := Ideal) x0 x1 x2 (ix3 h t c) := by
    unfold val_main_v314 val_main_v313 val_main_v141 val_main_v140
    generalize val_main_v312 (F := Ideal) x0 x1 x2 = x
    pointwise
  rw [e]
  unfold Nsa.avg
  refine Finset.sum_congr rfl fun c _ => ?_
  rw [v312_at, v308_at]
  exact congrArg _ (congrArg _ (Finset.sum_congr rfl fun c' _ => v308_at x0 x1 x2 t c' h))

/-! ## The pooled keys (`out_c`) -/

/-- The largest pooled score of a row. -/
theorem max127_at (x : FVec Ideal S16x2048x127 .f32) (t : Fin 2048) (h : Fin 16) :
    Host.reduce FloatOps.maximumf x (constant S_ .f32 0xFF800000#32) reducesTo_S16x2048x127_S16x2048_d2 h_S_ (ix2 h t)
      = Nsa.top (fun c : Fin 127 => x (ix3 h t c)) := by
  unfold Nsa.top; rw [← ninf]
  pointwise!

theorem v216_at (t : Fin 2048) (h : Fin 16) :
    val_main_v216 (F := Ideal) x0 x1 x2 x6 (ix2 h t) = Nsa.top (fun c : Fin 127 => val_main_v213 (F := Ideal) x0 x1 x2 x6 (ix3 h t c)) := by
  rw [val_main_v216_apply, val_main_v215_apply]
  unfold val_main_v214
  generalize val_main_v213 (F := Ideal) x0 x1 x2 x6 = x
  exact (max_ninf _).trans (max127_at x t h)

theorem v220_at (t : Fin 2048) (c : Fin 127) (h : Fin 16) :
    val_main_v220 (F := Ideal) x0 x1 x2 x6 (ix3 h t c) = Nsa.wt (fun c : Fin 127 => val_main_v213 (F := Ideal) x0 x1 x2 x6 (ix3 h t c)) c := by
  unfold Nsa.wt
  rw [← v216_at]
  unfold val_main_v220 val_main_v219 val_main_v218 val_main_v217
  generalize val_main_v213 (F := Ideal) x0 x1 x2 x6 = x
  generalize val_main_v216 (F := Ideal) x0 x1 x2 x6 = y
  pointwise

theorem v224_at (t : Fin 2048) (c : Fin 127) (h : Fin 16) :
    val_main_v224 (F := Ideal) x0 x1 x2 x6 (ix3 h t c) = Ideal.div (val_main_v220 (F := Ideal) x0 x1 x2 x6 (ix3 h t c)) (∑ c : Fin 127, val_main_v220 (F := Ideal) x0 x1 x2 x6 (ix3 h t c)) := by
  unfold val_main_v224 val_main_v223 val_main_v222 val_main_v221 val_main_cst_52
  generalize val_main_v220 (F := Ideal) x0 x1 x2 x6 = x
  pointwise

/-- A fold of bitwise or over bits is one as soon as one bit is, and zero if none is. -/
theorem fold_or_one {n : ℕ} (f : Fin n → BitVec 1) (i : Fin n) (hi : f i = 1#1) : Finset.univ.fold IntOp.ori 0#1 f = 1#1 := by
  classical
  rw [← Finset.insert_erase (Finset.mem_univ i), Finset.fold_insert (Finset.notMem_erase i _), hi]
  exact (by decide : ∀ b : BitVec 1, IntOp.ori 1#1 b = 1#1) _

theorem fold_or_zero {n : ℕ} (f : Fin n → BitVec 1) (h : ∀ i, f i = 0#1) : Finset.univ.fold IntOp.ori 0#1 f = 0#1 := by
  classical
  induction (Finset.univ : Finset (Fin n)) using Finset.induction_on with
  | empty => rfl
  | insert i S hi ih => rw [Finset.fold_insert hi, h i, ih]; decide

/-- The word of the last key of pooled window `c`. -/
theorem last_word (c : Fin 127) : IntOp.subi (IntOp.addi (IntOp.muli (BitVec.ofNat 32 c.val) 16#32) 32#32) 1#32 = BitVec.ofNat 32 (16 * c.val + 31) := by
  apply BitVec.eq_of_toNat_eq
  show (BitVec.ofNat 32 c.val * 16#32 + 32#32 - 1#32).toNat = _
  simp only [BitVec.toNat_sub, BitVec.toNat_add, BitVec.toNat_mul, BitVec.toNat_ofNat]
  omega

theorem mask_c (t : Fin 2048) (c : Fin 127) :
    IntOp.cmpi CmpIPredicate.sge (BitVec.ofNat 32 t.val) (IntOp.subi (IntOp.addi (IntOp.muli (BitVec.ofNat 32 c.val) 16#32) 32#32) 1#32)
      = BitVec.ofBool (decide (16 * c.val + 31 ≤ t.val)) := by
  rw [last_word]
  exact WordCmp.cmpi_sge_ofNat (by omega) (by omega)

theorem v227_at (t : Fin 2048) (c : Fin 127) (h : Fin 16) :
    val_main_v227 (F := Ideal) x0 x1 x2 x6 (ix3 h t c) = if 31 ≤ t.val then val_main_v224 (F := Ideal) x0 x1 x2 x6 (ix3 h t c) else 0 := by
  unfold val_main_v227
  generalize val_main_v224 (F := Ideal) x0 x1 x2 x6 = x
  pointwise [val_main_call7_v2, val_main_call7_v1, val_main_call7_v0, val_main_cst_54, val_main_v226, val_main_v225, val_main_c_53, val_main_v211, val_main_v210, val_main_v209, val_main_v208, val_main_v207, val_main_v206, val_main_v205, val_main_c_48, val_main_v204, val_main_v203, val_main_c_47, val_main_v202, val_main_v201, val_main_c_46, val_main_v200, val_main_v15]
  by_cases ht : 31 ≤ t.val
  · rw [if_pos ht, fold_or_one _ (0 : Fin 127) (by rw [mask_c, decide_eq_true (by simpa using ht)]; rfl)]
    rfl
  · rw [if_neg ht, fold_or_zero _ fun c => by
      rw [mask_c, decide_eq_false (by omega)]; rfl]
    exact Ideal.ofBits_zero_f32

/-- The branch over the pooled keys, as an average, and nothing for a row before the first window's end. -/
theorem v229_at (t : Fin 2048) (h : Fin 16) (d : Fin 128) :
    val_main_v229 (F := Ideal) x0 x1 x2 x3 x6 x7 (ix3 t h d)
      = if 31 ≤ t.val then Nsa.avg (fun c : Fin 127 => val_main_v213 (F := Ideal) x0 x1 x2 x6 (ix3 h t c)) (fun c => val_main_v192 (F := Ideal) x0 x3 x7 (ix3 c (⟨h.val / 4, by omega⟩ : Fin 4) d)) else 0 := by
  have e : val_main_v229 (F := Ideal) x0 x1 x2 x3 x6 x7 (ix3 t h d) = ∑ c : Fin 127, val_main_v192 (F := Ideal) x0 x3 x7 (ix3 c (⟨h.val / 4, by omega⟩ : Fin 4) d) * val_main_v227 (F := Ideal) x0 x1 x2 x6 (ix3 h t c) := by
    unfold val_main_v229 val_main_v228 val_main_v196 val_main_v195
    generalize val_main_v227 (F := Ideal) x0 x1 x2 x6 = x
    generalize val_main_v192 (F := Ideal) x0 x3 x7 = y
    pointwise
  rw [e]
  by_cases ht : 31 ≤ t.val
  · rw [if_pos ht]
    unfold Nsa.avg
    refine Finset.sum_congr rfl fun c _ => ?_
    rw [v227_at, if_pos ht, v224_at, v220_at]
    exact congrArg _ (congrArg _ (Finset.sum_congr rfl fun c' _ => v220_at x0 x1 x2 x6 t c' h))
  · rw [if_neg ht]
    refine Finset.sum_eq_zero fun c _ => ?_
    rw [v227_at, if_neg ht, mul_zero]

end Cert.ReferenceIdeal.Read
-- ==== Proof.Value.RefMask.lean ====
module

public import proofs.«01_k».proof.Proof.Gen.ReferenceIdeal.Read
public import proofs.«01_k».proof.Proof.Value.Math
public import proofs.«01_k».proof.Proof.Value.RefRows
public import Idealize.ShloMosaic.Lib.SortFacts
public import Idealize.ShloMosaic.Lib.Pointwise
public import Idealize.ShloMosaic.Lib.WordCmp

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

variable (x0 : FVec Ideal S1x2048x2048 .f32) (x1 : FVec Ideal S2048x2048 .f32) (x2 x3 : FVec Ideal S2048x512 .f32)
  (x4 : FVec Ideal S2048x2048 .f32) (x5 : FVec Ideal S2048x48 .f32) (x6 x7 : FVec Ideal S32 .f32)

/-! # Which keys a row may see, in the reference

The reference keeps the sixteen greatest of sixteen key blocks, that is, all of them: its block mask is true
everywhere, and only the causal bound and the window's length remain. -/

/-- The sixteen positions of a full top-k are all the positions. -/
theorem topk_onto {n a b : ℕ} (gt : EReal → EReal → BitVec 1) (x : (⟨3, ![a, b, n]⟩ : Shape).Idx → EReal)
    (h : (⟨3, ![a, b, n]⟩ : Shape).Slices (fun _ => 0) ⟨3, ![a, b, n]⟩) (p : Fin a) (q : Fin b) (j : Fin n) :
    ∃ k : Fin n, (Host.topK ⟨3, ![a, b, n]⟩ 2 gt x h).2 (ix3 p q k) = BitVec.ofNat 32 j.val := by
  obtain ⟨k, hk⟩ := sortedFrom_surjective (fun i i' : Fin n => gt (x ((ix3 p q j).along 2 i)) (x ((ix3 p q j).along 2 i')) == 1#1) j
  have ea : ∀ i : Fin n, (ix3 p q k).along 2 i = (ix3 p q j).along 2 i := fun i => by
    funext c
    match c with
    | ⟨0, _⟩ => rfl
    | ⟨1, _⟩ => rfl
    | ⟨2, _⟩ => rfl
  have key : ∀ j' : (⟨3, ![a, b, n]⟩ : Shape).Idx, j' = ix3 p q k →
      (Host.sort2 ⟨3, ![a, b, n]⟩ 2 (fun l r => gt l.1 r.1) x
        (fun i => if hd : 2 < (⟨3, ![a, b, n]⟩ : Shape).rank then iotaInDim ⟨3, ![a, b, n]⟩ 32 ⟨2, hd⟩ i else 0#32)).2 j' = BitVec.ofNat 32 j.val := by
    rintro _ rfl
    show BitVec.ofNat 32 (Function.update (ix3 p q k) 2 (sortedFrom (fun i i' : Fin n => gt (x ((ix3 p q k).along 2 i)) (x ((ix3 p q k).along 2 i')) == 1#1) k) 2).val = _
    rw [Function.update_self]
    have ef : (fun i i' : Fin n => gt (x ((ix3 p q k).along 2 i)) (x ((ix3 p q k).along 2 i')) == 1#1)
        = fun i i' : Fin n => gt (x ((ix3 p q j).along 2 i)) (x ((ix3 p q j).along 2 i')) == 1#1 := by
      funext i i'; rw [ea, ea]
    exact congrArg (fun z : Fin n => BitVec.ofNat 32 z.val) ((congrArg (fun f => sortedFrom f k) ef).trans hk)
  refine ⟨k, key _ ?_⟩
  funext c
  exact Fin.ext (Nat.zero_add _)

/-- Some position holds each block: the one-hot sum is positive. -/
theorem v263_at (g : Fin 4) (t : Fin 2048) (j : Fin 16) : val_main_v263 (F := Ideal) x0 x1 x2 x6 (ix3 g t j) = 1#1 := by
  obtain ⟨k, hk⟩ := topk_onto (FloatOps.cmpfTotal (F := Ideal) (φ := .f32) .gt) (val_main_v259 (F := Ideal) x0 x1 x2 x6) sliceFits_S4x2048x16_S4x2048x16 g t j
  unfold val_main_v263 val_main_v262 val_main_cst_63 val_main_v261 val_main_cst_62 val_main_v260 val_main_call12_v4 val_main_call12_v3 val_main_call12_v2 val_main_call12_v1 val_main_call12_v0
  have hk' : val_main_indices (F := Ideal) x0 x1 x2 x6 (ix3 g t k) = BitVec.ofNat 32 j.val := hk
  generalize val_main_indices (F := Ideal) x0 x1 x2 x6 = y at hk'
  clear hk
  pointwise
  have hpos : ∀ b : BitVec 1, (0 : EReal) ≤ FloatOps.uitofp (F := Ideal) FTy.f32 b := fun b => by
    show (0 : EReal) ≤ ((b.toNat : ℝ) : EReal)
    exact_mod_cast Nat.zero_le _
  have h1 : (0 : EReal) < FloatOps.uitofp (F := Ideal) FTy.f32 (IntOp.cmpi CmpIPredicate.eq (y (ix3 g t k)) (BitVec.ofNat 32 j.val)) := by
    rw [hk', show IntOp.cmpi CmpIPredicate.eq (BitVec.ofNat 32 j.val) (BitVec.ofNat 32 j.val) = 1#1 by simp [IntOp.cmpi]]
    show (0 : EReal) < (((1#1).toNat : ℝ) : EReal)
    norm_num
  rw [decide_eq_true (lt_of_lt_of_le h1 (Finset.single_le_sum (f := fun i => FloatOps.uitofp (F := Ideal) FTy.f32 (IntOp.cmpi CmpIPredicate.eq (y (ix3 g t i)) (BitVec.ofNat 32 j.val))) (fun i _ => hpos _) (Finset.mem_univ k)))]
  rfl

theorem v263_all (i : S4x2048x16.Idx) : val_main_v263 (F := Ideal) x0 x1 x2 x6 i = 1#1 := by
  refine Eq.trans (congrArg _ ?_) (v263_at x0 x1 x2 x6 (i 0) (i 1) (i 2))
  funext c
  match c with
  | ⟨0, _⟩ => rfl
  | ⟨1, _⟩ => rfl
  | ⟨2, _⟩ => rfl

/-- The block mask is true everywhere. -/
theorem v266_at (i : S16x2048x2048.Idx) : val_main_v266 (F := Ideal) x0 x1 x2 x6 i = 1#1 := by
  have e : ∀ j, val_main_v265 (F := Ideal) x0 x1 x2 x6 j = 1#1 := fun j => by
    unfold val_main_v265 val_main_v264
    exact v263_all x0 x1 x2 x6 _
  unfold val_main_v266 val_main_call13_v13
  have ef : val_main_v265 (F := Ideal) x0 x1 x2 x6 = fun _ => 1#1 := funext e
  rw [ef]
  exact (by decide : ∀ b : BitVec 1, Scalar.select b (1#1) (1#1) = 1#1) _

/-- Choosing between a number and minus infinity by a decided bit. -/
theorem sel_dec {p : Prop} [Decidable p] (b : BitVec 1) (hb : b = BitVec.ofBool (decide p)) (x : EReal) :
    Scalar.select b x (Ideal.ofBits FTy.f32 4286578688#32) = if p then x else ⊥ := by
  rw [hb, show Ideal.ofBits FTy.f32 4286578688#32 = ⊥ by simp [Ideal.ofBits, Ideal.ieee]]
  by_cases h : p
  · rw [if_pos h, decide_eq_true h]; rfl
  · rw [if_neg h, decide_eq_false h]; rfl

theorem subi_slt {a b k : ℕ} (ha : a < 2 ^ 20) (hb : b < 2 ^ 20) (hk : k < 2 ^ 20) :
    IntOp.cmpi CmpIPredicate.slt (IntOp.subi (BitVec.ofNat 32 a) (BitVec.ofNat 32 b)) (BitVec.ofNat 32 k) = BitVec.ofBool (decide (a < b + k)) := by
  rw [WordCmp.cmpi_slt_eq]; congr 1
  have h : (IntOp.subi (BitVec.ofNat 32 a) (BitVec.ofNat 32 b)).toInt = (a : Int) - b := by
    show (BitVec.ofNat 32 a - BitVec.ofNat 32 b).toInt = _
    rw [BitVec.toInt_sub, WordCmp.toInt_ofNat_of_lt (by omega), WordCmp.toInt_ofNat_of_lt (by omega)]
    rw [Int.bmod_eq_of_le] <;> omega
  rw [h, WordCmp.toInt_ofNat_of_lt (by omega)]; congr 1; apply propext; omega

theorem v278_at (t c : Fin 2048) (h : Fin 16) :
    val_main_v278 (F := Ideal) x0 x1 x2 x6 (ix3 h t c) = if c.val ≤ t.val then val_main_v274 (F := Ideal) x0 x1 x2 (ix3 h t c) else ⊥ := by
  have e : val_main_v266 (F := Ideal) x0 x1 x2 x6 = fun _ => 1#1 := funext fun i => v266_at x0 x1 x2 x6 i
  unfold val_main_v278 val_main_v277
  rw [e]
  generalize val_main_v274 (F := Ideal) x0 x1 x2 = x
  pointwise [val_main_call14_v1, val_main_call14_v0, val_main_cst_65, val_main_v276, val_main_v275, val_main_v271, val_main_v270, val_main_v269, val_main_v268, val_main_v267, val_main_v15]
  refine sel_dec _ ?_ _
  rw [WordCmp.cmpi_sge_ofNat (by omega) (by omega)]
  exact (by decide : ∀ b : BitVec 1, IntOp.andi (1#1) b = b) _

theorem v301_at (t c : Fin 2048) (h : Fin 16) :
    val_main_v301 (F := Ideal) x0 x1 x2 (ix3 h t c) = if c.val ≤ t.val ∧ t.val < c.val + 512 then val_main_v274 (F := Ideal) x0 x1 x2 (ix3 h t c) else ⊥ := by
  unfold val_main_v301
  generalize val_main_v274 (F := Ideal) x0 x1 x2 = x
  pointwise [val_main_call15_v1, val_main_call15_v2, val_main_call15_v0, val_main_cst_70, val_main_v300, val_main_v299, val_main_v298, val_main_v297, val_main_c_69, val_main_v296, val_main_v295, val_main_v294, val_main_v293, val_main_v292, val_main_v271, val_main_v270, val_main_v269, val_main_v268, val_main_v267, val_main_v15]
  refine sel_dec _ ?_ _
  rw [WordCmp.cmpi_sge_ofNat (by omega) (by omega), show (512#32) = BitVec.ofNat 32 512 from rfl, subi_slt (by omega) (by omega) (by omega)]
  exact (WordCmp.andi_ofBool _ _).trans (congrArg BitVec.ofBool (Bool.decide_and _ _).symm)

theorem v213_at (t : Fin 2048) (c : Fin 127) (h : Fin 16) :
    val_main_v213 (F := Ideal) x0 x1 x2 x6 (ix3 h t c) = if 16 * c.val + 31 ≤ t.val then val_main_v199 (F := Ideal) x0 x1 x2 x6 (ix3 h t c) else ⊥ := by
  unfold val_main_v213
  generalize val_main_v199 (F := Ideal) x0 x1 x2 x6 = x
  pointwise [val_main_call6_v2, val_main_call6_v1, val_main_call6_v0, val_main_cst_49, val_main_v212, val_main_v211, val_main_v210, val_main_v209, val_main_v208, val_main_v207, val_main_v206, val_main_v205, val_main_c_48, val_main_v204, val_main_v203, val_main_c_47, val_main_v202, val_main_v201, val_main_c_46, val_main_v200, val_main_v15]
  exact sel_dec _ (mask_c t c) _

end Cert.ReferenceIdeal.Read
-- ==== Proof.Value.Rows.lean ====
module

public import proofs.«01_k».proof.Proof.Value.Math

@[expose] public section

/-! # A row of a block, as the block's call computes it, against the same row over all keys

A call scores only the keys its rows can reach, takes the window's weights from the causal ones, and pads
the pooled keys by one masked column. Each of the three branches is still the average over its own row. -/

noncomputable section

namespace Nsa

open Idealize.ShloMosaic

section
variable {K t : ℕ} (hK : K ≤ 2048) (ht : t < K) (s v : Fin 2048 → EReal) (hs : ∀ k, Real' (s k))
  (b w : Fin K → EReal) (hb : ∀ c : Fin K, b c = if c.val ≤ t then s (c.castLE hK) else ⊥) (hw : ∀ c : Fin K, w c = v (c.castLE hK))
include hK ht hs

theorem causal_good : Good (fun k : Fin 2048 => if k.val ≤ t then s k else ⊥) := by
  refine ⟨fun k => ?_, ⟨0, by omega⟩, ?_⟩
  · by_cases h : k.val ≤ t
    · exact Or.inr (by simp only [if_pos h]; exact hs k)
    · exact Or.inl (if_neg h)
  · obtain ⟨r, hr⟩ := hs ⟨0, by omega⟩
    exact ⟨r, (if_pos (Nat.zero_le _)).trans hr⟩

include hb hw

/-- Every key up to the row's own. -/
theorem full_row : Ideal.div (∑ c, wt b c * w c) (∑ c, wt b c) = avg (fun k : Fin 2048 => if k.val ≤ t then s k else ⊥) v := by
  have e : b = fun c => (fun k : Fin 2048 => if k.val ≤ t then s k else ⊥) (c.castLE hK) := funext hb
  rw [e]
  simp only [hw]
  refine avg_reach (fun c : Fin K => c.castLE hK) (Fin.castLE_injective hK) (fun k : Fin 2048 => if k.val ≤ t then s k else ⊥) v
    (causal_good hK ht s hs) fun k hk => ?_
  refine if_neg fun h => hk ⟨k.val, by omega⟩ rfl

/-- The last 512 keys up to the row's own, out of `N` columns starting at `W`. -/
theorem window_row {W N : ℕ} (hN : W + N ≤ K) (hW : W = 0 ∨ W + 511 ≤ t) (htN : t < W + N) :
    Ideal.div (∑ c : Fin N, (if t < W + c.val + 512 then wt b ⟨W + c.val, by omega⟩ else 0) * w ⟨W + c.val, by omega⟩)
        (∑ c : Fin N, if t < W + c.val + 512 then wt b ⟨W + c.val, by omega⟩ else 0)
      = avg (fun k : Fin 2048 => if k.val ≤ t ∧ t < k.val + 512 then s k else ⊥) v := by
  have e : b = fun c => (fun k : Fin 2048 => if k.val ≤ t then s k else ⊥) (c.castLE hK) := funext hb
  have ew : ∀ c : Fin K, wt b c = wt (fun k : Fin 2048 => if k.val ≤ t then s k else ⊥) (c.castLE hK) := fun c => by
    rw [e]; unfold wt
    rw [top_comp (fun c : Fin K => c.castLE hK) (fun k : Fin 2048 => if k.val ≤ t then s k else ⊥) fun k hk =>
      if_neg fun h => hk ⟨k.val, by omega⟩ rfl]
  simp only [hw, ew]
  refine (avg_window (fun c : Fin N => (⟨W + c.val, by omega⟩ : Fin 2048)) (fun a a' h => Fin.ext (by have := congrArg Fin.val h; simp only at this; omega))
    (fun k : Fin 2048 => if k.val ≤ t then s k else ⊥) v (fun k => t < k.val + 512) (causal_good hK ht s hs)
    ⟨⟨t, by omega⟩, by simp, ?_⟩ fun k hk => ?_).trans ?_
  · obtain ⟨r, hr⟩ := hs ⟨t, by omega⟩
    exact ⟨r, (if_pos (le_refl t)).trans hr⟩
  · by_cases h : W ≤ k.val
    · refine Or.inr (if_neg fun h' => hk ⟨k.val - W, by omega⟩ (Fin.ext ?_))
      show W + (k.val - W) = k.val
      omega
    · exact Or.inl fun h' => by omega
  · congr 1
    funext k
    by_cases h1 : t < k.val + 512
    · by_cases h2 : k.val ≤ t
      · rw [if_pos h1, if_pos h2, if_pos ⟨h2, h1⟩]
      · rw [if_pos h1, if_neg h2, if_neg fun h => h2 h.1]
    · rw [if_neg h1, if_neg fun h => h1 h.2]

end

section
variable {t : ℕ} (s v : Fin 127 → EReal) (hs : ∀ k, Real' (s k)) (b w : Fin 128 → EReal)
  (hb : ∀ c : Fin 127, b c.castSucc = if 16 * c.val + 31 ≤ t then s c else ⊥) (hb' : b (Fin.last 127) = ⊥) (hw : ∀ c : Fin 127, w c.castSucc = v c)
include hb hb'

/-- A row before the first pooled window's end: nothing. -/
theorem pooled_row_none (ht : t < 31) (x : EReal) : (∑ c, wt b c * w c) * x = 0 := by
  refine pooled_none b w (fun c => ?_) x
  refine Fin.lastCases hb' (fun c => ?_) c
  rw [hb c, if_neg (by omega)]

include hs hw

/-- A row past it, the weights' sum inverted first. -/
theorem pooled_row (ht : 31 ≤ t) : (∑ c, wt b c * w c) * Ideal.div 1 (∑ c, wt b c) = avg (fun k : Fin 127 => if 16 * k.val + 31 ≤ t then s k else ⊥) v := by
  have e1 : (fun k : Fin 127 => if 16 * k.val + 31 ≤ t then s k else ⊥) = fun k => b k.castSucc := funext fun k => (hb k).symm
  have e2 : v = fun k => w k.castSucc := funext fun k => (hw k).symm
  rw [e1, e2]
  refine avg_pooled (fun k : Fin 127 => k.castSucc) (Fin.castSucc_injective 127) b w ⟨fun k => ?_, 0, ?_⟩ fun i => ?_
  · by_cases h : 16 * k.val + 31 ≤ t
    · exact Or.inr (by show Real' (b k.castSucc); rw [hb k, if_pos h]; exact hs k)
    · exact Or.inl ((hb k).trans (if_neg h))
  · obtain ⟨r, hr⟩ := hs 0
    exact ⟨r, ((hb 0).trans (if_pos (by simpa using ht))).trans hr⟩
  · exact Fin.lastCases (fun _ => hb') (fun c h => absurd rfl (h c)) i

/-- The same, the sum divided. -/
theorem pooled_row_div (ht : 31 ≤ t) : Ideal.div (∑ c, wt b c * w c) (∑ c, wt b c) = avg (fun k : Fin 127 => if 16 * k.val + 31 ≤ t then s k else ⊥) v := by
  rw [← pooled_row s v hs b w hb hb' hw ht]
  have hg : Good b := by
    refine ⟨fun c => ?_, (0 : Fin 127).castSucc, ?_⟩
    · refine Fin.lastCases (Or.inl hb') (fun k => ?_) c
      by_cases h : 16 * k.val + 31 ≤ t
      · exact Or.inr (by rw [hb k, if_pos h]; exact hs k)
      · exact Or.inl (by rw [hb k, if_neg h])
    · obtain ⟨r, hr⟩ := hs 0
      exact ⟨r, by rw [hb 0, if_pos (by simpa using ht)]; exact hr⟩
  obtain ⟨M, a, -, -, hpos, hw', -, -⟩ := weights hg
  have hS : ∑ i, wt b i = ((∑ i, a i : ℝ) : EReal) := by rw [coe_sum]; exact Finset.sum_congr rfl fun i _ => hw' i
  rw [hS, div_real _ _ hpos, div_real _ _ hpos, one_mul]

end

end Nsa
-- ==== Proof.Value.Att.lean ====
module

public import proofs.«01_k».proof.Proof.Gen.KernelIdeal.Skeleton
public import proofs.«01_k».proof.Proof.Value.RefMask
public import proofs.«01_k».proof.Proof.Value.Rows
public import Idealize.ShloMosaic.Lib.Pointwise
public import Idealize.ShloMosaic.Lib.WordCmp

@[expose] public section

set_option maxRecDepth 16384

noncomputable section

namespace Cert.KernelIdeal.Value

open Idealize.ShloMosaic Idealize.ShloMosaic.TcCoe Idealize.SL.Sem
open Cert.KernelIdeal Cert.KernelIdeal.Gen

/-! # The words and rows of an attention block -/

/-- The mask's ideal value. -/
theorem mask_bot : (Named.named (F := Ideal) κ "mask" (φ := .f32) 0xCE6E6B28#32 : EReal) = ⊥ := rfl

/-- A row's position as a word. -/
theorem row_word (b i r : ℕ) : IntOp.addi (BitVec.ofNat 32 r) (Scalar.muli (Scalar.addi (BitVec.ofNat 32 b) (BitVec.ofNat 32 i)) 256#32) = BitVec.ofNat 32 (256 * (b + i) + r) := by
  apply BitVec.eq_of_toNat_eq
  show (BitVec.ofNat 32 r + (BitVec.ofNat 32 b + BitVec.ofNat 32 i) * 256#32).toNat = _
  simp only [BitVec.toNat_add, BitVec.toNat_mul, BitVec.toNat_ofNat]
  omega

/-- Choosing between a number and the mask by a decided bit. -/
theorem sel_mask {p : Prop} [Decidable p] {b : BitVec 1} (hb : b = BitVec.ofBool (decide p)) (x : EReal) :
    Scalar.select b x (Named.named (F := Ideal) κ "mask" (φ := .f32) 0xCE6E6B28#32) = if p then x else ⊥ := by
  rw [hb, mask_bot]
  by_cases h : p
  · rw [if_pos h, decide_eq_true h]; rfl
  · rw [if_neg h, decide_eq_false h]; rfl

theorem sel_zero {p : Prop} [Decidable p] {b : BitVec 1} (hb : b = BitVec.ofBool (decide p)) (x : EReal) :
    Scalar.select b x (0 : EReal) = if p then x else 0 := by
  rw [hb]
  by_cases h : p
  · rw [if_pos h, decide_eq_true h]; rfl
  · rw [if_neg h, decide_eq_false h]; rfl

/-- The exponential of a score's distance from the row's largest. -/
theorem exp_row {n : ℕ} (b : Fin n → EReal) (c : Fin n) {x : EReal} (hx : x = b c) {f : Fin n → EReal} (h : ∀ c, f c = b c) :
    Ideal.exp (x - Finset.univ.fold max (Ideal.ofBits FTy.f32 4286578688#32) f) = Nsa.wt b c := by
  rw [hx, show f = b from funext h, show Ideal.ofBits FTy.f32 4286578688#32 = ⊥ by simp [Ideal.ofBits, Ideal.ieee]]
  rfl

/-- The mask of the pooled keys: whole windows only, the padded column never. -/
theorem pool_mask (t : ℕ) (ht : t < 2 ^ 20) (c : Fin 128) :
    IntOp.andi (IntOp.cmpi CmpIPredicate.sge (BitVec.ofNat 32 t) (IntOp.subi (IntOp.addi (IntOp.muli (BitVec.ofNat 32 c.val) 16#32) 32#32) 1#32))
        (IntOp.cmpi CmpIPredicate.slt (BitVec.ofNat 32 c.val) 127#32)
      = BitVec.ofBool (decide (16 * c.val + 31 ≤ t ∧ c.val < 127)) := by
  have e : IntOp.subi (IntOp.addi (IntOp.muli (BitVec.ofNat 32 c.val) 16#32) 32#32) 1#32 = BitVec.ofNat 32 (16 * c.val + 31) := by
    apply BitVec.eq_of_toNat_eq
    show (BitVec.ofNat 32 c.val * 16#32 + 32#32 - 1#32).toNat = _
    simp only [BitVec.toNat_sub, BitVec.toNat_add, BitVec.toNat_mul, BitVec.toNat_ofNat]
    omega
  rw [e, WordCmp.cmpi_sge_ofNat (by omega) (by omega), show (127#32) = BitVec.ofNat 32 127 from rfl, WordCmp.cmpi_slt_ofNat (by omega) (by omega)]
  exact (WordCmp.andi_ofBool _ _).trans (congrArg BitVec.ofBool (Bool.decide_and _ _).symm)

/-- Whether a row sees a whole pooled window, as a number. -/
theorem seen_word (t : ℕ) (ht : t < 2 ^ 20) :
    (FloatOps.sitofp (F := Ideal) FTy.f32 (BitVec.setWidth 32 (IntOp.cmpi CmpIPredicate.sge (BitVec.ofNat 32 t) 31#32)) : EReal) = if 31 ≤ t then 1 else 0 := by
  rw [show (31#32) = BitVec.ofNat 32 31 from rfl, WordCmp.cmpi_sge_ofNat (by omega) (by omega)]
  by_cases h : 31 ≤ t
  · rw [if_pos h, decide_eq_true h]
    show (((BitVec.setWidth 32 (1#1)).toInt : ℝ) : EReal) = 1
    norm_num [show (BitVec.setWidth 32 (1#1)).toInt = 1 from rfl]
  · rw [if_neg h, decide_eq_false h]
    show (((BitVec.setWidth 32 (0#1)).toInt : ℝ) : EReal) = 0
    norm_num [show (BitVec.setWidth 32 (0#1)).toInt = 0 from rfl]

/-- The causal scores of row `t` against `n` keys. -/
def causal {n : ℕ} (t : ℕ) (q : Fin 128 → EReal) (k : Fin n → Fin 128 → EReal) (c : Fin n) : EReal :=
  if c.val ≤ t then ∑ d, q d * k c d else ⊥

/-- The scores of row `t` against the pooled keys. -/
def pooled (t : ℕ) (q : Fin 128 → EReal) (k : Fin 128 → Fin 128 → EReal) (c : Fin 128) : EReal :=
  if 16 * c.val + 31 ≤ t ∧ c.val < 127 then ∑ d, q d * k c d else ⊥

/-- A row's average over all the columns of its call. -/
def fullOut {n : ℕ} (s w : Fin n → EReal) : EReal := Ideal.div (∑ c, Nsa.wt s c * w c) (∑ c, Nsa.wt s c)

/-- A row's average over its last 512 keys, looked for among `N` columns from `W`. -/
def winOut {n : ℕ} (t W N : ℕ) (h : W + N ≤ n) (s w : Fin n → EReal) : EReal :=
  Ideal.div (∑ c : Fin N, (if t < W + c.val + 512 then Nsa.wt s ⟨W + c.val, by omega⟩ else 0) * w ⟨W + c.val, by omega⟩)
    (∑ c : Fin N, if t < W + c.val + 512 then Nsa.wt s ⟨W + c.val, by omega⟩ else 0)

/-- The pooled branch of the first call, which asks whether the row sees a whole window. -/
def poolOut (t : ℕ) (s w : Fin 128 → EReal) : EReal :=
  (∑ c, Nsa.wt s c * w c) * Ideal.div (if 31 ≤ t then 1 else 0) (∑ c, Nsa.wt s c)

/-- The pooled branch of the other calls, whose rows all see a whole window. -/
def poolAvg (_ : ℕ) (s w : Fin 128 → EReal) : EReal := fullOut s w

/-- The three gated branches of a call at row `t`, head `h` and lane `d`, from the arrays the call reads: the pooled branch `P`, the
    average over the call's `n` keys, the average over the last 512 of them. -/
def rowVal (n W N : ℕ) (hn : n ≤ 2048) (hN : W + N ≤ n) (P : ℕ → (Fin 128 → EReal) → (Fin 128 → EReal) → EReal)
    (q : FVec Ideal S16x2048x128 .bf16) (k v : FVec Ideal S4x2048x128 .bf16) (ck cv : FVec Ideal S4x128x128 .bf16) (g : FVec Ideal S2048x128 .f32) (sel : FVec Ideal S16x128x128 .bf16)
    (t : Fin 2048) (h : Fin 16) (d : Fin 128) : EReal :=
  let s : Fin n → EReal := causal t.val (fun d => q (ix3 h t d)) (fun c d => k (ix3 (⟨h.val / 4, by omega⟩ : Fin 4) (c.castLE hn) d))
  let w : Fin n → EReal := fun c => v (ix3 (⟨h.val / 4, by omega⟩ : Fin 4) (c.castLE hn) d)
  (∑ x : Fin 128, g (ix2 t x) * sel (ix3 h x 0)) * P t.val (pooled t.val (fun d => q (ix3 h t d)) (fun c d => ck (ix3 (⟨h.val / 4, by omega⟩ : Fin 4) c d))) (fun c => cv (ix3 (⟨h.val / 4, by omega⟩ : Fin 4) c d))
    + (∑ x : Fin 128, g (ix2 t x) * sel (ix3 h x 1)) * fullOut s w
    + (∑ x : Fin 128, g (ix2 t x) * sel (ix3 h x 2)) * winOut t.val W N hN s w

end Cert.KernelIdeal.Value
-- ==== Proof.Value.Att1.lean ====
module

public import proofs.«01_k».proof.Proof.Gen.Own.KernelIdeal.K1.Frame
public import proofs.«01_k».proof.Proof.Value.Att
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! # The first attention call: rows 0 to 511, scored against the first 512 keys -/

namespace K1

abbrev row (i : grid1.Coords) (r : Fin 256) : ℕ := 256 * (0 + (i 0).val) + r.val

theorem row_lt (i : grid1.Coords) (r : Fin 256) : row i r < 512 := by
  have := (i 0).isLt
  have h2 : (i 0).val < 2 := this
  unfold row; omega

theorem weights (i : grid1.Coords) (v0 : Vec Ideal S1x256x128 .bf16) (v2 : Vec Ideal S1x512x128 .bf16) (r : Fin 256) (c : Fin 512) :
    k1_pay4 i v0 v2 (ix2 r c) = Nsa.wt (causal (row i r) (fun d => v0 (ix3 0 r d)) (fun c d => v2 (ix3 0 c d))) c := by
  have hr : 256 * (0 + (i 0).val) + r.val < 512 := row_lt i r
  unfold k1_pay4 k1_pay3 k1_pay2
  pointwise
  have hb : ∀ c : Fin 512, IntOp.cmpi CmpIPredicate.sge (IntOp.addi (BitVec.ofNat 32 r.val) (Scalar.muli (Scalar.addi (0#32) (BitVec.ofNat 32 (i 0).val)) 256#32)) (BitVec.ofNat 32 c.val) = BitVec.ofBool (decide (c.val ≤ row i r)) := fun c => by
    rw [show (0#32) = BitVec.ofNat 32 0 from rfl, row_word, WordCmp.cmpi_sge_ofNat (by omega) (by omega)]
  exact exp_row _ c (sel_mask (hb c) _) fun c => sel_mask (hb c) _

theorem full (i : grid1.Coords) (v0 : Vec Ideal S1x256x128 .bf16) (v2 v22 : Vec Ideal S1x512x128 .bf16) (r : Fin 256) (d : Fin 128) :
    k1_pay5 i v0 v2 v22 (ix2 r d) = fullOut (causal (row i r) (fun d => v0 (ix3 0 r d)) (fun c d => v2 (ix3 0 c d))) (fun c => v22 (ix3 0 c d)) := by
  have e := weights i v0 v2 r
  unfold k1_pay5
  generalize k1_pay4 i v0 v2 = x at e
  pointwise
  simp only [e]
  rfl

theorem kept (i : grid1.Coords) (v0 : Vec Ideal S1x256x128 .bf16) (v2 : Vec Ideal S1x512x128 .bf16) (r : Fin 256) (c : Fin 512) :
    k1_pay6 i v0 v2 (ix2 r c) = if row i r < c.val + 512 then k1_pay4 i v0 v2 (ix2 r c) else 0 := by
  have hr : 256 * (0 + (i 0).val) + r.val < 512 := row_lt i r
  unfold k1_pay6 k1_pay3
  generalize k1_pay4 i v0 v2 = x
  pointwise
  refine sel_zero ?_ _
  rw [show (0#32) = BitVec.ofNat 32 0 from rfl, row_word, show (512#32) = BitVec.ofNat 32 512 from rfl, Cert.ReferenceIdeal.Read.subi_slt (by omega) (by omega) (by omega)]

theorem window (i : grid1.Coords) (v0 : Vec Ideal S1x256x128 .bf16) (v2 v22 : Vec Ideal S1x512x128 .bf16) (r : Fin 256) (d : Fin 128) :
    k1_pay9 (k1_pay6 i v0 v2) (k1_pay7 i v0 v2) (k1_pay8 v22) (ix2 r d)
      = winOut (row i r) 0 512 (by omega) (causal (row i r) (fun d => v0 (ix3 0 r d)) (fun c d => v2 (ix3 0 c d))) (fun c => v22 (ix3 0 c d)) := by
  have e := kept i v0 v2 r
  have e' := weights i v0 v2 r
  unfold k1_pay9 k1_pay7 k1_pay8
  generalize k1_pay6 i v0 v2 = x at e
  generalize k1_pay4 i v0 v2 = y at e e'
  pointwise
  simp only [e, e']
  unfold winOut
  simp only [Nat.zero_add]

theorem pool_weights (i : grid1.Coords) (v1 : FVec Ideal S256x128 .bf16) (v56 : Vec Ideal S1x128x128 .bf16) (r : Fin 256) (c : Fin 128) :
    k1_pay11 (BitVec.ofNat 32 (i 0).val) v1 v56 (ix2 r c) = Nsa.wt (pooled (row i r) (fun d => v1 (ix2 r d)) (fun c d => v56 (ix3 0 c d))) c := by
  have hr : 256 * (0 + (i 0).val) + r.val < 512 := row_lt i r
  unfold k1_pay11 k1_pay10
  pointwise
  have hb : ∀ c : Fin 128, _ = BitVec.ofBool (decide (16 * c.val + 31 ≤ row i r ∧ c.val < 127)) := fun c => pool_mask (row i r) (by unfold row; omega) c
  have hw : IntOp.addi (BitVec.ofNat 32 r.val) (Scalar.muli (Scalar.addi (0#32) (BitVec.ofNat 32 (i 0).val)) 256#32) = BitVec.ofNat 32 (row i r) := row_word 0 _ _
  rw [hw]
  exact exp_row _ c (sel_mask (hb c) _) fun c => sel_mask (hb c) _

/-- The block a grid point stores, at a row and a column. -/
theorem block (i : grid1.Coords) (v0 : Vec Ideal S1x256x128 .bf16) (v2 v22 : Vec Ideal S1x512x128 .bf16) (v56 v69 : Vec Ideal S1x128x128 .bf16)
    (v80 : Vec Ideal S256x128 .f32) (v83 : Vec Ideal S1x128x128 .bf16) (r : Fin 256) (d : Fin 128) :
    k1_pay1 (k1_pay5 i v0 v2 v22) (k1_pay9 (k1_pay6 i v0 v2) (k1_pay7 i v0 v2) (k1_pay8 v22))
        (k1_pay12 (BitVec.ofNat 32 (i 0).val) (k1_pay2 v0) v56) (k1_pay13 (BitVec.ofNat 32 (i 0).val) (k1_pay2 v0) v56 v69) (k1_pay14 (BitVec.ofNat 32 (i 0).val)) v80 v83 (ix2 r d)
      = (∑ x : Fin 128, v80 (ix2 r x) * v83 (ix3 0 x 0)) * poolOut (row i r) (pooled (row i r) (fun d => v0 (ix3 0 r d)) (fun c d => v56 (ix3 0 c d))) (fun c => v69 (ix3 0 c d))
        + (∑ x : Fin 128, v80 (ix2 r x) * v83 (ix3 0 x 1)) * fullOut (causal (row i r) (fun d => v0 (ix3 0 r d)) (fun c d => v2 (ix3 0 c d))) (fun c => v22 (ix3 0 c d))
        + (∑ x : Fin 128, v80 (ix2 r x) * v83 (ix3 0 x 2)) * winOut (row i r) 0 512 (by omega) (causal (row i r) (fun d => v0 (ix3 0 r d)) (fun c d => v2 (ix3 0 c d))) (fun c => v22 (ix3 0 c d)) := by
  have hr : 256 * (0 + (i 0).val) + r.val < 512 := row_lt i r
  have e1 := full i v0 v2 v22 r d
  have e2 := window i v0 v2 v22 r d
  have e3 := pool_weights i (k1_pay2 v0) v56 r
  have e4 : ∀ d, k1_pay2 v0 (ix2 r d) = v0 (ix3 0 r d) := fun d => by pointwise [k1_pay2]
  simp only [e4] at e3
  unfold k1_pay1 k1_pay12 k1_pay13 k1_pay14 k1_pay10
  generalize k1_pay5 i v0 v2 v22 = a at e1
  generalize k1_pay9 (k1_pay6 i v0 v2) (k1_pay7 i v0 v2) (k1_pay8 v22) = b at e2
  generalize k1_pay11 (BitVec.ofNat 32 (i 0).val) (k1_pay2 v0) v56 = x at e3
  pointwise
  rw [e1, e2, show (0#32) = BitVec.ofNat 32 0 from rfl, row_word, seen_word _ (by omega)]
  simp only [e3]
  rfl

variable (V : (c : Dev nD) → (b : Ref sig .tc) → Buf (Elt Ideal) ((c : Thread nD τ).loc b))

theorem idx : ∀ t : Fin cfg1.N, win1_0.index t = ![(grid1.coords t 1).val, 0 + (grid1.coords t 0).val, 0] ∧ win1_1.index t = ![(grid1.coords t 1).val / 4, 0, 0]
    ∧ win1_2.index t = ![(grid1.coords t 1).val / 4, 0, 0] ∧ win1_3.index t = ![(grid1.coords t 1).val / 4, 0, 0] ∧ win1_4.index t = ![(grid1.coords t 1).val / 4, 0, 0]
    ∧ win1_5.index t = ![0 + (grid1.coords t 0).val, 0] ∧ win1_6.index t = ![(grid1.coords t 1).val, 0, 0] ∧ win1_7.index t = ![(grid1.coords t 0).val, (grid1.coords t 1).val] :=
  (by decide +kernel : ∀ t : Fin grid1.N, _)

theorem read0 (c : Dev nD) (t : Fin cfg1.N) (T : Fin 2048) (H : Fin 16) (r : Fin 256) (d : Fin 128) (hT : T.val = 256 * (0 + (grid1.coords t 0).val) + r.val) (hH : H.val = (grid1.coords t 1).val) :
    Own.K1.iblk V c 0 t (ix3 (0 : Fin 1) r d) = V c main_v128_0 (ix3 H T d) := by blk_ext [Own.K1.iblk, idx t]

theorem read5 (c : Dev nD) (t : Fin cfg1.N) (T : Fin 2048) (r : Fin 256) (d : Fin 128) (hT : T.val = 256 * (0 + (grid1.coords t 0).val) + r.val) :
    Own.K1.iblk V c 5 t (ix2 r d) = V c main_v128_3 (ix2 T d) := by blk_ext [Own.K1.iblk, idx t]

theorem read1 (c : Dev nD) (t : Fin cfg1.N) (K : Fin 4) (hK : K.val = (grid1.coords t 1).val / 4) (j : Fin 512) (d : Fin 128) :
    Own.K1.iblk V c 1 t (ix3 (0 : Fin 1) j d) = V c main_v128_1 (ix3 K (⟨j.val, by omega⟩ : Fin 2048) d) := by blk_ext [Own.K1.iblk, idx t]

theorem read2 (c : Dev nD) (t : Fin cfg1.N) (K : Fin 4) (hK : K.val = (grid1.coords t 1).val / 4) (j : Fin 512) (d : Fin 128) :
    Own.K1.iblk V c 2 t (ix3 (0 : Fin 1) j d) = V c main_v128_2 (ix3 K (⟨j.val, by omega⟩ : Fin 2048) d) := by blk_ext [Own.K1.iblk, idx t]

theorem read3 (c : Dev nD) (t : Fin cfg1.N) (K : Fin 4) (hK : K.val = (grid1.coords t 1).val / 4) (j d : Fin 128) :
    Own.K1.iblk V c 3 t (ix3 (0 : Fin 1) j d) = V c main_v128_4 (ix3 K j d) := by blk_ext [Own.K1.iblk, idx t]

theorem read4 (c : Dev nD) (t : Fin cfg1.N) (K : Fin 4) (hK : K.val = (grid1.coords t 1).val / 4) (j d : Fin 128) :
    Own.K1.iblk V c 4 t (ix3 (0 : Fin 1) j d) = V c main_v128_5 (ix3 K j d) := by blk_ext [Own.K1.iblk, idx t]

theorem read6 (c : Dev nD) (t : Fin cfg1.N) (H : Fin 16) (hH : H.val = (grid1.coords t 1).val) (j d : Fin 128) :
    Own.K1.iblk V c 6 t (ix3 (0 : Fin 1) j d) = V c main_v147 (ix3 H j d) := by blk_ext [Own.K1.iblk, idx t]

set_option maxHeartbeats 1000000 in
/-- A grid point's block, from the arrays. -/
theorem point (c : Dev nD) (t : Fin cfg1.N) (T : Fin 2048) (H : Fin 16) (r : Fin 256) (d d' : Fin 128) (hT : T.val = 256 * 0 + (win1_7.index t 0 * 256 + r.val))
    (hH : H.val = (win1_7.index t 1 * 128 + d.val) / 128) (hd : d'.val = (win1_7.index t 1 * 128 + d.val) % 128) :
    k1_pay1 (k1_pay5 (grid1.coords t) (Own.K1.iblk V c 0 t) (Own.K1.iblk V c 1 t) (Own.K1.iblk V c 2 t))
        (k1_pay9 (k1_pay6 (grid1.coords t) (Own.K1.iblk V c 0 t) (Own.K1.iblk V c 1 t)) (k1_pay7 (grid1.coords t) (Own.K1.iblk V c 0 t) (Own.K1.iblk V c 1 t)) (k1_pay8 (Own.K1.iblk V c 2 t)))
        (k1_pay12 (BitVec.ofNat 32 (grid1.coords t 0).val) (k1_pay2 (Own.K1.iblk V c 0 t)) (Own.K1.iblk V c 3 t))
        (k1_pay13 (BitVec.ofNat 32 (grid1.coords t 0).val) (k1_pay2 (Own.K1.iblk V c 0 t)) (Own.K1.iblk V c 3 t) (Own.K1.iblk V c 4 t))
        (k1_pay14 (BitVec.ofNat 32 (grid1.coords t 0).val)) (Own.K1.iblk V c 5 t) (Own.K1.iblk V c 6 t) (ix2 r d)
      = rowVal 512 0 512 (by omega) (by omega) poolOut (V c main_v128_0) (V c main_v128_1) (V c main_v128_2) (V c main_v128_4) (V c main_v128_5) (V c main_v128_3) (V c main_v147) T H d' := by
  have hd' : d' = d := Fin.ext (by omega)
  rw [(idx t).2.2.2.2.2.2.2] at hT hH
  replace hT : T.val = 256 * 0 + ((grid1.coords t 0).val * 256 + r.val) := hT
  replace hH : H.val = ((grid1.coords t 1).val * 128 + d.val) / 128 := hH
  have hT' : T.val = 256 * (0 + (grid1.coords t 0).val) + r.val := by omega
  have hH' : H.val = (grid1.coords t 1).val := by omega
  have hK : H.val / 4 = (grid1.coords t 1).val / 4 := by omega
  have hK4 : H.val / 4 < 4 := by omega
  refine (block _ _ _ _ _ _ _ _ r d).trans ?_
  unfold row
  simp only [← hT', read0 V c t T H r _ hT' hH', read5 V c t T r _ hT', read1 V c t ⟨H.val / 4, hK4⟩ hK, read2 V c t ⟨H.val / 4, hK4⟩ hK, read3 V c t ⟨H.val / 4, hK4⟩ hK,
    read4 V c t ⟨H.val / 4, hK4⟩ hK, read6 V c t H hH']
  rw [hd']
  rfl

variable (𝒱₀ : Variants) (D : Dev nD → CellTallies nD τ sig Unit)

/-- The array the call leaves. -/
theorem final (c : Dev nD) : (Own.K1.dat (Ix := Unit) (U := UR sig nD τ) (Lvl := ℕ) 𝒱₀ V D c).arrAt 7 cfg1.N
    = fun y : S512x2048.Idx => rowVal 512 0 512 (by omega) (by omega) poolOut (V c main_v128_0) (V c main_v128_1) (V c main_v128_2) (V c main_v128_4) (V c main_v128_5) (V c main_v128_3) (V c main_v147)
        ⟨256 * 0 + (y 0).val, by have : (y 0).val < 512 := (y 0).isLt; omega⟩ ⟨(y 1).val / 128, by have : (y 1).val < 2048 := (y 1).isLt; omega⟩ ⟨(y 1).val % 128, by omega⟩ := by
  refine (Own.K1.dat (Ix := Unit) (U := UR sig nD τ) (Lvl := ℕ) 𝒱₀ V D c).arrAt_eq_of_covers 7 _ (by decide +kernel) fun t _ y => ?_
  blk_simp
  rw [Own.K1.after1_7]
  unfold Own.K1.outsAt1
  frame_out
  idx_vars y
  exact point V c t _ _ _ _ _ rfl rfl rfl

end K1

end Cert.KernelIdeal.Value
-- ==== Proof.Value.Att2.lean ====
module

public import proofs.«01_k».proof.Proof.Gen.Own.KernelIdeal.K2.Frame
public import proofs.«01_k».proof.Proof.Value.Att
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! # The second attention call: rows 512 to 1023, scored against the first 1024 keys -/

namespace K2

abbrev row (i : grid2.Coords) (r : Fin 256) : ℕ := 256 * (2 + (i 0).val) + r.val

theorem row_lt (i : grid2.Coords) (r : Fin 256) : row i r < 1024 := by
  have := (i 0).isLt
  have h2 : (i 0).val < 2 := this
  unfold row; omega

theorem weights (i : grid2.Coords) (v0 : Vec Ideal S1x256x128 .bf16) (v2 : Vec Ideal S1x1024x128 .bf16) (r : Fin 256) (c : Fin 1024) :
    k2_pay4 i v0 v2 (ix2 r c) = Nsa.wt (causal (row i r) (fun d => v0 (ix3 0 r d)) (fun c d => v2 (ix3 0 c d))) c := by
  have hr : 256 * (2 + (i 0).val) + r.val < 1024 := row_lt i r
  unfold k2_pay4 k2_pay3 k2_pay2
  pointwise
  have hb : ∀ c : Fin 1024, IntOp.cmpi CmpIPredicate.sge (IntOp.addi (BitVec.ofNat 32 r.val) (Scalar.muli (Scalar.addi (2#32) (BitVec.ofNat 32 (i 0).val)) 256#32)) (BitVec.ofNat 32 c.val) = BitVec.ofBool (decide (c.val ≤ row i r)) := fun c => by
    rw [show (2#32) = BitVec.ofNat 32 2 from rfl, row_word, WordCmp.cmpi_sge_ofNat (by omega) (by omega)]
  exact exp_row _ c (sel_mask (hb c) _) fun c => sel_mask (hb c) _

theorem full (i : grid2.Coords) (v0 : Vec Ideal S1x256x128 .bf16) (v2 v22 : Vec Ideal S1x1024x128 .bf16) (r : Fin 256) (d : Fin 128) :
    k2_pay5 i v0 v2 v22 (ix2 r d) = fullOut (causal (row i r) (fun d => v0 (ix3 0 r d)) (fun c d => v2 (ix3 0 c d))) (fun c => v22 (ix3 0 c d)) := by
  have e := weights i v0 v2 r
  unfold k2_pay5
  generalize k2_pay4 i v0 v2 = x at e
  pointwise
  simp only [e]
  rfl

theorem kept (i : grid2.Coords) (v0 : Vec Ideal S1x256x128 .bf16) (v2 : Vec Ideal S1x1024x128 .bf16) (r : Fin 256) (c : Fin 1024) :
    k2_pay6 i v0 v2 (ix2 r c) = if row i r < c.val + 512 then k2_pay4 i v0 v2 (ix2 r c) else 0 := by
  have hr : 256 * (2 + (i 0).val) + r.val < 1024 := row_lt i r
  unfold k2_pay6 k2_pay3
  generalize k2_pay4 i v0 v2 = x
  pointwise
  refine sel_zero ?_ _
  rw [show (2#32) = BitVec.ofNat 32 2 from rfl, row_word, show (512#32) = BitVec.ofNat 32 512 from rfl, Cert.ReferenceIdeal.Read.subi_slt (by omega) (by omega) (by omega)]

theorem window (i : grid2.Coords) (v0 : Vec Ideal S1x256x128 .bf16) (v2 v22 : Vec Ideal S1x1024x128 .bf16) (r : Fin 256) (d : Fin 128) :
    k2_pay9 (k2_pay6 i v0 v2) (k2_pay7 i v0 v2) (k2_pay8 v22) (ix2 r d)
      = winOut (row i r) 0 1024 (by omega) (causal (row i r) (fun d => v0 (ix3 0 r d)) (fun c d => v2 (ix3 0 c d))) (fun c => v22 (ix3 0 c d)) := by
  have e := kept i v0 v2 r
  have e' := weights i v0 v2 r
  unfold k2_pay9 k2_pay7 k2_pay8
  generalize k2_pay6 i v0 v2 = x at e
  generalize k2_pay4 i v0 v2 = y at e e'
  pointwise
  simp only [e, e']
  unfold winOut
  simp only [Nat.zero_add]

theorem pool (i : grid2.Coords) (v1 : FVec Ideal S256x128 .bf16) (v56 v69 : Vec Ideal S1x128x128 .bf16) (r : Fin 256) (d : Fin 128) :
    k2_pay10 (BitVec.ofNat 32 (i 0).val) v1 v56 v69 (ix2 r d) = poolAvg (row i r) (pooled (row i r) (fun d => v1 (ix2 r d)) (fun c d => v56 (ix3 0 c d))) (fun c => v69 (ix3 0 c d)) := by
  have hr : 256 * (2 + (i 0).val) + r.val < 1024 := row_lt i r
  have hb : ∀ c : Fin 128, _ = BitVec.ofBool (decide (16 * c.val + 31 ≤ row i r ∧ c.val < 127)) := fun c => pool_mask (row i r) (by unfold row; omega) c
  have hw : IntOp.addi (BitVec.ofNat 32 r.val) (Scalar.muli (Scalar.addi (2#32) (BitVec.ofNat 32 (i 0).val)) 256#32) = BitVec.ofNat 32 (row i r) := row_word 2 _ _
  unfold k2_pay10
  pointwise
  rw [hw]
  exact congrArg₂ Ideal.div
    (Finset.sum_congr rfl fun c _ => congrArg₂ (· * ·) (exp_row _ c (sel_mask (hb c) _) fun c => sel_mask (hb c) _) rfl)
    (Finset.sum_congr rfl fun c _ => exp_row _ c (sel_mask (hb c) _) fun c => sel_mask (hb c) _)

/-- The block a grid point stores, at a row and a column. -/
theorem block (i : grid2.Coords) (v0 : Vec Ideal S1x256x128 .bf16) (v2 v22 : Vec Ideal S1x1024x128 .bf16) (v56 v69 : Vec Ideal S1x128x128 .bf16)
    (v80 : Vec Ideal S256x128 .f32) (v83 : Vec Ideal S1x128x128 .bf16) (r : Fin 256) (d : Fin 128) :
    k2_pay1 (k2_pay5 i v0 v2 v22) (k2_pay9 (k2_pay6 i v0 v2) (k2_pay7 i v0 v2) (k2_pay8 v22))
        (k2_pay10 (BitVec.ofNat 32 (i 0).val) (k2_pay2 v0) v56 v69) (k2_pay11 v80) v83 (ix2 r d)
      = (∑ x : Fin 128, v80 (ix2 r x) * v83 (ix3 0 x 0)) * poolAvg (row i r) (pooled (row i r) (fun d => v0 (ix3 0 r d)) (fun c d => v56 (ix3 0 c d))) (fun c => v69 (ix3 0 c d))
        + (∑ x : Fin 128, v80 (ix2 r x) * v83 (ix3 0 x 1)) * fullOut (causal (row i r) (fun d => v0 (ix3 0 r d)) (fun c d => v2 (ix3 0 c d))) (fun c => v22 (ix3 0 c d))
        + (∑ x : Fin 128, v80 (ix2 r x) * v83 (ix3 0 x 2)) * winOut (row i r) 0 1024 (by omega) (causal (row i r) (fun d => v0 (ix3 0 r d)) (fun c d => v2 (ix3 0 c d))) (fun c => v22 (ix3 0 c d)) := by
  have hr : 256 * (2 + (i 0).val) + r.val < 1024 := row_lt i r
  have e1 := full i v0 v2 v22 r d
  have e2 := window i v0 v2 v22 r d
  have e3 := pool i (k2_pay2 v0) v56 v69 r d
  have e4 : ∀ d, k2_pay2 v0 (ix2 r d) = v0 (ix3 0 r d) := fun d => by pointwise [k2_pay2]
  simp only [e4] at e3
  unfold k2_pay1 k2_pay11
  generalize k2_pay5 i v0 v2 v22 = a at e1
  generalize k2_pay9 (k2_pay6 i v0 v2) (k2_pay7 i v0 v2) (k2_pay8 v22) = b at e2
  generalize k2_pay10 (BitVec.ofNat 32 (i 0).val) (k2_pay2 v0) v56 v69 = x at e3
  pointwise
  rw [e1, e2, e3]

variable (V : (c : Dev nD) → (b : Ref sig .tc) → Buf (Elt Ideal) ((c : Thread nD τ).loc b))

theorem idx : ∀ t : Fin cfg2.N, win2_0.index t = ![(grid2.coords t 1).val, 2 + (grid2.coords t 0).val, 0] ∧ win2_1.index t = ![(grid2.coords t 1).val / 4, 0, 0]
    ∧ win2_2.index t = ![(grid2.coords t 1).val / 4, 0, 0] ∧ win2_3.index t = ![(grid2.coords t 1).val / 4, 0, 0] ∧ win2_4.index t = ![(grid2.coords t 1).val / 4, 0, 0]
    ∧ win2_5.index t = ![2 + (grid2.coords t 0).val, 0] ∧ win2_6.index t = ![(grid2.coords t 1).val, 0, 0] ∧ win2_7.index t = ![(grid2.coords t 0).val, (grid2.coords t 1).val] :=
  (by decide +kernel : ∀ t : Fin grid2.N, _)

theorem read0 (c : Dev nD) (t : Fin cfg2.N) (T : Fin 2048) (H : Fin 16) (r : Fin 256) (d : Fin 128) (hT : T.val = 256 * (2 + (grid2.coords t 0).val) + r.val) (hH : H.val = (grid2.coords t 1).val) :
    Own.K2.iblk V c 0 t (ix3 (0 : Fin 1) r d) = V c main_v128_0 (ix3 H T d) := by blk_ext [Own.K2.iblk, idx t]

theorem read5 (c : Dev nD) (t : Fin cfg2.N) (T : Fin 2048) (r : Fin 256) (d : Fin 128) (hT : T.val = 256 * (2 + (grid2.coords t 0).val) + r.val) :
    Own.K2.iblk V c 5 t (ix2 r d) = V c main_v128_3 (ix2 T d) := by blk_ext [Own.K2.iblk, idx t]

theorem read1 (c : Dev nD) (t : Fin cfg2.N) (K : Fin 4) (hK : K.val = (grid2.coords t 1).val / 4) (j : Fin 1024) (d : Fin 128) :
    Own.K2.iblk V c 1 t (ix3 (0 : Fin 1) j d) = V c main_v128_1 (ix3 K (⟨j.val, by omega⟩ : Fin 2048) d) := by blk_ext [Own.K2.iblk, idx t]

theorem read2 (c : Dev nD) (t : Fin cfg2.N) (K : Fin 4) (hK : K.val = (grid2.coords t 1).val / 4) (j : Fin 1024) (d : Fin 128) :
    Own.K2.iblk V c 2 t (ix3 (0 : Fin 1) j d) = V c main_v128_2 (ix3 K (⟨j.val, by omega⟩ : Fin 2048) d) := by blk_ext [Own.K2.iblk, idx t]

theorem read3 (c : Dev nD) (t : Fin cfg2.N) (K : Fin 4) (hK : K.val = (grid2.coords t 1).val / 4) (j d : Fin 128) :
    Own.K2.iblk V c 3 t (ix3 (0 : Fin 1) j d) = V c main_v128_4 (ix3 K j d) := by blk_ext [Own.K2.iblk, idx t]

theorem read4 (c : Dev nD) (t : Fin cfg2.N) (K : Fin 4) (hK : K.val = (grid2.coords t 1).val / 4) (j d : Fin 128) :
    Own.K2.iblk V c 4 t (ix3 (0 : Fin 1) j d) = V c main_v128_5 (ix3 K j d) := by blk_ext [Own.K2.iblk, idx t]

theorem read6 (c : Dev nD) (t : Fin cfg2.N) (H : Fin 16) (hH : H.val = (grid2.coords t 1).val) (j d : Fin 128) :
    Own.K2.iblk V c 6 t (ix3 (0 : Fin 1) j d) = V c main_v147 (ix3 H j d) := by blk_ext [Own.K2.iblk, idx t]

set_option maxHeartbeats 1000000 in
/-- A grid point's block, from the arrays. -/
theorem point (c : Dev nD) (t : Fin cfg2.N) (T : Fin 2048) (H : Fin 16) (r : Fin 256) (d d' : Fin 128) (hT : T.val = 256 * 2 + (win2_7.index t 0 * 256 + r.val))
    (hH : H.val = (win2_7.index t 1 * 128 + d.val) / 128) (hd : d'.val = (win2_7.index t 1 * 128 + d.val) % 128) :
    k2_pay1 (k2_pay5 (grid2.coords t) (Own.K2.iblk V c 0 t) (Own.K2.iblk V c 1 t) (Own.K2.iblk V c 2 t))
        (k2_pay9 (k2_pay6 (grid2.coords t) (Own.K2.iblk V c 0 t) (Own.K2.iblk V c 1 t)) (k2_pay7 (grid2.coords t) (Own.K2.iblk V c 0 t) (Own.K2.iblk V c 1 t)) (k2_pay8 (Own.K2.iblk V c 2 t)))
        (k2_pay10 (BitVec.ofNat 32 (grid2.coords t 0).val) (k2_pay2 (Own.K2.iblk V c 0 t)) (Own.K2.iblk V c 3 t) (Own.K2.iblk V c 4 t)) (k2_pay11 (Own.K2.iblk V c 5 t)) (Own.K2.iblk V c 6 t) (ix2 r d)
      = rowVal 1024 0 1024 (by omega) (by omega) poolAvg (V c main_v128_0) (V c main_v128_1) (V c main_v128_2) (V c main_v128_4) (V c main_v128_5) (V c main_v128_3) (V c main_v147) T H d' := by
  have hd' : d' = d := Fin.ext (by omega)
  rw [(idx t).2.2.2.2.2.2.2] at hT hH
  replace hT : T.val = 256 * 2 + ((grid2.coords t 0).val * 256 + r.val) := hT
  replace hH : H.val = ((grid2.coords t 1).val * 128 + d.val) / 128 := hH
  have hT' : T.val = 256 * (2 + (grid2.coords t 0).val) + r.val := by omega
  have hH' : H.val = (grid2.coords t 1).val := by omega
  have hK : H.val / 4 = (grid2.coords t 1).val / 4 := by omega
  have hK4 : H.val / 4 < 4 := by omega
  refine (block _ _ _ _ _ _ _ _ r d).trans ?_
  unfold row
  simp only [← hT', read0 V c t T H r _ hT' hH', read5 V c t T r _ hT', read1 V c t ⟨H.val / 4, hK4⟩ hK, read2 V c t ⟨H.val / 4, hK4⟩ hK, read3 V c t ⟨H.val / 4, hK4⟩ hK,
    read4 V c t ⟨H.val / 4, hK4⟩ hK, read6 V c t H hH']
  rw [hd']
  rfl

variable (𝒱₀ : Variants) (D : Dev nD → CellTallies nD τ sig Unit)

/-- The array the call leaves. -/
theorem final (c : Dev nD) : (Own.K2.dat (Ix := Unit) (U := UR sig nD τ) (Lvl := ℕ) 𝒱₀ V D c).arrAt 7 cfg2.N
    = fun y : S512x2048.Idx => rowVal 1024 0 1024 (by omega) (by omega) poolAvg (V c main_v128_0) (V c main_v128_1) (V c main_v128_2) (V c main_v128_4) (V c main_v128_5) (V c main_v128_3) (V c main_v147)
        ⟨256 * 2 + (y 0).val, by have : (y 0).val < 512 := (y 0).isLt; omega⟩ ⟨(y 1).val / 128, by have : (y 1).val < 2048 := (y 1).isLt; omega⟩ ⟨(y 1).val % 128, by omega⟩ := by
  refine (Own.K2.dat (Ix := Unit) (U := UR sig nD τ) (Lvl := ℕ) 𝒱₀ V D c).arrAt_eq_of_covers 7 _ (by decide +kernel) fun t _ y => ?_
  blk_simp
  rw [Own.K2.after2_7]
  unfold Own.K2.outsAt2
  frame_out
  idx_vars y
  exact point V c t _ _ _ _ _ rfl rfl rfl

end K2

end Cert.KernelIdeal.Value
-- ==== Proof.Value.Att3.lean ====
module

public import proofs.«01_k».proof.Proof.Gen.Own.KernelIdeal.K3.Frame
public import proofs.«01_k».proof.Proof.Value.Att
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! # The third attention call: rows 1024 to 1535, scored against the first 1536 keys -/

namespace K3

abbrev row (i : grid3.Coords) (r : Fin 256) : ℕ := 256 * (4 + (i 0).val) + r.val

theorem row_lt (i : grid3.Coords) (r : Fin 256) : row i r < 1536 := by
  have := (i 0).isLt
  have h2 : (i 0).val < 2 := this
  unfold row; omega

theorem weights (i : grid3.Coords) (v0 : Vec Ideal S1x256x128 .bf16) (v2 : Vec Ideal S1x1536x128 .bf16) (r : Fin 256) (c : Fin 1536) :
    k3_pay4 i v0 v2 (ix2 r c) = Nsa.wt (causal (row i r) (fun d => v0 (ix3 0 r d)) (fun c d => v2 (ix3 0 c d))) c := by
  have hr : 256 * (4 + (i 0).val) + r.val < 1536 := row_lt i r
  unfold k3_pay4 k3_pay3 k3_pay2
  pointwise
  have hb : ∀ c : Fin 1536, IntOp.cmpi CmpIPredicate.sge (IntOp.addi (BitVec.ofNat 32 r.val) (Scalar.muli (Scalar.addi (4#32) (BitVec.ofNat 32 (i 0).val)) 256#32)) (BitVec.ofNat 32 c.val) = BitVec.ofBool (decide (c.val ≤ row i r)) := fun c => by
    rw [show (4#32) = BitVec.ofNat 32 4 from rfl, row_word, WordCmp.cmpi_sge_ofNat (by omega) (by omega)]
  exact exp_row _ c (sel_mask (hb c) _) fun c => sel_mask (hb c) _

theorem full (i : grid3.Coords) (v0 : Vec Ideal S1x256x128 .bf16) (v2 v22 : Vec Ideal S1x1536x128 .bf16) (r : Fin 256) (d : Fin 128) :
    k3_pay5 i v0 v2 v22 (ix2 r d) = fullOut (causal (row i r) (fun d => v0 (ix3 0 r d)) (fun c d => v2 (ix3 0 c d))) (fun c => v22 (ix3 0 c d)) := by
  have e := weights i v0 v2 r
  unfold k3_pay5
  generalize k3_pay4 i v0 v2 = x at e
  pointwise
  simp only [e]
  rfl

theorem kept (i : grid3.Coords) (v0 : Vec Ideal S1x256x128 .bf16) (v2 : Vec Ideal S1x1536x128 .bf16) (r : Fin 256) (c : Fin 1024) :
    k3_pay6 i v0 v2 (ix2 r c) = if row i r < 512 + c.val + 512 then k3_pay4 i v0 v2 (ix2 r (⟨512 + c.val, by omega⟩ : Fin 1536)) else 0 := by
  have hr : 256 * (4 + (i 0).val) + r.val < 1536 := row_lt i r
  unfold k3_pay6 k3_pay3
  generalize k3_pay4 i v0 v2 = x
  pointwise
  refine sel_zero ?_ _
  rw [show (4#32) = BitVec.ofNat 32 4 from rfl, row_word, show (512#32) = BitVec.ofNat 32 512 from rfl, Cert.ReferenceIdeal.Read.subi_slt (by omega) (by omega) (by omega)]

theorem window (i : grid3.Coords) (v0 : Vec Ideal S1x256x128 .bf16) (v2 v22 : Vec Ideal S1x1536x128 .bf16) (v37 : Vec Ideal S1x1024x128 .bf16)
    (h37 : ∀ (c : Fin 1024) (d : Fin 128), v37 (ix3 0 c d) = v22 (ix3 0 (⟨512 + c.val, by omega⟩ : Fin 1536) d)) (r : Fin 256) (d : Fin 128) :
    k3_pay8 (k3_pay6 i v0 v2) (k3_pay7 i v0 v2) v37 (ix2 r d)
      = winOut (row i r) 512 1024 (by omega) (causal (row i r) (fun d => v0 (ix3 0 r d)) (fun c d => v2 (ix3 0 c d))) (fun c => v22 (ix3 0 c d)) := by
  have e := kept i v0 v2 r
  have e' := weights i v0 v2 r
  unfold k3_pay8 k3_pay7
  generalize k3_pay6 i v0 v2 = x at e
  generalize k3_pay4 i v0 v2 = y at e e'
  pointwise
  simp only [e, e', h37]
  rfl

theorem pool (i : grid3.Coords) (v1 : FVec Ideal S256x128 .bf16) (v56 v69 : Vec Ideal S1x128x128 .bf16) (r : Fin 256) (d : Fin 128) :
    k3_pay9 (BitVec.ofNat 32 (i 0).val) v1 v56 v69 (ix2 r d) = poolAvg (row i r) (pooled (row i r) (fun d => v1 (ix2 r d)) (fun c d => v56 (ix3 0 c d))) (fun c => v69 (ix3 0 c d)) := by
  have hr : 256 * (4 + (i 0).val) + r.val < 1536 := row_lt i r
  have hb : ∀ c : Fin 128, _ = BitVec.ofBool (decide (16 * c.val + 31 ≤ row i r ∧ c.val < 127)) := fun c => pool_mask (row i r) (by unfold row; omega) c
  have hw : IntOp.addi (BitVec.ofNat 32 r.val) (Scalar.muli (Scalar.addi (4#32) (BitVec.ofNat 32 (i 0).val)) 256#32) = BitVec.ofNat 32 (row i r) := row_word 4 _ _
  unfold k3_pay9
  pointwise
  rw [hw]
  exact congrArg₂ Ideal.div
    (Finset.sum_congr rfl fun c _ => congrArg₂ (· * ·) (exp_row _ c (sel_mask (hb c) _) fun c => sel_mask (hb c) _) rfl)
    (Finset.sum_congr rfl fun c _ => exp_row _ c (sel_mask (hb c) _) fun c => sel_mask (hb c) _)

/-- The block a grid point stores, at a row and a column. -/
theorem block (i : grid3.Coords) (v0 : Vec Ideal S1x256x128 .bf16) (v2 v22 : Vec Ideal S1x1536x128 .bf16) (v37 : Vec Ideal S1x1024x128 .bf16)
    (h37 : ∀ (c : Fin 1024) (d : Fin 128), v37 (ix3 0 c d) = v22 (ix3 0 (⟨512 + c.val, by omega⟩ : Fin 1536) d)) (v56 v69 : Vec Ideal S1x128x128 .bf16)
    (v80 : Vec Ideal S256x128 .f32) (v83 : Vec Ideal S1x128x128 .bf16) (r : Fin 256) (d : Fin 128) :
    k3_pay1 (k3_pay5 i v0 v2 v22) (k3_pay8 (k3_pay6 i v0 v2) (k3_pay7 i v0 v2) v37)
        (k3_pay9 (BitVec.ofNat 32 (i 0).val) (k3_pay2 v0) v56 v69) v80 v83 (ix2 r d)
      = (∑ x : Fin 128, v80 (ix2 r x) * v83 (ix3 0 x 0)) * poolAvg (row i r) (pooled (row i r) (fun d => v0 (ix3 0 r d)) (fun c d => v56 (ix3 0 c d))) (fun c => v69 (ix3 0 c d))
        + (∑ x : Fin 128, v80 (ix2 r x) * v83 (ix3 0 x 1)) * fullOut (causal (row i r) (fun d => v0 (ix3 0 r d)) (fun c d => v2 (ix3 0 c d))) (fun c => v22 (ix3 0 c d))
        + (∑ x : Fin 128, v80 (ix2 r x) * v83 (ix3 0 x 2)) * winOut (row i r) 512 1024 (by omega) (causal (row i r) (fun d => v0 (ix3 0 r d)) (fun c d => v2 (ix3 0 c d))) (fun c => v22 (ix3 0 c d)) := by
  have hr : 256 * (4 + (i 0).val) + r.val < 1536 := row_lt i r
  have e1 := full i v0 v2 v22 r d
  have e2 := window i v0 v2 v22 v37 h37 r d
  have e3 := pool i (k3_pay2 v0) v56 v69 r d
  have e4 : ∀ d, k3_pay2 v0 (ix2 r d) = v0 (ix3 0 r d) := fun d => by pointwise [k3_pay2]
  simp only [e4] at e3
  unfold k3_pay1
  generalize k3_pay5 i v0 v2 v22 = a at e1
  generalize k3_pay8 (k3_pay6 i v0 v2) (k3_pay7 i v0 v2) v37 = b at e2
  generalize k3_pay9 (BitVec.ofNat 32 (i 0).val) (k3_pay2 v0) v56 v69 = x at e3
  pointwise
  rw [e1, e2, e3]

variable (V : (c : Dev nD) → (b : Ref sig .tc) → Buf (Elt Ideal) ((c : Thread nD τ).loc b))

theorem idx : ∀ t : Fin cfg3.N, win3_0.index t = ![(grid3.coords t 1).val, 4 + (grid3.coords t 0).val, 0] ∧ win3_1.index t = ![(grid3.coords t 1).val / 4, 0, 0]
    ∧ win3_2.index t = ![(grid3.coords t 1).val / 4, 0, 0] ∧ win3_3.index t = ![(grid3.coords t 1).val / 4, 0, 0] ∧ win3_4.index t = ![(grid3.coords t 1).val / 4, 0, 0]
    ∧ win3_5.index t = ![4 + (grid3.coords t 0).val, 0] ∧ win3_6.index t = ![(grid3.coords t 1).val, 0, 0] ∧ win3_7.index t = ![(grid3.coords t 0).val, (grid3.coords t 1).val] :=
  (by decide +kernel : ∀ t : Fin grid3.N, _)

/-- The tail of the values the window is looked for in. -/
theorem tail (X : Vec Ideal S1x1536x128 .bf16) (c : Fin 1024) (d : Fin 128) :
    View.ld X (Rect.unit ![0, 512, 0] ![1, 1024, 128] inb_S1x1536x128_S1x1024x128_0_512_0) (ix3 0 c d) = X (ix3 0 (⟨512 + c.val, by omega⟩ : Fin 1536) d) := by
  pointwise

theorem read0 (c : Dev nD) (t : Fin cfg3.N) (T : Fin 2048) (H : Fin 16) (r : Fin 256) (d : Fin 128) (hT : T.val = 256 * (4 + (grid3.coords t 0).val) + r.val) (hH : H.val = (grid3.coords t 1).val) :
    Own.K3.iblk V c 0 t (ix3 (0 : Fin 1) r d) = V c main_v128_0 (ix3 H T d) := by blk_ext [Own.K3.iblk, idx t]

theorem read5 (c : Dev nD) (t : Fin cfg3.N) (T : Fin 2048) (r : Fin 256) (d : Fin 128) (hT : T.val = 256 * (4 + (grid3.coords t 0).val) + r.val) :
    Own.K3.iblk V c 5 t (ix2 r d) = V c main_v128_3 (ix2 T d) := by blk_ext [Own.K3.iblk, idx t]

theorem read1 (c : Dev nD) (t : Fin cfg3.N) (K : Fin 4) (hK : K.val = (grid3.coords t 1).val / 4) (j : Fin 1536) (d : Fin 128) :
    Own.K3.X3_1 V c t (ix3 (0 : Fin 1) j d) = V c main_v128_1 (ix3 K (⟨j.val, by omega⟩ : Fin 2048) d) := by
  unfold Own.K3.X3_1 Pipeline.Window.fill
  rw [dif_pos (Own.K3.moved3_1 t _)]
  blk_ext [Own.K3.iblk, idx t]

theorem read2 (c : Dev nD) (t : Fin cfg3.N) (K : Fin 4) (hK : K.val = (grid3.coords t 1).val / 4) (j : Fin 1536) (d : Fin 128) :
    Own.K3.X3_2 V c t (ix3 (0 : Fin 1) j d) = V c main_v128_2 (ix3 K (⟨j.val, by omega⟩ : Fin 2048) d) := by
  unfold Own.K3.X3_2 Pipeline.Window.fill
  rw [dif_pos (Own.K3.moved3_2 t _)]
  blk_ext [Own.K3.iblk, idx t]

theorem read3 (c : Dev nD) (t : Fin cfg3.N) (K : Fin 4) (hK : K.val = (grid3.coords t 1).val / 4) (j d : Fin 128) :
    Own.K3.iblk V c 3 t (ix3 (0 : Fin 1) j d) = V c main_v128_4 (ix3 K j d) := by blk_ext [Own.K3.iblk, idx t]

theorem read4 (c : Dev nD) (t : Fin cfg3.N) (K : Fin 4) (hK : K.val = (grid3.coords t 1).val / 4) (j d : Fin 128) :
    Own.K3.iblk V c 4 t (ix3 (0 : Fin 1) j d) = V c main_v128_5 (ix3 K j d) := by blk_ext [Own.K3.iblk, idx t]

theorem read6 (c : Dev nD) (t : Fin cfg3.N) (H : Fin 16) (hH : H.val = (grid3.coords t 1).val) (j d : Fin 128) :
    Own.K3.iblk V c 6 t (ix3 (0 : Fin 1) j d) = V c main_v147 (ix3 H j d) := by blk_ext [Own.K3.iblk, idx t]

set_option maxHeartbeats 1000000 in
/-- A grid point's block, from the arrays. -/
theorem point (c : Dev nD) (t : Fin cfg3.N) (T : Fin 2048) (H : Fin 16) (r : Fin 256) (d d' : Fin 128) (hT : T.val = 256 * 4 + (win3_7.index t 0 * 256 + r.val))
    (hH : H.val = (win3_7.index t 1 * 128 + d.val) / 128) (hd : d'.val = (win3_7.index t 1 * 128 + d.val) % 128) :
    k3_pay1 (k3_pay5 (grid3.coords t) (Own.K3.iblk V c 0 t) (Own.K3.X3_1 V c t) (Own.K3.X3_2 V c t))
        (k3_pay8 (k3_pay6 (grid3.coords t) (Own.K3.iblk V c 0 t) (Own.K3.X3_1 V c t)) (k3_pay7 (grid3.coords t) (Own.K3.iblk V c 0 t) (Own.K3.X3_1 V c t)) (View.ld (Own.K3.X3_2 V c t) (Rect.unit ![0, 512, 0] ![1, 1024, 128] inb_S1x1536x128_S1x1024x128_0_512_0)))
        (k3_pay9 (BitVec.ofNat 32 (grid3.coords t 0).val) (k3_pay2 (Own.K3.iblk V c 0 t)) (Own.K3.iblk V c 3 t) (Own.K3.iblk V c 4 t)) (Own.K3.iblk V c 5 t) (Own.K3.iblk V c 6 t) (ix2 r d)
      = rowVal 1536 512 1024 (by omega) (by omega) poolAvg (V c main_v128_0) (V c main_v128_1) (V c main_v128_2) (V c main_v128_4) (V c main_v128_5) (V c main_v128_3) (V c main_v147) T H d' := by
  have hd' : d' = d := Fin.ext (by omega)
  rw [(idx t).2.2.2.2.2.2.2] at hT hH
  replace hT : T.val = 256 * 4 + ((grid3.coords t 0).val * 256 + r.val) := hT
  replace hH : H.val = ((grid3.coords t 1).val * 128 + d.val) / 128 := hH
  have hT' : T.val = 256 * (4 + (grid3.coords t 0).val) + r.val := by omega
  have hH' : H.val = (grid3.coords t 1).val := by omega
  have hK : H.val / 4 = (grid3.coords t 1).val / 4 := by omega
  have hK4 : H.val / 4 < 4 := by omega
  refine (block _ _ _ _ _ (tail _) _ _ _ _ r d).trans ?_
  unfold row
  simp only [← hT', read0 V c t T H r _ hT' hH', read5 V c t T r _ hT', read1 V c t ⟨H.val / 4, hK4⟩ hK, read2 V c t ⟨H.val / 4, hK4⟩ hK, read3 V c t ⟨H.val / 4, hK4⟩ hK,
    read4 V c t ⟨H.val / 4, hK4⟩ hK, read6 V c t H hH']
  rw [hd']
  rfl

variable (𝒱₀ : Variants) (D : Dev nD → CellTallies nD τ sig Unit)

/-- The array the call leaves. -/
theorem final (c : Dev nD) : (Own.K3.dat (Ix := Unit) (U := UR sig nD τ) (Lvl := ℕ) 𝒱₀ V D c).arrAt 7 cfg3.N
    = fun y : S512x2048.Idx => rowVal 1536 512 1024 (by omega) (by omega) poolAvg (V c main_v128_0) (V c main_v128_1) (V c main_v128_2) (V c main_v128_4) (V c main_v128_5) (V c main_v128_3) (V c main_v147)
        ⟨256 * 4 + (y 0).val, by have : (y 0).val < 512 := (y 0).isLt; omega⟩ ⟨(y 1).val / 128, by have : (y 1).val < 2048 := (y 1).isLt; omega⟩ ⟨(y 1).val % 128, by omega⟩ := by
  refine (Own.K3.dat (Ix := Unit) (U := UR sig nD τ) (Lvl := ℕ) 𝒱₀ V D c).arrAt_eq_of_covers 7 _ (by decide +kernel) fun t _ y => ?_
  blk_simp
  rw [Own.K3.after3_7]
  unfold Own.K3.outsAt3
  frame_out
  idx_vars y
  exact point V c t _ _ _ _ _ rfl rfl rfl

end K3

end Cert.KernelIdeal.Value
-- ==== Proof.Value.Att4.lean ====
module

public import proofs.«01_k».proof.Proof.Gen.Own.KernelIdeal.K4.Frame
public import proofs.«01_k».proof.Proof.Value.Att
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! # The fourth attention call: rows 1536 to 2047, scored against the first 2048 keys -/

namespace K4

abbrev row (i : grid4.Coords) (r : Fin 256) : ℕ := 256 * (6 + (i 0).val) + r.val

theorem row_lt (i : grid4.Coords) (r : Fin 256) : row i r < 2048 := by
  have := (i 0).isLt
  have h2 : (i 0).val < 2 := this
  unfold row; omega

theorem weights (i : grid4.Coords) (v0 : Vec Ideal S1x256x128 .bf16) (v2 : Vec Ideal S1x2048x128 .bf16) (r : Fin 256) (c : Fin 2048) :
    k4_pay4 i v0 v2 (ix2 r c) = Nsa.wt (causal (row i r) (fun d => v0 (ix3 0 r d)) (fun c d => v2 (ix3 0 c d))) c := by
  have hr : 256 * (6 + (i 0).val) + r.val < 2048 := row_lt i r
  unfold k4_pay4 k4_pay3 k4_pay2
  pointwise
  have hb : ∀ c : Fin 2048, IntOp.cmpi CmpIPredicate.sge (IntOp.addi (BitVec.ofNat 32 r.val) (Scalar.muli (Scalar.addi (6#32) (BitVec.ofNat 32 (i 0).val)) 256#32)) (BitVec.ofNat 32 c.val) = BitVec.ofBool (decide (c.val ≤ row i r)) := fun c => by
    rw [show (6#32) = BitVec.ofNat 32 6 from rfl, row_word, WordCmp.cmpi_sge_ofNat (by omega) (by omega)]
  exact exp_row _ c (sel_mask (hb c) _) fun c => sel_mask (hb c) _

theorem full (i : grid4.Coords) (v0 : Vec Ideal S1x256x128 .bf16) (v2 v22 : Vec Ideal S1x2048x128 .bf16) (r : Fin 256) (d : Fin 128) :
    k4_pay5 i v0 v2 v22 (ix2 r d) = fullOut (causal (row i r) (fun d => v0 (ix3 0 r d)) (fun c d => v2 (ix3 0 c d))) (fun c => v22 (ix3 0 c d)) := by
  have e := weights i v0 v2 r
  unfold k4_pay5
  generalize k4_pay4 i v0 v2 = x at e
  pointwise
  simp only [e]
  rfl

theorem kept (i : grid4.Coords) (v0 : Vec Ideal S1x256x128 .bf16) (v2 : Vec Ideal S1x2048x128 .bf16) (r : Fin 256) (c : Fin 1024) :
    k4_pay6 i v0 v2 (ix2 r c) = if row i r < 1024 + c.val + 512 then k4_pay4 i v0 v2 (ix2 r (⟨1024 + c.val, by omega⟩ : Fin 2048)) else 0 := by
  have hr : 256 * (6 + (i 0).val) + r.val < 2048 := row_lt i r
  unfold k4_pay6 k4_pay3
  generalize k4_pay4 i v0 v2 = x
  pointwise
  refine sel_zero ?_ _
  rw [show (6#32) = BitVec.ofNat 32 6 from rfl, row_word, show (512#32) = BitVec.ofNat 32 512 from rfl, Cert.ReferenceIdeal.Read.subi_slt (by omega) (by omega) (by omega)]

theorem window (i : grid4.Coords) (v0 : Vec Ideal S1x256x128 .bf16) (v2 v22 : Vec Ideal S1x2048x128 .bf16) (v37 : Vec Ideal S1x1024x128 .bf16)
    (h37 : ∀ (c : Fin 1024) (d : Fin 128), v37 (ix3 0 c d) = v22 (ix3 0 (⟨1024 + c.val, by omega⟩ : Fin 2048) d)) (r : Fin 256) (d : Fin 128) :
    k4_pay8 (k4_pay6 i v0 v2) (k4_pay7 i v0 v2) v37 (ix2 r d)
      = winOut (row i r) 1024 1024 (by omega) (causal (row i r) (fun d => v0 (ix3 0 r d)) (fun c d => v2 (ix3 0 c d))) (fun c => v22 (ix3 0 c d)) := by
  have e := kept i v0 v2 r
  have e' := weights i v0 v2 r
  unfold k4_pay8 k4_pay7
  generalize k4_pay6 i v0 v2 = x at e
  generalize k4_pay4 i v0 v2 = y at e e'
  pointwise
  simp only [e, e', h37]
  rfl

theorem pool (i : grid4.Coords) (v1 : FVec Ideal S256x128 .bf16) (v56 v69 : Vec Ideal S1x128x128 .bf16) (r : Fin 256) (d : Fin 128) :
    k4_pay9 (BitVec.ofNat 32 (i 0).val) v1 v56 v69 (ix2 r d) = poolAvg (row i r) (pooled (row i r) (fun d => v1 (ix2 r d)) (fun c d => v56 (ix3 0 c d))) (fun c => v69 (ix3 0 c d)) := by
  have hr : 256 * (6 + (i 0).val) + r.val < 2048 := row_lt i r
  have hb : ∀ c : Fin 128, _ = BitVec.ofBool (decide (16 * c.val + 31 ≤ row i r ∧ c.val < 127)) := fun c => pool_mask (row i r) (by unfold row; omega) c
  have hw : IntOp.addi (BitVec.ofNat 32 r.val) (Scalar.muli (Scalar.addi (6#32) (BitVec.ofNat 32 (i 0).val)) 256#32) = BitVec.ofNat 32 (row i r) := row_word 6 _ _
  unfold k4_pay9
  pointwise
  rw [hw]
  exact congrArg₂ Ideal.div
    (Finset.sum_congr rfl fun c _ => congrArg₂ (· * ·) (exp_row _ c (sel_mask (hb c) _) fun c => sel_mask (hb c) _) rfl)
    (Finset.sum_congr rfl fun c _ => exp_row _ c (sel_mask (hb c) _) fun c => sel_mask (hb c) _)

/-- The block a grid point stores, at a row and a column. -/
theorem block (i : grid4.Coords) (v0 : Vec Ideal S1x256x128 .bf16) (v2 v22 : Vec Ideal S1x2048x128 .bf16) (v37 : Vec Ideal S1x1024x128 .bf16)
    (h37 : ∀ (c : Fin 1024) (d : Fin 128), v37 (ix3 0 c d) = v22 (ix3 0 (⟨1024 + c.val, by omega⟩ : Fin 2048) d)) (v56 v69 : Vec Ideal S1x128x128 .bf16)
    (v80 : Vec Ideal S256x128 .f32) (v83 : Vec Ideal S1x128x128 .bf16) (r : Fin 256) (d : Fin 128) :
    k4_pay1 (k4_pay5 i v0 v2 v22) (k4_pay8 (k4_pay6 i v0 v2) (k4_pay7 i v0 v2) v37)
        (k4_pay9 (BitVec.ofNat 32 (i 0).val) (k4_pay2 v0) v56 v69) v80 v83 (ix2 r d)
      = (∑ x : Fin 128, v80 (ix2 r x) * v83 (ix3 0 x 0)) * poolAvg (row i r) (pooled (row i r) (fun d => v0 (ix3 0 r d)) (fun c d => v56 (ix3 0 c d))) (fun c => v69 (ix3 0 c d))
        + (∑ x : Fin 128, v80 (ix2 r x) * v83 (ix3 0 x 1)) * fullOut (causal (row i r) (fun d => v0 (ix3 0 r d)) (fun c d => v2 (ix3 0 c d))) (fun c => v22 (ix3 0 c d))
        + (∑ x : Fin 128, v80 (ix2 r x) * v83 (ix3 0 x 2)) * winOut (row i r) 1024 1024 (by omega) (causal (row i r) (fun d => v0 (ix3 0 r d)) (fun c d => v2 (ix3 0 c d))) (fun c => v22 (ix3 0 c d)) := by
  have hr : 256 * (6 + (i 0).val) + r.val < 2048 := row_lt i r
  have e1 := full i v0 v2 v22 r d
  have e2 := window i v0 v2 v22 v37 h37 r d
  have e3 := pool i (k4_pay2 v0) v56 v69 r d
  have e4 : ∀ d, k4_pay2 v0 (ix2 r d) = v0 (ix3 0 r d) := fun d => by pointwise [k4_pay2]
  simp only [e4] at e3
  unfold k4_pay1
  generalize k4_pay5 i v0 v2 v22 = a at e1
  generalize k4_pay8 (k4_pay6 i v0 v2) (k4_pay7 i v0 v2) v37 = b at e2
  generalize k4_pay9 (BitVec.ofNat 32 (i 0).val) (k4_pay2 v0) v56 v69 = x at e3
  pointwise
  rw [e1, e2, e3]

variable (V : (c : Dev nD) → (b : Ref sig .tc) → Buf (Elt Ideal) ((c : Thread nD τ).loc b))

theorem idx : ∀ t : Fin cfg4.N, win4_0.index t = ![(grid4.coords t 1).val, 6 + (grid4.coords t 0).val, 0] ∧ win4_1.index t = ![(grid4.coords t 1).val / 4, 0, 0]
    ∧ win4_2.index t = ![(grid4.coords t 1).val / 4, 0, 0] ∧ win4_3.index t = ![(grid4.coords t 1).val / 4, 0, 0] ∧ win4_4.index t = ![(grid4.coords t 1).val / 4, 0, 0]
    ∧ win4_5.index t = ![6 + (grid4.coords t 0).val, 0] ∧ win4_6.index t = ![(grid4.coords t 1).val, 0, 0] ∧ win4_7.index t = ![(grid4.coords t 0).val, (grid4.coords t 1).val] :=
  (by decide +kernel : ∀ t : Fin grid4.N, _)

/-- The tail of the values the window is looked for in. -/
theorem tail (X : Vec Ideal S1x2048x128 .bf16) (c : Fin 1024) (d : Fin 128) :
    View.ld X (Rect.unit ![0, 1024, 0] ![1, 1024, 128] inb_S1x2048x128_S1x1024x128_0_1024_0) (ix3 0 c d) = X (ix3 0 (⟨1024 + c.val, by omega⟩ : Fin 2048) d) := by
  pointwise

theorem read0 (c : Dev nD) (t : Fin cfg4.N) (T : Fin 2048) (H : Fin 16) (r : Fin 256) (d : Fin 128) (hT : T.val = 256 * (6 + (grid4.coords t 0).val) + r.val) (hH : H.val = (grid4.coords t 1).val) :
    Own.K4.iblk V c 0 t (ix3 (0 : Fin 1) r d) = V c main_v128_0 (ix3 H T d) := by blk_ext [Own.K4.iblk, idx t]

theorem read5 (c : Dev nD) (t : Fin cfg4.N) (T : Fin 2048) (r : Fin 256) (d : Fin 128) (hT : T.val = 256 * (6 + (grid4.coords t 0).val) + r.val) :
    Own.K4.iblk V c 5 t (ix2 r d) = V c main_v128_3 (ix2 T d) := by blk_ext [Own.K4.iblk, idx t]

theorem read1 (c : Dev nD) (t : Fin cfg4.N) (K : Fin 4) (hK : K.val = (grid4.coords t 1).val / 4) (j : Fin 2048) (d : Fin 128) :
    Own.K4.iblk V c 1 t (ix3 (0 : Fin 1) j d) = V c main_v128_1 (ix3 K (⟨j.val, by omega⟩ : Fin 2048) d) := by blk_ext [Own.K4.iblk, idx t]

theorem read2 (c : Dev nD) (t : Fin cfg4.N) (K : Fin 4) (hK : K.val = (grid4.coords t 1).val / 4) (j : Fin 2048) (d : Fin 128) :
    Own.K4.iblk V c 2 t (ix3 (0 : Fin 1) j d) = V c main_v128_2 (ix3 K (⟨j.val, by omega⟩ : Fin 2048) d) := by blk_ext [Own.K4.iblk, idx t]

theorem read3 (c : Dev nD) (t : Fin cfg4.N) (K : Fin 4) (hK : K.val = (grid4.coords t 1).val / 4) (j d : Fin 128) :
    Own.K4.iblk V c 3 t (ix3 (0 : Fin 1) j d) = V c main_v128_4 (ix3 K j d) := by blk_ext [Own.K4.iblk, idx t]

theorem read4 (c : Dev nD) (t : Fin cfg4.N) (K : Fin 4) (hK : K.val = (grid4.coords t 1).val / 4) (j d : Fin 128) :
    Own.K4.iblk V c 4 t (ix3 (0 : Fin 1) j d) = V c main_v128_5 (ix3 K j d) := by blk_ext [Own.K4.iblk, idx t]

theorem read6 (c : Dev nD) (t : Fin cfg4.N) (H : Fin 16) (hH : H.val = (grid4.coords t 1).val) (j d : Fin 128) :
    Own.K4.iblk V c 6 t (ix3 (0 : Fin 1) j d) = V c main_v147 (ix3 H j d) := by blk_ext [Own.K4.iblk, idx t]

set_option maxHeartbeats 1000000 in
/-- A grid point's block, from the arrays. -/
theorem point (c : Dev nD) (t : Fin cfg4.N) (T : Fin 2048) (H : Fin 16) (r : Fin 256) (d d' : Fin 128) (hT : T.val = 256 * 6 + (win4_7.index t 0 * 256 + r.val))
    (hH : H.val = (win4_7.index t 1 * 128 + d.val) / 128) (hd : d'.val = (win4_7.index t 1 * 128 + d.val) % 128) :
    k4_pay1 (k4_pay5 (grid4.coords t) (Own.K4.iblk V c 0 t) (Own.K4.iblk V c 1 t) (Own.K4.iblk V c 2 t))
        (k4_pay8 (k4_pay6 (grid4.coords t) (Own.K4.iblk V c 0 t) (Own.K4.iblk V c 1 t)) (k4_pay7 (grid4.coords t) (Own.K4.iblk V c 0 t) (Own.K4.iblk V c 1 t)) (View.ld (Own.K4.iblk V c 2 t) (Rect.unit ![0, 1024, 0] ![1, 1024, 128] inb_S1x2048x128_S1x1024x128_0_1024_0)))
        (k4_pay9 (BitVec.ofNat 32 (grid4.coords t 0).val) (k4_pay2 (Own.K4.iblk V c 0 t)) (Own.K4.iblk V c 3 t) (Own.K4.iblk V c 4 t)) (Own.K4.iblk V c 5 t) (Own.K4.iblk V c 6 t) (ix2 r d)
      = rowVal 2048 1024 1024 (by omega) (by omega) poolAvg (V c main_v128_0) (V c main_v128_1) (V c main_v128_2) (V c main_v128_4) (V c main_v128_5) (V c main_v128_3) (V c main_v147) T H d' := by
  have hd' : d' = d := Fin.ext (by omega)
  rw [(idx t).2.2.2.2.2.2.2] at hT hH
  replace hT : T.val = 256 * 6 + ((grid4.coords t 0).val * 256 + r.val) := hT
  replace hH : H.val = ((grid4.coords t 1).val * 128 + d.val) / 128 := hH
  have hT' : T.val = 256 * (6 + (grid4.coords t 0).val) + r.val := by omega
  have hH' : H.val = (grid4.coords t 1).val := by omega
  have hK : H.val / 4 = (grid4.coords t 1).val / 4 := by omega
  have hK4 : H.val / 4 < 4 := by omega
  refine (block _ _ _ _ _ (tail _) _ _ _ _ r d).trans ?_
  unfold row
  simp only [← hT', read0 V c t T H r _ hT' hH', read5 V c t T r _ hT', read1 V c t ⟨H.val / 4, hK4⟩ hK, read2 V c t ⟨H.val / 4, hK4⟩ hK, read3 V c t ⟨H.val / 4, hK4⟩ hK,
    read4 V c t ⟨H.val / 4, hK4⟩ hK, read6 V c t H hH']
  rw [hd']
  rfl

variable (𝒱₀ : Variants) (D : Dev nD → CellTallies nD τ sig Unit)

/-- The array the call leaves. -/
theorem final (c : Dev nD) : (Own.K4.dat (Ix := Unit) (U := UR sig nD τ) (Lvl := ℕ) 𝒱₀ V D c).arrAt 7 cfg4.N
    = fun y : S512x2048.Idx => rowVal 2048 1024 1024 (by omega) (by omega) poolAvg (V c main_v128_0) (V c main_v128_1) (V c main_v128_2) (V c main_v128_4) (V c main_v128_5) (V c main_v128_3) (V c main_v147)
        ⟨256 * 6 + (y 0).val, by have : (y 0).val < 512 := (y 0).isLt; omega⟩ ⟨(y 1).val / 128, by have : (y 1).val < 2048 := (y 1).isLt; omega⟩ ⟨(y 1).val % 128, by omega⟩ := by
  refine (Own.K4.dat (Ix := Unit) (U := UR sig nD τ) (Lvl := ℕ) 𝒱₀ V D c).arrAt_eq_of_covers 7 _ (by decide +kernel) fun t _ y => ?_
  blk_simp
  rw [Own.K4.after4_7]
  unfold Own.K4.outsAt4
  frame_out
  idx_vars y
  exact point V c t _ _ _ _ _ rfl rfl rfl

end K4

end Cert.KernelIdeal.Value
-- ==== Proof.Value.Mat5.lean ====
module

public import proofs.«01_k».proof.Proof.Gen.Own.KernelIdeal.K5.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.ShloMosaic.Tactic
open Idealize.SL.Sem Idealize.SL.RA
open Idealize.ShloMosaic.Pipeline (Dat)
open Cert.KernelIdeal Cert.KernelIdeal.Gen

/-! # The array the output projection leaves -/

namespace K5

theorem block (x : FVec Ideal S2048x2048 .bf16) (w : FVec Ideal S2048x256 .f32) (t : Fin 2048) (l : Fin 256) :
    k5_pay1 (F := Ideal) x w (ix2 t l) = ∑ e : Fin 2048, x (ix2 t e) * w (ix2 e l) := by
  pointwise [k5_pay1]

variable (V : (c : Dev nD) → (b : Ref sig .tc) → Buf (Elt Ideal) ((c : Thread nD τ).loc b))

theorem idx : ∀ t : Fin cfg5.N, win5_0.index t = ![0, 0] ∧ win5_1.index t = ![0, t.val] ∧ win5_2.index t = ![0, t.val] :=
  (by decide +kernel : ∀ t : Fin grid5.N, _)

theorem read0 (c : Dev nD) (t : Fin cfg5.N) (r e : Fin 2048) : Own.K5.iblk V c 0 t (ix2 r e) = V c main_v152 (ix2 r e) := by blk_ext [Own.K5.iblk, idx t]
theorem read1 (c : Dev nD) (t : Fin cfg5.N) (e : Fin 2048) (l : Fin 256) (n : Fin 2048) (hn : n.val = 256 * t.val + l.val) :
    Own.K5.iblk V c 1 t (ix2 e l) = V c main_arg4 (ix2 e n) := by blk_ext [Own.K5.iblk, idx t]

/-- The product of two arrays. -/
def prod (X W : S2048x2048.Idx → EReal) (t n : Fin 2048) : EReal := ∑ e : Fin 2048, X (ix2 t e) * W (ix2 e n)

theorem point (c : Dev nD) (t : Fin cfg5.N) (r n r' : Fin 2048) (l : Fin 256) (hr : r'.val = win5_2.index t 0 * 2048 + r.val) (hn : n.val = win5_2.index t 1 * 256 + l.val) :
    k5_pay1 (F := Ideal) (Own.K5.iblk V c 0 t) (Own.K5.iblk V c 1 t) (ix2 r l) = prod (V c main_v152) (V c main_arg4) r' n := by
  rw [(idx t).2.2] at hr hn
  replace hr : r'.val = 0 * 2048 + r.val := hr
  replace hn : n.val = t.val * 256 + l.val := hn
  have e : r' = r := Fin.ext (by omega)
  subst e
  rw [block]
  simp only [read0, read1 V c t _ l n (by omega)]
  rfl

variable (𝒱₀ : Variants) (D : Dev nD → CellTallies nD τ sig Unit)

theorem final (c : Dev nD) : (Own.K5.dat (Ix := Unit) (U := UR sig nD τ) (Lvl := ℕ) 𝒱₀ V D c).arrAt 2 cfg5.N
    = fun y : S2048x2048.Idx => prod (V c main_v152) (V c main_arg4) ⟨(y 0).val, (y 0).isLt⟩ ⟨(y 1).val, (y 1).isLt⟩ := by
  refine (Own.K5.dat (Ix := Unit) (U := UR sig nD τ) (Lvl := ℕ) 𝒱₀ V D c).arrAt_eq_of_covers 2 _ (by decide +kernel) fun t _ y => ?_
  blk_simp
  rw [Own.K5.after5_2]
  unfold Own.K5.outsAt5
  frame_out
  idx_vars y
  exact point V c t _ _ _ _ rfl rfl

end K5

end Cert.KernelIdeal.Value
-- ==== Proof.Value.RefRope.lean ====
module

public import proofs.«01_k».proof.Proof.Gen.ReferenceIdeal.Read
public import proofs.«01_k».proof.Proof.Value.Math
public import Idealize.ShloMosaic.Lib.Pointwise
public import Idealize.ShloMosaic.Lib.WordCmp

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

variable (x0 : FVec Ideal S1x2048x2048 .f32) (x1 : FVec Ideal S2048x2048 .f32) (x2 x3 : FVec Ideal S2048x512 .f32)
  (x4 : FVec Ideal S2048x2048 .f32) (x5 : FVec Ideal S2048x48 .f32) (x6 x7 : FVec Ideal S32 .f32)

/-! # The reference's projections, rotations and scores -/

theorem v2_at (t : Fin 2048) (h : Fin 16) (d : Fin 128) :
    val_main_v2 (F := Ideal) x0 x1 (ix3 t h d) = ∑ e : Fin 2048, x0 (ix3 0 t e) * x1 (ix2 e ⟨h.val * 128 + d.val, by omega⟩) := by
  unfold val_main_v2 val_main_v1 val_main_v0
  pointwise

theorem v4_at (t : Fin 2048) (g : Fin 4) (d : Fin 128) :
    val_main_v4 (F := Ideal) x0 x2 (ix3 t g d) = ∑ e : Fin 2048, x0 (ix3 0 t e) * x2 (ix2 e ⟨g.val * 128 + d.val, by omega⟩) := by
  unfold val_main_v4 val_main_v3 val_main_v0
  pointwise

theorem v6_at (t : Fin 2048) (g : Fin 4) (d : Fin 128) :
    val_main_v6 (F := Ideal) x0 x3 (ix3 t g d) = ∑ e : Fin 2048, x0 (ix3 0 t e) * x3 (ix2 e ⟨g.val * 128 + d.val, by omega⟩) := by
  unfold val_main_v6 val_main_v5 val_main_v0
  pointwise

theorem v14_at (t : Fin 2048) (h : Fin 16) (c : Fin 3) :
    val_main_v14 (F := Ideal) x0 x5 (ix3 t h c) = Ideal.div 1 (1 + Ideal.exp (-∑ e : Fin 2048, x0 (ix3 0 t e) * x5 (ix2 e ⟨h.val * 3 + c.val, by omega⟩))) := by
  unfold val_main_v14 val_main_v13 val_main_v12 val_main_cst_0 val_main_v11 val_main_v10 val_main_cst val_main_v9 val_main_v8 val_main_v7 val_main_v0
  pointwise

/-- Both rotations use one array of angles. -/
theorem angles : val_main_v117 (F := Ideal) = val_main_v56 (F := Ideal) := rfl

/-- The angle of position `t` and pair `j`. -/
abbrev ang (t : Fin 2048) (j : Fin 64) : EReal := val_main_v56 (F := Ideal) (ix2 t j)

/-- A rotated query. -/
theorem v76_at (t : Fin 2048) (h : Fin 16) (d : Fin 128) :
    val_main_v76 (F := Ideal) x0 x1 (ix3 t h d)
      = if d.val % 2 < 1 then
          val_main_v2 (F := Ideal) x0 x1 (ix3 t h ⟨2 * (d.val / 2), by omega⟩) * Ideal.cos (ang t ⟨d.val / 2, by omega⟩)
            - val_main_v2 (F := Ideal) x0 x1 (ix3 t h ⟨1 + 2 * (d.val / 2), by omega⟩) * Ideal.sin (ang t ⟨d.val / 2, by omega⟩)
        else
          val_main_v2 (F := Ideal) x0 x1 (ix3 t h ⟨2 * (d.val / 2), by omega⟩) * Ideal.sin (ang t ⟨d.val / 2, by omega⟩)
            + val_main_v2 (F := Ideal) x0 x1 (ix3 t h ⟨1 + 2 * (d.val / 2), by omega⟩) * Ideal.cos (ang t ⟨d.val / 2, by omega⟩) := by
  unfold ang val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57
  generalize val_main_v2 (F := Ideal) x0 x1 = x
  generalize val_main_v56 (F := Ideal) = y
  pointwise
  by_cases hd : d.val % 2 < 1
  · rw [dif_pos hd, if_pos hd]
  · rw [dif_neg hd, if_neg hd]

/-- A rotated key. -/
theorem v137_at (t : Fin 2048) (h : Fin 4) (d : Fin 128) :
    val_main_v137 (F := Ideal) x0 x2 (ix3 t h d)
      = if d.val % 2 < 1 then
          val_main_v4 (F := Ideal) x0 x2 (ix3 t h ⟨2 * (d.val / 2), by omega⟩) * Ideal.cos (ang t ⟨d.val / 2, by omega⟩)
            - val_main_v4 (F := Ideal) x0 x2 (ix3 t h ⟨1 + 2 * (d.val / 2), by omega⟩) * Ideal.sin (ang t ⟨d.val / 2, by omega⟩)
        else
          val_main_v4 (F := Ideal) x0 x2 (ix3 t h ⟨2 * (d.val / 2), by omega⟩) * Ideal.sin (ang t ⟨d.val / 2, by omega⟩)
            + val_main_v4 (F := Ideal) x0 x2 (ix3 t h ⟨1 + 2 * (d.val / 2), by omega⟩) * Ideal.cos (ang t ⟨d.val / 2, by omega⟩) := by
  unfold ang val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118
  rw [angles]
  generalize val_main_v4 (F := Ideal) x0 x2 = x
  generalize val_main_v56 (F := Ideal) = y
  pointwise
  by_cases hd : d.val % 2 < 1
  · rw [dif_pos hd, if_pos hd]
  · rw [dif_neg hd, if_neg hd]

/-- A score. -/
theorem v274_at (t c : Fin 2048) (h : Fin 16) :
    val_main_v274 (F := Ideal) x0 x1 x2 (ix3 h t c)
      = (∑ d : Fin 128, val_main_v76 (F := Ideal) x0 x1 (ix3 t h d) * val_main_v137 (F := Ideal) x0 x2 (ix3 c (⟨h.val / 4, by omega⟩ : Fin 4) d)) * Ideal.ofBits FTy.f32 1035273459#32 := by
  unfold val_main_v274 val_main_v273 val_main_cst_64 val_main_v272 val_main_v139 val_main_v138
  generalize val_main_v76 (F := Ideal) x0 x1 = x
  generalize val_main_v137 (F := Ideal) x0 x2 = y
  pointwise

/-- A pooled score. -/
theorem v199_at (t : Fin 2048) (c : Fin 127) (h : Fin 16) :
    val_main_v199 (F := Ideal) x0 x1 x2 x6 (ix3 h t c)
      = (∑ d : Fin 128, val_main_v76 (F := Ideal) x0 x1 (ix3 t h d) * val_main_v188 (F := Ideal) x0 x2 x6 (ix3 c (⟨h.val / 4, by omega⟩ : Fin 4) d)) * Ideal.ofBits FTy.f32 1035273459#32 := by
  unfold val_main_v199 val_main_v198 val_main_cst_45 val_main_v197 val_main_v194 val_main_v193
  generalize val_main_v76 (F := Ideal) x0 x1 = x
  generalize val_main_v188 (F := Ideal) x0 x2 x6 = y
  pointwise

/-- The result: the gated branches, projected. -/
theorem v328_at (t n : Fin 2048) :
    val_main_v328 (F := Ideal) x0 x1 x2 x3 x4 x5 x6 x7 (ix3 0 t n)
      = ∑ e : Fin 2048, (val_main_v14 (F := Ideal) x0 x5 (ix3 t ⟨e.val / 128, by omega⟩ 0) * val_main_v229 (F := Ideal) x0 x1 x2 x3 x6 x7 (ix3 t ⟨e.val / 128, by omega⟩ ⟨e.val % 128, by omega⟩)
          + val_main_v14 (F := Ideal) x0 x5 (ix3 t ⟨e.val / 128, by omega⟩ 1) * val_main_v291 (F := Ideal) x0 x1 x2 x3 x6 (ix3 t ⟨e.val / 128, by omega⟩ ⟨e.val % 128, by omega⟩)
          + val_main_v14 (F := Ideal) x0 x5 (ix3 t ⟨e.val / 128, by omega⟩ 2) * val_main_v314 (F := Ideal) x0 x1 x2 x3 (ix3 t ⟨e.val / 128, by omega⟩ ⟨e.val % 128, by omega⟩)) * x4 (ix2 e n) := by
  unfold val_main_v328 val_main_v327 val_main_v326 val_main_v325 val_main_v324 val_main_v323 val_main_v322 val_main_v321 val_main_v320 val_main_v319 val_main_v318 val_main_v317 val_main_v316 val_main_v315
  generalize val_main_v14 (F := Ideal) x0 x5 = g
  generalize val_main_v229 (F := Ideal) x0 x1 x2 x3 x6 x7 = a
  generalize val_main_v291 (F := Ideal) x0 x1 x2 x3 x6 = b
  generalize val_main_v314 (F := Ideal) x0 x1 x2 x3 = c
  pointwise

end Cert.ReferenceIdeal.Read
-- ==== Proof.Value.RefPool.lean ====
module

public import proofs.«01_k».proof.Proof.Gen.ReferenceIdeal.Read
public import proofs.«01_k».proof.Proof.Value.Math
public import Idealize.ShloMosaic.Lib.Pointwise
public import Idealize.ShloMosaic.Lib.WordCmp

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

variable (x0 : FVec Ideal S1x2048x2048 .f32) (x1 : FVec Ideal S2048x2048 .f32) (x2 x3 : FVec Ideal S2048x512 .f32)
  (x4 : FVec Ideal S2048x2048 .f32) (x5 : FVec Ideal S2048x48 .f32) (x6 x7 : FVec Ideal S32 .f32)

/-! # The reference's pooled keys and values

A pooled row is a weighted sum of thirty-two rows, the first of them sixteen times the pooled row's number;
the weights are a softmax of thirty-two numbers. -/

theorem start_word (c : Fin 127) (j : Fin 32) : val_main_v156 (F := Ideal) (ix3 c j 0) = BitVec.ofNat 32 (16 * c.val + j.val) := by
  pointwise [val_main_v156, val_main_v155, val_main_v154, val_main_v153, val_main_c_34, val_main_v152, val_main_v151, val_main_c_33, val_main_v150, val_main_v149, val_main_v148, val_main_v147, val_main_v146, val_main_v145, val_main_v144, val_main_c, val_main_v143, val_main_v142]
  have e : IntOp.addi (IntOp.muli (BitVec.ofNat 32 c.val) 16#32) (BitVec.ofNat 32 j.val) = BitVec.ofNat 32 (16 * c.val + j.val) := by
    apply BitVec.eq_of_toNat_eq
    show (BitVec.ofNat 32 c.val * 16#32 + BitVec.ofNat 32 j.val).toNat = _
    simp only [BitVec.toNat_add, BitVec.toNat_mul, BitVec.toNat_ofNat]
    omega
  rw [e]
  have e2 : IntOp.cmpi CmpIPredicate.slt (BitVec.ofNat 32 (16 * c.val + j.val)) 0#32 = 0#1 := by
    rw [show (0#32) = BitVec.ofNat 32 0 from rfl, WordCmp.cmpi_slt_ofNat (by omega) (by omega)]
    simp
  rw [e2]
  rfl

/-- The gather of rows read at an index: row `r` where the start word is `r`. -/
theorem gather_at (x : FVec Ideal S2048x4x128 .f32) (y : IVec S127x32x1 32) (c : Fin 127) (j : Fin 32) (g : Fin 4) (d : Fin 128)
    (r : Fin 2048) (hr : y (ix3 c j 0) = BitVec.ofNat 32 r.val) :
    Host.gather gather_S2048x4x128_S127x32x1_S127x32x4x128_23_0_n_n_0_2_14128 x y (ix4 c j g d) = x (ix3 r g d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ gather_S2048x4x128_S127x32x1_S127x32x4x128_23_0_n_n_0_2_14128.startIndexMap from List.mem_singleton.mpr rfl)]
    have hsi : gather_S2048x4x128_S127x32x1_S127x32x4x128_23_0_n_n_0_2_14128.siIdx (ix4 c j g d) ⟨List.idxOf (⟨0, by decide⟩ : Fin 3) gather_S2048x4x128_S127x32x1_S127x32x4x128_23_0_n_n_0_2_14128.startIndexMap,
        List.idxOf_lt_length_iff.2 (List.mem_singleton.mpr rfl)⟩ = ix3 c j 0 := by
      funext b; refine Fin.ext ?_
      match b with
      | ⟨0, _⟩ => rfl
      | ⟨1, _⟩ => rfl
      | ⟨2, _⟩ => rfl
    rw [hsi, hr, WordCmp.toInt_ofNat_of_lt (by omega)]
    show min (Int.toNat (r.val : Int)) (2048 - 1) = r.val
    omega
  | ⟨1, _⟩ =>
    unfold GatherDims.start
    rw [dif_neg (show ¬(⟨1, by decide⟩ : Fin 3) ∈ gather_S2048x4x128_S127x32x1_S127x32x4x128_23_0_n_n_0_2_14128.startIndexMap by decide)]
    show 0 + 0 + _ = g.val
    unfold GatherDims.offCoord
    rw [dif_pos (show (⟨1, by decide⟩ : Fin 3) ∈ gather_S2048x4x128_S127x32x1_S127x32x4x128_23_0_n_n_0_2_14128.sKept by decide)]
    exact Nat.zero_add _
  | ⟨2, _⟩ =>
    unfold GatherDims.start
    rw [dif_neg (show ¬(⟨2, by decide⟩ : Fin 3) ∈ gather_S2048x4x128_S127x32x1_S127x32x4x128_23_0_n_n_0_2_14128.startIndexMap by decide)]
    show 0 + 0 + _ = d.val
    unfold GatherDims.offCoord
    rw [dif_pos (show (⟨2, by decide⟩ : Fin 3) ∈ gather_S2048x4x128_S127x32x1_S127x32x4x128_23_0_n_n_0_2_14128.sKept by decide)]
    exact Nat.zero_add _

/-- Row `j` of window `c`. -/
abbrev wrow (c : Fin 127) (j : Fin 32) : Fin 2048 := ⟨16 * c.val + j.val, by omega⟩

theorem v157_at (c : Fin 127) (j : Fin 32) (g : Fin 4) (d : Fin 128) :
    val_main_v157 (F := Ideal) x0 x2 (ix4 c j g d) = val_main_v137 (F := Ideal) x0 x2 (ix3 (wrow c j) g d) :=
  gather_at _ _ c j g d (wrow c j) (start_word c j)

theorem v164_at (c : Fin 127) (j : Fin 32) (g : Fin 4) (d : Fin 128) :
    val_main_v164 (F := Ideal) x0 x3 (ix4 c j g d) = val_main_v6 (F := Ideal) x0 x3 (ix3 (wrow c j) g d) :=
  gather_at _ _ c j g d (wrow c j) (start_word c j)

/-- A pooled key. -/
theorem v188_at (c : Fin 127) (g : Fin 4) (d : Fin 128) :
    val_main_v188 (F := Ideal) x0 x2 x6 (ix3 c g d) = ∑ j : Fin 32, val_main_v137 (F := Ideal) x0 x2 (ix3 (wrow c j) g d) * val_main_v174 (F := Ideal) x6 (ix1 j) := by
  have e : val_main_v188 (F := Ideal) x0 x2 x6 (ix3 c g d) = ∑ j : Fin 32, val_main_v157 (F := Ideal) x0 x2 (ix4 c j g d) * val_main_v174 (F := Ideal) x6 (ix1 j) := by
    unfold val_main_v188 val_main_cst_43 val_main_v187 val_main_v186 val_main_v185
    generalize val_main_v157 (F := Ideal) x0 x2 = x
    generalize val_main_v174 (F := Ideal) x6 = y
    pointwise
  rw [e]
  exact Finset.sum_congr rfl fun j _ => by rw [v157_at]

/-- A pooled value. -/
theorem v192_at (c : Fin 127) (g : Fin 4) (d : Fin 128) :
    val_main_v192 (F := Ideal) x0 x3 x7 (ix3 c g d) = ∑ j : Fin 32, val_main_v6 (F := Ideal) x0 x3 (ix3 (wrow c j) g d) * val_main_v184 (F := Ideal) x7 (ix1 j) := by
  have e : val_main_v192 (F := Ideal) x0 x3 x7 (ix3 c g d) = ∑ j : Fin 32, val_main_v164 (F := Ideal) x0 x3 (ix4 c j g d) * val_main_v184 (F := Ideal) x7 (ix1 j) := by
    unfold val_main_v192 val_main_cst_44 val_main_v191 val_main_v190 val_main_v189
    generalize val_main_v164 (F := Ideal) x0 x3 = x
    generalize val_main_v184 (F := Ideal) x7 = y
    pointwise
  rw [e]
  exact Finset.sum_congr rfl fun j _ => by rw [v164_at]

end Cert.ReferenceIdeal.Read
-- ==== Proof.Value.HostFreq.lean ====
module

public import proofs.«01_k».proof.Proof.Gen.KernelIdeal.Regions
public import proofs.«01_k».proof.Proof.Value.RefRope
public import proofs.«01_k».proof.Proof.Value.RefPool
public import Idealize.ShloMosaic.Lib.Pointwise
public import Idealize.ShloMosaic.Lib.WordCmp

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen
open Cert.ReferenceIdeal.Read

/-! # The host's frequencies and angles: the reference's

The kernel's host works out the rotary angles by the same operations as the reference, in other buffers. -/

section
variable (W : Valuation τ sig (Elt Ideal))

theorem st2_v3 : StableHlo.after hostOps0_2 W main_v3 = (val_main_v52 (F := Ideal) : FVec Ideal S2048x1 .f32) := by after_results; rfl
theorem st2_v14 : StableHlo.after hostOps0_2 W main_v14 = (val_main_v26 (F := Ideal) : FVec Ideal S64 .f32) := by after_results; rfl
theorem st2_v16 : StableHlo.after hostOps0_2 W main_v16 = (val_main_v28 (F := Ideal) : FVec Ideal S64 .f32) := by after_results; rfl
theorem st2_v22 : StableHlo.after hostOps0_2 W main_v22 = (val_main_v34 (F := Ideal) : FVec Ideal S64 .f32) := by after_results; rfl

/-- The ramp, clipped to the unit interval. -/
theorem st3_v23 : StableHlo.after hostOps0_3 (StableHlo.after hostOps0_2 W) main_v23 = (val_main_v35 (F := Ideal) : FVec Ideal S64 .f32) := by
  after_results; rfl

theorem st4_v25 (h : W main_v16 = (val_main_v28 (F := Ideal) : FVec Ideal S64 .f32)) :
    StableHlo.after hostOps0_4 W main_v25 = (val_main_v37 (F := Ideal) : IVec S64 1) := by after_results; rw [h]; rfl

theorem st4_v27 (h : W main_v14 = (val_main_v26 (F := Ideal) : FVec Ideal S64 .f32)) :
    StableHlo.after hostOps0_4 W main_v27 = (val_main_v39 (F := Ideal) : FVec Ideal S64 .f32) := by after_results; rw [h]; rfl

theorem st4_v29 (h : W main_v16 = (val_main_v28 (F := Ideal) : FVec Ideal S64 .f32)) :
    StableHlo.after hostOps0_4 W main_v29 = (val_main_v41 (F := Ideal) : IVec S64 1) := by after_results; rw [h]; rfl

theorem st4_v36 (h : W main_v14 = (val_main_v26 (F := Ideal) : FVec Ideal S64 .f32)) (h' : W main_v23 = (val_main_v35 (F := Ideal) : FVec Ideal S64 .f32)) :
    StableHlo.after hostOps0_4 W main_v36 = (val_main_v48 (F := Ideal) : FVec Ideal S64 .f32) := by after_results; rw [h, h']; rfl

theorem st5_v37 (h : W main_v29 = (val_main_v41 (F := Ideal) : IVec S64 1)) (h' : W main_v14 = (val_main_v26 (F := Ideal) : FVec Ideal S64 .f32))
    (h'' : W main_v36 = (val_main_v48 (F := Ideal) : FVec Ideal S64 .f32)) :
    StableHlo.after hostOps0_5 W main_v37 = (val_main_v49 (F := Ideal) : FVec Ideal S64 .f32) := by after_results; rw [h, h', h'']; rfl

theorem st6_v38 (h : W main_v25 = (val_main_v37 (F := Ideal) : IVec S64 1)) (h' : W main_v27 = (val_main_v39 (F := Ideal) : FVec Ideal S64 .f32))
    (h'' : W main_v37 = (val_main_v49 (F := Ideal) : FVec Ideal S64 .f32)) :
    StableHlo.after hostOps0_6 W main_v38 = (val_main_v50 (F := Ideal) : FVec Ideal S64 .f32) := by after_results; rw [h, h', h'']; rfl

theorem st7_v45 (h : W main_v3 = (val_main_v52 (F := Ideal) : FVec Ideal S2048x1 .f32)) (h' : W main_v38 = (val_main_v50 (F := Ideal) : FVec Ideal S64 .f32))
    (t : Fin 2048) (d : Fin 128) : (StableHlo.after hostOps0_7 W main_v45 (ix2 t d) : EReal) = Ideal.cos (ang t ⟨d.val / 2, by omega⟩) := by
  after_results
  rw [h, h']
  unfold ang
  pointwise [val_main_v56, val_main_v55, val_main_v54, val_main_v53]

theorem st7_v48 (h : W main_v3 = (val_main_v52 (F := Ideal) : FVec Ideal S2048x1 .f32)) (h' : W main_v38 = (val_main_v50 (F := Ideal) : FVec Ideal S64 .f32))
    (t : Fin 2048) (d : Fin 128) : (StableHlo.after hostOps0_7 W main_v48 (ix2 t d) : EReal) = Ideal.sin (ang t ⟨d.val / 2, by omega⟩) := by
  after_results
  rw [h, h']
  unfold ang
  pointwise [val_main_v56, val_main_v55, val_main_v54, val_main_v53]

end

section
variable (m : (ℓ : Loc nD τ sig) → Buf (Elt Ideal) ℓ) (c : Dev nD)

theorem v14_3 : V3 m c main_v14 = (val_main_v26 (F := Ideal) : FVec Ideal S64 .f32) := st2_v14 _
theorem v14_4 : V4 m c main_v14 = (val_main_v26 (F := Ideal) : FVec Ideal S64 .f32) := (V4_of m c main_v14 (by decide)).trans (v14_3 m c)
theorem v14_5 : V5 m c main_v14 = (val_main_v26 (F := Ideal) : FVec Ideal S64 .f32) := (V5_of m c main_v14 (by decide)).trans (v14_4 m c)
theorem v16_4 : V4 m c main_v16 = (val_main_v28 (F := Ideal) : FVec Ideal S64 .f32) := (V4_of m c main_v16 (by decide)).trans (st2_v16 _)
theorem v38_7 : V7 m c main_v38 = (val_main_v50 (F := Ideal) : FVec Ideal S64 .f32) :=
  st6_v38 _ ((V6_of m c main_v25 (by decide)).trans (st4_v25 _ (v16_4 m c))) ((V6_of m c main_v27 (by decide)).trans (st4_v27 _ (v14_4 m c)))
    (st5_v37 _ (st4_v29 _ (v16_4 m c)) (v14_5 m c) (st4_v36 _ (v14_4 m c) (st3_v23 _)))
theorem v3_7 : V7 m c main_v3 = (val_main_v52 (F := Ideal) : FVec Ideal S2048x1 .f32) :=
  (V7_of m c main_v3 (by decide)).trans <| (V6_of m c main_v3 (by decide)).trans <| (V5_of m c main_v3 (by decide)).trans <|
    (V4_of m c main_v3 (by decide)).trans (st2_v3 _)

/-- A buffer the later stretches leave alone. -/
theorem to8 (r : Ref sig .tc) (h9 : r ∉ hostOps0_8_W) (h10 : r ∉ hostOps0_9_W) (h11 : r ∉ hostOps0_10_W) (h12 : r ∉ hostOps0_11_W) (h13 : r ∉ hostOps0_12_W)
    (h14 : r ∉ hostOps0_13_W) (h15 : r ∉ hostOps0_14_W) (h16 : r ∉ hostOps0_15_W) : V16 m c r = V8 m c r :=
  (V16_of m c r h16).trans <| (V15_of m c r h15).trans <| (V14_of m c r h14).trans <| (V13_of m c r h13).trans <| (V12_of m c r h12).trans <|
    (V11_of m c r h11).trans <| (V10_of m c r h10).trans (V9_of m c r h9)

/-- The cosine table: one angle for each two lanes. -/
theorem cos_at (t : Fin 2048) (d : Fin 128) : (V16 m c main_v45 (ix2 t d) : EReal) = Ideal.cos (ang t ⟨d.val / 2, by omega⟩) := by
  rw [to8 m c main_v45 (by decide) (by decide) (by decide) (by decide) (by decide) (by decide) (by decide) (by decide)]
  exact st7_v45 _ (v3_7 m c) (v38_7 m c) t d

/-- The sine table. -/
theorem sin_at (t : Fin 2048) (d : Fin 128) : (V16 m c main_v48 (ix2 t d) : EReal) = Ideal.sin (ang t ⟨d.val / 2, by omega⟩) := by
  rw [to8 m c main_v48 (by decide) (by decide) (by decide) (by decide) (by decide) (by decide) (by decide) (by decide)]
  exact st7_v48 _ (v3_7 m c) (v38_7 m c) t d

end

end Cert.KernelIdeal.Value
-- ==== Proof.Value.HostSwap.lean ====
module

public import proofs.«01_k».proof.Proof.Gen.KernelIdeal.Regions
public import proofs.«01_k».proof.Proof.Value.RefRope
public import proofs.«01_k».proof.Proof.Value.RefPool
public import Idealize.ShloMosaic.Lib.Pointwise
public import Idealize.ShloMosaic.Lib.WordCmp

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen
open Cert.ReferenceIdeal.Read

/-! # The host's exchange matrix

Lane `x` goes to lane `d` with −1 where `x = d + 1` and `d` is even, with 1 where `d = x + 1` and `x` is even. -/

/-- Whether two lanes are consecutive, from the words. -/
theorem next_word (x d : Fin 128) : IntOp.cmpi CmpIPredicate.eq (BitVec.ofNat 32 x.val) (IntOp.addi (BitVec.ofNat 32 d.val) 1#32) = BitVec.ofBool (decide (x.val = d.val + 1)) := by
  revert x d; decide +kernel

/-- The remainder by a scalar with the divisor's sign, in the operations it is printed in; `B` spreads a scalar. -/
def remOf {s : Shape} (B : IVec S_ 32 → IVec s 32) (B1 : IVec S_ 1 → IVec s 1) (x : IVec s 32) (k : IVec S_ 32) : IVec s 32 :=
  select (andi (cmpi .ne (cmpi .slt (Host.remsi x (B (select (cmpi .eq (id k) (constantI S_ 32 0#32)) (constantI S_ 32 1#32) (id k)))) (B (constantI S_ 32 0#32)))
      (B1 (cmpi .slt (select (cmpi .eq (id k) (constantI S_ 32 0#32)) (constantI S_ 32 1#32) (id k)) (constantI S_ 32 0#32))))
      (cmpi .ne (Host.remsi x (B (select (cmpi .eq (id k) (constantI S_ 32 0#32)) (constantI S_ 32 1#32) (id k)))) (B (constantI S_ 32 0#32))))
    (addi (Host.remsi x (B (select (cmpi .eq (id k) (constantI S_ 32 0#32)) (constantI S_ 32 1#32) (id k)))) (B (select (cmpi .eq (id k) (constantI S_ 32 0#32)) (constantI S_ 32 1#32) (id k))))
    (Host.remsi x (B (select (cmpi .eq (id k) (constantI S_ 32 0#32)) (constantI S_ 32 1#32) (id k))))

/-- A lane's parity, from the words. -/
theorem even_word (d : Fin 128) : IntOp.cmpi CmpIPredicate.eq (BitVec.ofNat 32 (d.val % 2)) 0#32 = BitVec.ofBool (decide (d.val % 2 = 0)) := by
  revert d; decide +kernel

theorem minus_one : Ideal.ofBits FTy.f32 0xBF800000#32 = -1 := by
  have e1 : BitVec.extractLsb' 31 1 0xBF800000#32 = 1#1 := by decide
  have e2 : 3212836864 >>> 23 % 256 = 127 := by decide
  norm_num [Ideal.ofBits, Ideal.ieee, e1, e2]

/-- A choice on a decided bit. -/
theorem pick_ofBool (p : Prop) [Decidable p] (x y : EReal) : Scalar.select (BitVec.ofBool (decide p)) x y = if p then x else y := by
  by_cases h : p <;> simp [h, Scalar.select]

theorem row_rem (x : IVec S1x128 32) (d : Fin 128) (h : x (ix2 0 d) = BitVec.ofNat 32 d.val) :
    remOf (broadcastInDim S1x128 ![] bcast_S_S1x128) (broadcastInDim S1x128 ![] bcast_S_S1x128) x (constantI S_ 32 2#32) (ix2 0 d) = BitVec.ofNat 32 (d.val % 2) := by
  pointwise [remOf]
  rw [h]
  clear h
  revert d; decide +kernel

theorem col_rem (x : IVec S128x1 32) (d : Fin 128) (h : x (ix2 d 0) = BitVec.ofNat 32 d.val) :
    remOf (broadcastInDim S128x1 ![] bcast_S_S128x1) (broadcastInDim S128x1 ![] bcast_S_S128x1) x (constantI S_ 32 2#32) (ix2 d 0) = BitVec.ofNat 32 (d.val % 2) := by
  pointwise [remOf]
  rw [h]
  clear h
  revert d; decide +kernel

section
variable (W : Valuation τ sig (Elt Ideal))

theorem st7_v57 (x d : Fin 128) : (StableHlo.after hostOps0_7 W main_v57 (ix2 x d) : BitVec 1) = BitVec.ofBool (decide (x.val = d.val + 1)) := by
  after_results; refine Eq.trans ?_ (next_word x d); pointwise
theorem st7_v50 (x : Fin 128) : (StableHlo.after hostOps0_7 W main_v50 (ix2 x 0) : BitVec 32) = BitVec.ofNat 32 x.val := by after_results; pointwise
theorem st7_v52 (x : Fin 128) : (StableHlo.after hostOps0_7 W main_v52 (ix2 0 x) : BitVec 32) = BitVec.ofNat 32 x.val := by after_results; pointwise
theorem st7_c16 : StableHlo.after hostOps0_7 W main_c_16 = (constantI S_ 32 2#32 : IVec S_ 32) := by after_results

theorem st8_v58 (h : W main_c_16 = (constantI S_ 32 2#32 : IVec S_ 32)) (d : Fin 128) (h' : (W main_v52 (ix2 0 d) : BitVec 32) = BitVec.ofNat 32 d.val) :
    (StableHlo.after hostOps0_8 W main_v58 (ix2 0 d) : BitVec 32) = BitVec.ofNat 32 (d.val % 2) := by
  have e : StableHlo.after hostOps0_8 W main_v58 = remOf (broadcastInDim S1x128 ![] bcast_S_S1x128) (broadcastInDim S1x128 ![] bcast_S_S1x128) (W main_v52) (W main_c_16) := by
    after_results
    simp only [StableHlo.TRef.ofBuf_toBuf]
    rfl
  rw [e, h]
  exact row_rem _ d h'

theorem st9_v62 (x d : Fin 128) (p : Prop) [Decidable p] (h : (W main_v57 (ix2 x d) : BitVec 1) = BitVec.ofBool (decide p)) (h' : (W main_v58 (ix2 0 d) : BitVec 32) = BitVec.ofNat 32 (d.val % 2)) :
    (StableHlo.after hostOps0_9 W main_v62 (ix2 x d) : BitVec 1) = BitVec.ofBool (decide (p ∧ d.val % 2 = 0)) := by
  after_results
  pointwise
  rw [h, h', even_word, WordCmp.andi_ofBool, Bool.decide_and]

theorem st9_cst18 : StableHlo.after hostOps0_9 W main_cst_18 = (constant S_ .f32 0xBF800000#32 : FVec Ideal S_ .f32) := by after_results
theorem st9_cst19 : StableHlo.after hostOps0_9 W main_cst_19 = (constant S_ .f32 0x00000000#32 : FVec Ideal S_ .f32) := by after_results

theorem st10_v63 (x d : Fin 128) (p : Prop) [Decidable p] (h : (W main_v62 (ix2 x d) : BitVec 1) = BitVec.ofBool (decide p))
    (h' : W main_cst_18 = (constant S_ .f32 0xBF800000#32 : FVec Ideal S_ .f32)) (h'' : W main_cst_19 = (constant S_ .f32 0x00000000#32 : FVec Ideal S_ .f32)) :
    StableHlo.after hostOps0_10 W main_v63 (ix2 x d) = (if p then -1 else 0 : EReal) := by
  have e : StableHlo.after hostOps0_10 W main_v63 = (select (W main_v62) (broadcastInDim S128x128 ![] bcast_S_S128x128 (W main_cst_18)) (broadcastInDim S128x128 ![] bcast_S_S128x128 (W main_cst_19)) : FVec Ideal S128x128 .f32) := by
    after_results; rfl
  rw [e, h', h'', ← minus_one, ← Ideal.ofBits_zero_f32, ← pick_ofBool p, ← h]
  generalize W main_v62 = y
  pointwise

theorem st11_v68 (x d : Fin 128) (h : (W main_v50 (ix2 x 0) : BitVec 32) = BitVec.ofNat 32 x.val) (h' : (W main_v52 (ix2 0 d) : BitVec 32) = BitVec.ofNat 32 d.val) :
    (StableHlo.after hostOps0_11 W main_v68 (ix2 x d) : BitVec 1) = BitVec.ofBool (decide (d.val = x.val + 1)) := by
  after_results; refine Eq.trans ?_ (next_word d x); pointwise; rw [h, h']

theorem st11_c21 : StableHlo.after hostOps0_11 W main_c_21 = (constantI S_ 32 2#32 : IVec S_ 32) := by after_results

theorem st12_v69 (h : W main_c_21 = (constantI S_ 32 2#32 : IVec S_ 32)) (d : Fin 128) (h' : (W main_v50 (ix2 d 0) : BitVec 32) = BitVec.ofNat 32 d.val) :
    (StableHlo.after hostOps0_12 W main_v69 (ix2 d 0) : BitVec 32) = BitVec.ofNat 32 (d.val % 2) := by
  have e : StableHlo.after hostOps0_12 W main_v69 = remOf (broadcastInDim S128x1 ![] bcast_S_S128x1) (broadcastInDim S128x1 ![] bcast_S_S128x1) (W main_v50) (W main_c_21) := by
    after_results
    simp only [StableHlo.TRef.ofBuf_toBuf]
    rfl
  rw [e, h]
  exact col_rem _ d h'

theorem st13_v73 (x d : Fin 128) (p : Prop) [Decidable p] (h : (W main_v68 (ix2 x d) : BitVec 1) = BitVec.ofBool (decide p)) (h' : (W main_v69 (ix2 x 0) : BitVec 32) = BitVec.ofNat 32 (x.val % 2)) :
    (StableHlo.after hostOps0_13 W main_v73 (ix2 x d) : BitVec 1) = BitVec.ofBool (decide (p ∧ x.val % 2 = 0)) := by
  after_results
  pointwise
  rw [h, h', even_word, WordCmp.andi_ofBool, Bool.decide_and]

theorem st13_cst23 : StableHlo.after hostOps0_13 W main_cst_23 = (constant S_ .f32 0x3F800000#32 : FVec Ideal S_ .f32) := by after_results
theorem st13_cst24 : StableHlo.after hostOps0_13 W main_cst_24 = (constant S_ .f32 0x00000000#32 : FVec Ideal S_ .f32) := by after_results

theorem st14_v74 (x d : Fin 128) (p : Prop) [Decidable p] (h : (W main_v73 (ix2 x d) : BitVec 1) = BitVec.ofBool (decide p))
    (h' : W main_cst_23 = (constant S_ .f32 0x3F800000#32 : FVec Ideal S_ .f32)) (h'' : W main_cst_24 = (constant S_ .f32 0x00000000#32 : FVec Ideal S_ .f32)) :
    StableHlo.after hostOps0_14 W main_v74 (ix2 x d) = (if p then 1 else 0 : EReal) := by
  have e : StableHlo.after hostOps0_14 W main_v74 = (select (W main_v73) (broadcastInDim S128x128 ![] bcast_S_S128x128 (W main_cst_23)) (broadcastInDim S128x128 ![] bcast_S_S128x128 (W main_cst_24)) : FVec Ideal S128x128 .f32) := by
    after_results; rfl
  rw [e, h', h'', ← Ideal.ofBits_one_f32, ← Ideal.ofBits_zero_f32, ← pick_ofBool p, ← h]
  generalize W main_v73 = y
  pointwise

theorem st15_v76 (x d : Fin 128) (a b : EReal) (ha : W main_v63 (ix2 x d) = a) (hb : W main_v74 (ix2 x d) = b) : StableHlo.after hostOps0_15 W main_v76 (ix2 x d) = a + b := by
  subst ha hb
  after_results; pointwise

end

section
variable (m : (ℓ : Loc nD τ sig) → Buf (Elt Ideal) ℓ) (c : Dev nD)

/-- The exchange matrix. -/
theorem swap_at (x d : Fin 128) : V16 m c main_v76 (ix2 x d)
    = ((if x.val = d.val + 1 ∧ d.val % 2 = 0 then -1 else 0) + (if d.val = x.val + 1 ∧ x.val % 2 = 0 then 1 else 0) : EReal) := by
  have h50 : (V11 m c main_v50 (ix2 x 0) : BitVec 32) = BitVec.ofNat 32 x.val := by
    rw [V11_of m c main_v50 (by decide), V10_of m c main_v50 (by decide), V9_of m c main_v50 (by decide)]; exact st7_v50 _ x
  have h52 : (V11 m c main_v52 (ix2 0 d) : BitVec 32) = BitVec.ofNat 32 d.val := by
    rw [V11_of m c main_v52 (by decide), V10_of m c main_v52 (by decide), V9_of m c main_v52 (by decide)]; exact st7_v52 _ d
  have h62 : (V10 m c main_v62 (ix2 x d) : BitVec 1) = BitVec.ofBool (decide (x.val = d.val + 1 ∧ d.val % 2 = 0)) :=
    st9_v62 _ x d _ (by rw [V9_of m c main_v57 (by decide)]; exact st7_v57 _ x d) (st8_v58 _ (st7_c16 _) d (st7_v52 _ d))
  have h63 : V15 m c main_v63 (ix2 x d) = (if x.val = d.val + 1 ∧ d.val % 2 = 0 then -1 else 0 : EReal) := by
    rw [V15_of m c main_v63 (by decide), V14_of m c main_v63 (by decide), V13_of m c main_v63 (by decide), V12_of m c main_v63 (by decide)]
    exact st10_v63 _ x d _ h62 (st9_cst18 _) (st9_cst19 _)
  have h69 : (V13 m c main_v69 (ix2 x 0) : BitVec 32) = BitVec.ofNat 32 (x.val % 2) :=
    st12_v69 _ (st11_c21 _) x ((congrFun (V12_of m c main_v50 (by decide)) (ix2 x 0)).trans h50)
  have h73 : (V14 m c main_v73 (ix2 x d) : BitVec 1) = BitVec.ofBool (decide (d.val = x.val + 1 ∧ x.val % 2 = 0)) :=
    st13_v73 _ x d _ (by rw [V13_of m c main_v68 (by decide)]; exact st11_v68 _ x d h50 h52) h69
  exact st15_v76 _ x d _ _ h63 (st14_v74 _ x d _ h73 (st13_cst23 _) (st13_cst24 _))

end

end Cert.KernelIdeal.Value
-- ==== Proof.Value.PrepPay.lean ====
module

public import proofs.«01_k».proof.Proof.KernelIdeal.PrepDat
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Prep

/-! # What the projection call's payloads hold, at an index -/

/-- Row `Y` turned: each lane with its partner, as the product with the exchange matrix gives it. -/
def turn (Y cs sn : Fin 128 → EReal) (sw : FVec Ideal S128x128 .bf16) (d : Fin 128) : EReal :=
  Y d * cs d + (∑ x : Fin 128, Y x * sw (ix2 x d)) * sn d

/-- The scale of the scores. -/
def scale : EReal := Ideal.ofBits FTy.f32 0x3DB504F3#32

/-- The sum a projection is. -/
def dotRow {n : ℕ} (x : Fin 2048 → EReal) (w : Fin 2048 → Fin n → EReal) (l : Fin n) : EReal := ∑ e, x e * w e l

theorem qproj_at (x : FVec Ideal S256x2048 .f32) (w : FVec Ideal S2048x2048 .bf16) (r : Fin 256) (l : Fin 2048) :
    k0_pay17 (F := Ideal) x w (ix2 r l) = dotRow (fun e => x (ix2 r e)) (fun e l => w (ix2 e l)) l := by
  pointwise [k0_pay17, k0_pay16]
  rfl

theorem kproj_at (x : FVec Ideal S256x2048 .f32) (w : FVec Ideal S2048x512 .bf16) (r : Fin 256) (l : Fin 512) :
    k0_pay18 (F := Ideal) x w (ix2 r l) = dotRow (fun e => x (ix2 r e)) (fun e l => w (ix2 e l)) l := by
  pointwise [k0_pay18, k0_pay16]
  rfl

theorem vproj_at (x : FVec Ideal S256x2048 .f32) (w : FVec Ideal S2048x512 .bf16) (r : Fin 256) (l : Fin 512) :
    k0_pay19 (F := Ideal) x w (ix2 r l) = dotRow (fun e => x (ix2 r e)) (fun e l => w (ix2 e l)) l := by
  pointwise [k0_pay19, k0_pay16]
  rfl

theorem gate_at (x : FVec Ideal S256x2048 .f32) (w : FVec Ideal S2048x128 .bf16) (r : Fin 256) (l : Fin 128) :
    k0_pay20 (F := Ideal) x w (ix2 r l) = Ideal.logistic (dotRow (fun e => x (ix2 r e)) (fun e l => w (ix2 e l)) l) := by
  pointwise [k0_pay20, k0_pay16]
  rfl

theorem cs_at (x : FVec Ideal S256x128 .f32) : k0_pay21 (F := Ideal) x = x := by funext j; idx_vars j; pointwise [k0_pay21]
theorem sn_at (x : FVec Ideal S256x128 .f32) : k0_pay22 (F := Ideal) x = x := by funext j; idx_vars j; pointwise [k0_pay22]
theorem sw_at (x : FVec Ideal S128x128 .bf16) : k0_pay23 (F := Ideal) x = x := by funext j; idx_vars j; pointwise [k0_pay23]

set_option maxHeartbeats 1000000 in
theorem qpay_at (x : FVec Ideal S256x2048 .f32) (w : FVec Ideal S2048x2048 .bf16) (cs sn : FVec Ideal S256x128 .f32) (sw : FVec Ideal S128x128 .bf16)
    (h : Fin 16) (r : Fin 256) (d : Fin 128) :
    qpay (F := Ideal) x w cs sn sw h (ix3 (0 : Fin 1) r d)
      = turn (fun l => k0_pay17 (F := Ideal) x w (ix2 r (⟨h.val * 128 + l.val, by omega⟩ : Fin 2048))) (fun l => cs (ix2 r l)) (fun l => sn (ix2 r l)) sw d * scale := by
  unfold qpay k0_pay24
  rw [cs_at, sn_at, sw_at]
  generalize k0_pay17 (F := Ideal) x w = q
  fin_cases h
  all_goals
    dsimp only
    pointwise [k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  all_goals try rfl

theorem kpay_at (x : FVec Ideal S256x2048 .f32) (w : FVec Ideal S2048x512 .bf16) (cs sn : FVec Ideal S256x128 .f32) (sw : FVec Ideal S128x128 .bf16)
    (h : Fin 4) (r : Fin 256) (d : Fin 128) :
    kpay (F := Ideal) x w cs sn sw h (ix3 (0 : Fin 1) r d)
      = turn (fun l => k0_pay18 (F := Ideal) x w (ix2 r (⟨h.val * 128 + l.val, by omega⟩ : Fin 512))) (fun l => cs (ix2 r l)) (fun l => sn (ix2 r l)) sw d := by
  unfold kpay
  rw [cs_at, sn_at, sw_at]
  generalize k0_pay18 (F := Ideal) x w = q
  fin_cases h
  all_goals
    dsimp only
    pointwise [k0_pay45, k0_pay48, k0_pay50, k0_pay1]
  all_goals try rfl

theorem vpay_at (x : FVec Ideal S256x2048 .f32) (w : FVec Ideal S2048x512 .bf16) (h : Fin 4) (r : Fin 256) (d : Fin 128) :
    vpay (F := Ideal) x w h (ix3 (0 : Fin 1) r d) = k0_pay19 (F := Ideal) x w (ix2 r (⟨h.val * 128 + d.val, by omega⟩ : Fin 512)) := by
  unfold vpay
  generalize k0_pay19 (F := Ideal) x w = q
  fin_cases h
  all_goals
    dsimp only
    pointwise [k0_pay46, k0_pay47, k0_pay49, k0_pay51, k0_pay2]
  all_goals try rfl

theorem ckpay_at (p : FVec Ideal S128x2048 .bf16) (K : FVec Ideal S4x2048x128 .bf16) (h : Fin 4) (c d : Fin 128) :
    ckpay (F := Ideal) p K h (ix3 (0 : Fin 1) c d) = ∑ t : Fin 2048, p (ix2 c t) * K (ix3 h t d) := by
  have e : ∀ n : Fin 4, ∀ (t : Fin 2048) (d : Fin 128), slab (F := Ideal) K n (ix3 (0 : Fin 1) t d) = K (ix3 n t d) := fun n t d => rfl
  unfold ckpay
  generalize slab (F := Ideal) K = s at e
  fin_cases h
  all_goals
    dsimp only
    pointwise [k0_pay5, k0_pay7, k0_pay9, k0_pay3, k0_pay11]
  all_goals try simp only [e]
  all_goals try rfl

theorem cvpay_at (p : FVec Ideal S128x2048 .bf16) (K : FVec Ideal S4x2048x128 .bf16) (h : Fin 4) (c d : Fin 128) :
    cvpay (F := Ideal) p K h (ix3 (0 : Fin 1) c d) = ∑ t : Fin 2048, p (ix2 c t) * K (ix3 h t d) := by
  have e : ∀ n : Fin 4, ∀ (t : Fin 2048) (d : Fin 128), slab (F := Ideal) K n (ix3 (0 : Fin 1) t d) = K (ix3 n t d) := fun n t d => rfl
  unfold cvpay
  generalize slab (F := Ideal) K = s at e
  fin_cases h
  all_goals
    dsimp only
    pointwise [k0_pay6, k0_pay8, k0_pay10, k0_pay4]
  all_goals try simp only [e]
  all_goals try rfl

end Cert.KernelIdeal.Value
-- ==== Proof.Value.PrepArr.lean ====
module

public import proofs.«01_k».proof.Proof.Value.PrepPay

@[expose] public section

set_option maxRecDepth 16384

noncomputable section

namespace Cert.KernelIdeal.Value

open Idealize.ShloMosaic Idealize.ShloMosaic.TcCoe Idealize.ShloMosaic.Tactic
open Idealize.SL.Sem Idealize.SL.RA
open Idealize.ShloMosaic.Pipeline (Dat)
open Cert.KernelIdeal Cert.KernelIdeal.Gen Cert.KernelIdeal.Prep

/-! # The arrays the projection call leaves -/

/-- A query: a projected row, turned and scaled. -/
def qAt (X Wq : FVec Ideal S2048x2048 .f32) (cs sn : FVec Ideal S2048x128 .f32) (sw : FVec Ideal S128x128 .bf16) (h : Fin 16) (t : Fin 2048) (d : Fin 128) : EReal :=
  turn (fun l => dotRow (fun e => X (ix2 t e)) (fun e l => Wq (ix2 e l)) (⟨h.val * 128 + l.val, by omega⟩ : Fin 2048)) (fun l => cs (ix2 t l)) (fun l => sn (ix2 t l)) sw d * scale

/-- A key: a projected row, turned. -/
def kAt (X : FVec Ideal S2048x2048 .f32) (Wk : FVec Ideal S2048x512 .f32) (cs sn : FVec Ideal S2048x128 .f32) (sw : FVec Ideal S128x128 .bf16) (h : Fin 4) (t : Fin 2048) (d : Fin 128) : EReal :=
  turn (fun l => dotRow (fun e => X (ix2 t e)) (fun e l => Wk (ix2 e l)) (⟨h.val * 128 + l.val, by omega⟩ : Fin 512)) (fun l => cs (ix2 t l)) (fun l => sn (ix2 t l)) sw d

/-- A value: a projected row. -/
def vAt (X : FVec Ideal S2048x2048 .f32) (Wv : FVec Ideal S2048x512 .f32) (h : Fin 4) (t : Fin 2048) (d : Fin 128) : EReal :=
  dotRow (fun e => X (ix2 t e)) (fun e l => Wv (ix2 e l)) (⟨h.val * 128 + d.val, by omega⟩ : Fin 512)

/-- A pooled entry: a row of a pooling matrix against a column. -/
def poolAt (P : FVec Ideal S128x2048 .bf16) (K : Fin 2048 → EReal) (k : Fin 128) : EReal := ∑ t : Fin 2048, P (ix2 k t) * K t

/-- A gate. -/
def gAt (X : FVec Ideal S2048x2048 .f32) (Wg : FVec Ideal S2048x128 .f32) (t : Fin 2048) (l : Fin 128) : EReal :=
  Ideal.logistic (dotRow (fun e => X (ix2 t e)) (fun e l => Wg (ix2 e l)) l)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![0, 0] ∧ win0_8.index t = ![0, 0]
    ∧ win0_9.index t = ![0, 0] ∧ win0_10.index t = ![0, t.val, 0] ∧ win0_13.index t = ![t.val, 0] :=
  (by decide +kernel : ∀ t : Fin grid0.N, _)

theorem rd0 (c : Dev nD) (t : Fin cfg0.N) (T : Fin 2048) (r : Fin 256) (e : Fin 2048) (hT : T.val = 256 * t.val + r.val) :
    iblk V c 0 t (ix2 r e) = V c main_v0 (ix2 T e) := by blk_ext [iblk, idx0 t]
theorem rd1 (c : Dev nD) (t : Fin cfg0.N) (r e : Fin 2048) : iblk V c 1 t (ix2 r e) = V c main_arg1 (ix2 r e) := by blk_ext [iblk, idx0 t]
theorem rd2 (c : Dev nD) (t : Fin cfg0.N) (r : Fin 2048) (e : Fin 512) : iblk V c 2 t (ix2 r e) = V c main_arg2 (ix2 r e) := by blk_ext [iblk, idx0 t]
theorem rd3 (c : Dev nD) (t : Fin cfg0.N) (r : Fin 2048) (e : Fin 512) : iblk V c 3 t (ix2 r e) = V c main_arg3 (ix2 r e) := by blk_ext [iblk, idx0 t]
theorem rd4 (c : Dev nD) (t : Fin cfg0.N) (r : Fin 2048) (e : Fin 128) : iblk V c 4 t (ix2 r e) = V c main_v1 (ix2 r e) := by blk_ext [iblk, idx0 t]
theorem rd5 (c : Dev nD) (t : Fin cfg0.N) (T : Fin 2048) (r : Fin 256) (e : Fin 128) (hT : T.val = 256 * t.val + r.val) :
    iblk V c 5 t (ix2 r e) = V c main_v45 (ix2 T e) := by blk_ext [iblk, idx0 t]
theorem rd6 (c : Dev nD) (t : Fin cfg0.N) (T : Fin 2048) (r : Fin 256) (e : Fin 128) (hT : T.val = 256 * t.val + r.val) :
    iblk V c 6 t (ix2 r e) = V c main_v48 (ix2 T e) := by blk_ext [iblk, idx0 t]
theorem rd7 (c : Dev nD) (t : Fin cfg0.N) (r e : Fin 128) : iblk V c 7 t (ix2 r e) = V c main_v76 (ix2 r e) := by blk_ext [iblk, idx0 t]
theorem rd8 (c : Dev nD) (t : Fin cfg0.N) (r : Fin 128) (e : Fin 2048) : iblk V c 8 t (ix2 r e) = V c main_v122 (ix2 r e) := by blk_ext [iblk, idx0 t]
theorem rd9 (c : Dev nD) (t : Fin cfg0.N) (r : Fin 128) (e : Fin 2048) : iblk V c 9 t (ix2 r e) = V c main_v127 (ix2 r e) := by blk_ext [iblk, idx0 t]

theorem w0_at (c : Dev nD) (r e : Fin 2048) : W0 V c (ix2 r e) = V c main_arg1 (ix2 r e) := by
  refine Eq.trans ?_ (rd1 V c z0 r e); unfold W0; generalize iblk V c 1 z0 = x; pointwise [k0_pay12]
theorem w1_at (c : Dev nD) (r : Fin 2048) (e : Fin 512) : W1 V c (ix2 r e) = V c main_arg2 (ix2 r e) := by
  refine Eq.trans ?_ (rd2 V c z0 r e); unfold W1; generalize iblk V c 2 z0 = x; pointwise [k0_pay13]
theorem w2_at (c : Dev nD) (r : Fin 2048) (e : Fin 512) : W2 V c (ix2 r e) = V c main_arg3 (ix2 r e) := by
  refine Eq.trans ?_ (rd3 V c z0 r e); unfold W2; generalize iblk V c 3 z0 = x; pointwise [k0_pay14]
theorem w3_at (c : Dev nD) (r : Fin 2048) (e : Fin 128) : W3 V c (ix2 r e) = V c main_v1 (ix2 r e) := by
  refine Eq.trans ?_ (rd4 V c z0 r e); unfold W3; generalize iblk V c 4 z0 = x; pointwise [k0_pay15]

theorem qv_at (c : Dev nD) (t : Fin cfg0.N) (h : Fin 16) (T : Fin 2048) (r : Fin 256) (d : Fin 128) (hT : T.val = 256 * t.val + r.val) :
    qv V c t h (ix3 (0 : Fin 1) r d) = qAt (V c main_v0) (V c main_arg1) (V c main_v45) (V c main_v48) (V c main_v76) h T d := by
  unfold qv
  rw [qpay_at]
  simp only [qproj_at, rd0 V c t T r _ hT, rd5 V c t T r _ hT, rd6 V c t T r _ hT, w0_at]
  unfold qAt turn
  simp only [rd7]

theorem kv_at (c : Dev nD) (t : Fin cfg0.N) (h : Fin 4) (T : Fin 2048) (r : Fin 256) (d : Fin 128) (hT : T.val = 256 * t.val + r.val) :
    kv V c t h (ix3 (0 : Fin 1) r d) = kAt (V c main_v0) (V c main_arg2) (V c main_v45) (V c main_v48) (V c main_v76) h T d := by
  unfold kv
  rw [kpay_at]
  simp only [kproj_at, rd0 V c t T r _ hT, rd5 V c t T r _ hT, rd6 V c t T r _ hT, w1_at]
  unfold kAt turn
  simp only [rd7]

theorem vv_at (c : Dev nD) (t : Fin cfg0.N) (h : Fin 4) (T : Fin 2048) (r : Fin 256) (d : Fin 128) (hT : T.val = 256 * t.val + r.val) :
    vv V c t h (ix3 (0 : Fin 1) r d) = vAt (V c main_v0) (V c main_arg3) h T d := by
  unfold vv
  rw [vpay_at, vproj_at]
  simp only [rd0 V c t T r _ hT, w2_at]
  rfl

theorem gv_at (c : Dev nD) (t : Fin cfg0.N) (T : Fin 2048) (r : Fin 256) (l : Fin 128) (hT : T.val = 256 * t.val + r.val) :
    gv V c t (ix2 r l) = gAt (V c main_v0) (V c main_v1) T l := by
  unfold gv
  rw [gate_at]
  simp only [rd0 V c t T r _ hT, w3_at]
  rfl

theorem q_point (c : Dev nD) (t : Fin cfg0.N) (h h' : Fin 16) (T : Fin 2048) (r : Fin 256) (d d' : Fin 128) (hh : h'.val = win0_10.index t 0 * 16 + h.val)
    (hT : T.val = win0_10.index t 1 * 256 + r.val) (hd : d'.val = win0_10.index t 2 * 128 + d.val) :
    qv V c t h (ix3 (0 : Fin 1) r d) = qAt (V c main_v0) (V c main_arg1) (V c main_v45) (V c main_v48) (V c main_v76) h' T d' := by
  rw [(idx0 t).2.2.2.2.2.2.2.2.2.2.1] at hh hT hd
  replace hh : h'.val = 0 * 16 + h.val := hh
  replace hT : T.val = t.val * 256 + r.val := hT
  replace hd : d'.val = 0 * 128 + d.val := hd
  rw [show h' = h from Fin.ext (by omega), show d' = d from Fin.ext (by omega)]
  exact qv_at V c t h T r d (by omega)

theorem g_point (c : Dev nD) (t : Fin cfg0.N) (T : Fin 2048) (r : Fin 256) (d d' : Fin 128) (hT : T.val = win0_13.index t 0 * 256 + r.val)
    (hd : d'.val = win0_13.index t 1 * 128 + d.val) : gv V c t (ix2 r d) = gAt (V c main_v0) (V c main_v1) T d' := by
  rw [(idx0 t).2.2.2.2.2.2.2.2.2.2.2] at hT hd
  replace hT : T.val = t.val * 256 + r.val := hT
  replace hd : d'.val = 0 * 128 + d.val := hd
  rw [show d' = d from Fin.ext (by omega)]
  exact gv_at V c t T r d (by omega)

theorem kval_at (c : Dev nD) (h : Fin 4) (T : Fin 2048) (d : Fin 128) :
    kval V c (ix3 h T d) = kAt (V c main_v0) (V c main_arg2) (V c main_v45) (V c main_v48) (V c main_v76) h T d :=
  kv_at V c _ h T _ d (by show T.val = 256 * (T.val / 256) + T.val % 256; omega)

theorem vval_at (c : Dev nD) (h : Fin 4) (T : Fin 2048) (d : Fin 128) : vval V c (ix3 h T d) = vAt (V c main_v0) (V c main_arg3) h T d :=
  vv_at V c _ h T _ d (by show T.val = 256 * (T.val / 256) + T.val % 256; omega)

theorem ckval_at (c : Dev nD) (h : Fin 4) (k d : Fin 128) : ckval V c (ix3 h k d)
    = poolAt (V c main_v122) (fun t => kAt (V c main_v0) (V c main_arg2) (V c main_v45) (V c main_v48) (V c main_v76) h t d) k := by
  refine (ckpay_at _ _ h k d).trans ?_
  simp only [rd8, kval_at]
  rfl

theorem cvval_at (c : Dev nD) (h : Fin 4) (k d : Fin 128) : cvval V c (ix3 h k d)
    = poolAt (V c main_v127) (fun t => vAt (V c main_v0) (V c main_arg3) h t d) k := by
  refine (cvpay_at _ _ h k d).trans ?_
  simp only [rd9, vval_at]
  rfl

variable (D : Dev nD → CellTallies nD τ sig Unit)

local notation "𝕕" => dat (Ix := Unit) (U := UR sig nD τ) (Lvl := ℕ) V D

theorem after_10 (c : Dev nD) (t : Fin cfg0.N) : (𝕕 c).after 10 t = stack16 (qv V c t) := by dsimp only [dat]
theorem after_11 (c : Dev nD) (t : Fin cfg0.N) : (𝕕 c).after 11 t = kval V c := by dsimp only [dat]
theorem after_12 (c : Dev nD) (t : Fin cfg0.N) : (𝕕 c).after 12 t = vval V c := by dsimp only [dat]
theorem after_13 (c : Dev nD) (t : Fin cfg0.N) : (𝕕 c).after 13 t = gv V c t := by dsimp only [dat]
theorem after_14 (c : Dev nD) (t : Fin cfg0.N) : (𝕕 c).after 14 t = ckval V c := by dsimp only [dat]
theorem after_15 (c : Dev nD) (t : Fin cfg0.N) : (𝕕 c).after 15 t = cvval V c := by dsimp only [dat]

/-- The queries. -/
theorem q_final (c : Dev nD) : (𝕕 c).arrAt 10 cfg0.N
    = fun y : S16x2048x128.Idx => qAt (V c main_v0) (V c main_arg1) (V c main_v45) (V c main_v48) (V c main_v76) ⟨(y 0).val, (y 0).isLt⟩ ⟨(y 1).val, (y 1).isLt⟩ ⟨(y 2).val, (y 2).isLt⟩ := by
  refine (𝕕 c).arrAt_eq_of_covers 10 _ (by decide +kernel) fun t _ y => ?_
  blk_simp
  rw [after_10]
  unfold stack16
  frame_out
  idx_vars y
  exact q_point V c t _ _ _ _ _ _ rfl rfl rfl

/-- The keys. -/
theorem k_final (c : Dev nD) : (𝕕 c).arrAt 11 cfg0.N
    = fun y : S4x2048x128.Idx => kAt (V c main_v0) (V c main_arg2) (V c main_v45) (V c main_v48) (V c main_v76) (y 0) (y 1) (y 2) := by
  refine (𝕕 c).arrAt_eq_of_after_last 11 z7 (by decide +kernel) _ fun j => ?_
  rw [after_11]
  exact kval_at V c (j 0) (j 1) (j 2)

/-- The values. -/
theorem v_final (c : Dev nD) : (𝕕 c).arrAt 12 cfg0.N = fun y : S4x2048x128.Idx => vAt (V c main_v0) (V c main_arg3) (y 0) (y 1) (y 2) := by
  refine (𝕕 c).arrAt_eq_of_after_last 12 z7 (by decide +kernel) _ fun j => ?_
  rw [after_12]
  exact vval_at V c (j 0) (j 1) (j 2)

/-- The gates. -/
theorem g_final (c : Dev nD) : (𝕕 c).arrAt 13 cfg0.N = fun y : S2048x128.Idx => gAt (V c main_v0) (V c main_v1) ⟨(y 0).val, (y 0).isLt⟩ ⟨(y 1).val, (y 1).isLt⟩ := by
  refine (𝕕 c).arrAt_eq_of_covers 13 _ (by decide +kernel) fun t _ y => ?_
  blk_simp
  rw [after_13]
  frame_out
  idx_vars y
  exact g_point V c t _ _ _ _ rfl rfl

/-- The pooled keys. -/
theorem ck_final (c : Dev nD) : (𝕕 c).arrAt 14 cfg0.N
    = fun y : S4x128x128.Idx => poolAt (V c main_v122) (fun t => kAt (V c main_v0) (V c main_arg2) (V c main_v45) (V c main_v48) (V c main_v76) (y 0) t (y 2)) (y 1) := by
  refine (𝕕 c).arrAt_eq_of_after_last 14 z7 (by decide +kernel) _ fun j => ?_
  rw [after_14]
  exact ckval_at V c (j 0) (j 1) (j 2)

/-- The pooled values. -/
theorem cv_final (c : Dev nD) : (𝕕 c).arrAt 15 cfg0.N
    = fun y : S4x128x128.Idx => poolAt (V c main_v127) (fun t => vAt (V c main_v0) (V c main_arg3) (y 0) t (y 2)) (y 1) := by
  refine (𝕕 c).arrAt_eq_of_after_last 15 z7 (by decide +kernel) _ fun j => ?_
  rw [after_15]
  exact cvval_at V c (j 0) (j 1) (j 2)

end Cert.KernelIdeal.Value
-- ==== Proof.Value.HostPool.lean ====
module

public import proofs.«01_k».proof.Proof.Gen.KernelIdeal.Regions
public import proofs.«01_k».proof.Proof.Value.RefRope
public import proofs.«01_k».proof.Proof.Value.RefPool
public import Idealize.ShloMosaic.Lib.Pointwise
public import Idealize.ShloMosaic.Lib.WordCmp

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen
open Cert.ReferenceIdeal.Read

/-! # The host's pooling and selection matrices, and its copies

A pooling matrix holds a window's weights on the window's rows; the selection matrix picks a head's three gates. -/

/-- A decided bit as a number. -/
theorem bit_val (φ : FTy) (p : Prop) [Decidable p] : FloatOps.uitofp (F := Ideal) φ (BitVec.ofBool (decide p)) = (if p then 1 else 0 : EReal) := by
  show (((BitVec.ofBool (decide p)).toNat : ℝ) : EReal) = _
  by_cases h : p <;> simp [h]

/-- Whether row `t` is row `j` of window `c`, from the words. -/
theorem window_word (j : Fin 32) (c : Fin 128) (t : Fin 2048) :
    IntOp.andi (IntOp.cmpi CmpIPredicate.eq (IntOp.subi (BitVec.ofNat 32 t.val) (IntOp.muli (BitVec.ofNat 32 c.val) 16#32)) (BitVec.ofNat 32 j.val))
        (IntOp.cmpi CmpIPredicate.slt (BitVec.ofNat 32 c.val) 127#32) = BitVec.ofBool (decide (t.val = 16 * c.val + j.val ∧ c.val < 127)) := by
  rw [show (127#32) = BitVec.ofNat 32 127 from rfl, WordCmp.cmpi_slt_ofNat (by omega) (by omega), WordCmp.cmpi_eq_eq_toNat, WordCmp.andi_ofBool, Bool.decide_and]
  have e : (IntOp.subi (BitVec.ofNat 32 t.val) (IntOp.muli (BitVec.ofNat 32 c.val) 16#32)).toNat = (BitVec.ofNat 32 j.val).toNat ↔ t.val = 16 * c.val + j.val := by
    show (BitVec.ofNat 32 t.val - BitVec.ofNat 32 c.val * 16#32).toNat = _ ↔ _
    simp only [BitVec.toNat_sub, BitVec.toNat_mul, BitVec.toNat_ofNat]
    omega
  rw [decide_eq_decide.mpr e]

/-- Whether lane `r` is head `h`'s gate `k`, from the words. -/
theorem gate_word (h : Fin 16) (r k : Fin 128) :
    IntOp.andi (IntOp.cmpi CmpIPredicate.eq (BitVec.ofNat 32 r.val) (IntOp.addi (IntOp.muli (3#32) (BitVec.ofNat 32 h.val)) (BitVec.ofNat 32 k.val)))
        (IntOp.cmpi CmpIPredicate.slt (BitVec.ofNat 32 k.val) 3#32) = BitVec.ofBool (decide (r.val = 3 * h.val + k.val ∧ k.val < 3)) := by
  rw [show (3#32) = BitVec.ofNat 32 3 from rfl, WordCmp.cmpi_slt_ofNat (by omega) (by omega), WordCmp.cmpi_eq_eq_toNat, WordCmp.andi_ofBool, Bool.decide_and]
  have e : (BitVec.ofNat 32 r.val).toNat = (IntOp.addi (IntOp.muli (BitVec.ofNat 32 3) (BitVec.ofNat 32 h.val)) (BitVec.ofNat 32 k.val)).toNat ↔ r.val = 3 * h.val + k.val := by
    show _ = (BitVec.ofNat 32 3 * BitVec.ofNat 32 h.val + BitVec.ofNat 32 k.val).toNat ↔ _
    simp only [BitVec.toNat_add, BitVec.toNat_mul, BitVec.toNat_ofNat]
    omega
  rw [decide_eq_decide.mpr e]

section
variable (W : Valuation τ sig (Elt Ideal))

theorem st15_v86 : StableHlo.after hostOps0_15 W main_v86 = (val_main_v174 (F := Ideal) (W main_arg6) : FVec Ideal S32 .f32) := by after_results; rfl
theorem st15_v96 : StableHlo.after hostOps0_15 W main_v96 = (val_main_v184 (F := Ideal) (W main_arg7) : FVec Ideal S32 .f32) := by after_results; rfl

theorem st15_v117 (j : Fin 32) (c : Fin 128) (t : Fin 2048) : StableHlo.after hostOps0_15 W main_v117 (ix3 j c t) = (if t.val = 16 * c.val + j.val ∧ c.val < 127 then 1 else 0 : EReal) := by
  after_results
  refine Eq.trans ?_ (bit_val .f32 _)
  rw [← window_word j c t]
  pointwise

/-- The row sums of the window indicators times the weights. -/
def pooling (b : FVec Ideal S32x128x2048 .f32) (w : FVec Ideal S32 .f32) : FVec Ideal S128x2048 .bf16 :=
  truncf .bf16 (Host.reduceAdd (mulf b (broadcastInDim S32x128x2048 ![0, 1, 2] bcast_S32x1x1_S32x128x2048_0_1_2 (broadcastInDim S32x1x1 ![0] bcast_S32_S32x1x1_0 w)))
    (constant S_ .f32 0x00000000#32) reducesTo_S32x128x2048_S128x2048_d0 h_S_) bitsLt_bf16_f32

theorem pooling_at (b : FVec Ideal S32x128x2048 .f32) (w : FVec Ideal S32 .f32) (c : Fin 128) (t : Fin 2048) :
    pooling b w (ix2 c t) = ∑ j : Fin 32, b (ix3 j c t) * w (ix1 j) := by
  pointwise [pooling]

theorem st15_v122 : StableHlo.after hostOps0_15 W main_v122 = pooling (StableHlo.after hostOps0_15 W main_v117) (StableHlo.after hostOps0_15 W main_v86) := by
  after_results; rfl
theorem st15_v127 : StableHlo.after hostOps0_15 W main_v127 = pooling (StableHlo.after hostOps0_15 W main_v117) (StableHlo.after hostOps0_15 W main_v96) := by
  after_results; rfl

theorem st1_v147 (h : Fin 16) (r k : Fin 128) : StableHlo.after hostOps1 W main_v147 (ix3 h r k) = (if r.val = 3 * h.val + k.val ∧ k.val < 3 then 1 else 0 : EReal) := by
  after_results
  refine Eq.trans ?_ (bit_val .bf16 _)
  rw [← gate_word h r k]
  pointwise

theorem st0_v0 (t e : Fin 2048) : StableHlo.after hostOps0 W main_v0 (ix2 t e) = W main_arg0 (ix3 0 t e) := by
  after_results
  pointwise

theorem st1_v1 (e : Fin 2048) (l : Fin 128) (hl : l.val < 48) : StableHlo.after hostOps0_1 W main_v1 (ix2 e l) = W main_arg5 (ix2 e (⟨l.val, hl⟩ : Fin 48)) := by
  have e' : StableHlo.after hostOps0_1 W main_v1 = (pad S2048x128 ![0, 0] ![0, 80] ![0, 0] (W main_arg5) (sitofp .f32 (W main_c)) pads_S2048x48_S2048x128_000_0800 h_S_ : FVec Ideal S2048x128 .f32) := by
    after_results; rfl
  rw [e']
  generalize W main_arg5 = y
  pointwise
  refine dif_pos fun a => ?_
  match a with
  | ⟨0, _⟩ => exact ⟨Nat.zero_le _, Nat.mod_one _, by show (e.val - 0) / 1 < 2048; omega⟩
  | ⟨1, _⟩ => exact ⟨Nat.zero_le _, Nat.mod_one _, by show (l.val - 0) / 1 < 48; omega⟩

theorem st6_v154 (t e : Fin 2048) : StableHlo.after hostOps6 W main_v154 (ix3 0 t e) = W main_v153 (ix2 t e) := by
  after_results
  pointwise

theorem st5_v152 : StableHlo.after hostOps5 W main_v152 = (concatenate S2048x2048 0 [⟨S512x2048, W main_v148⟩, ⟨S512x2048, W main_v149⟩, ⟨S512x2048, W main_v150⟩, ⟨S512x2048, W main_v151⟩]
    concatenates_S512x2048_S512x2048_S512x2048_S512x2048_S2048x2048_d0 : FVec Ideal S2048x2048 .bf16) := by
  after_results
  rfl

end

/-- Four stacked blocks, from the rows of one array. -/
theorem stacked (f : Fin 2048 → Fin 2048 → EReal) (x0 x1 x2 x3 : FVec Ideal S512x2048 .bf16)
    (h0 : ∀ (r : Fin 512) (e : Fin 2048), x0 (ix2 r e) = f ⟨r.val, by omega⟩ e) (h1 : ∀ (r : Fin 512) (e : Fin 2048), x1 (ix2 r e) = f ⟨512 + r.val, by omega⟩ e)
    (h2 : ∀ (r : Fin 512) (e : Fin 2048), x2 (ix2 r e) = f ⟨1024 + r.val, by omega⟩ e) (h3 : ∀ (r : Fin 512) (e : Fin 2048), x3 (ix2 r e) = f ⟨1536 + r.val, by omega⟩ e)
    (t e : Fin 2048) :
    (concatenate S2048x2048 0 [⟨S512x2048, x0⟩, ⟨S512x2048, x1⟩, ⟨S512x2048, x2⟩, ⟨S512x2048, x3⟩]
      concatenates_S512x2048_S512x2048_S512x2048_S512x2048_S2048x2048_d0 : FVec Ideal S2048x2048 .bf16) (ix2 t e) = f t e := by
  pointwise
  by_cases a : t.val < 512
  · exact (dif_pos a).trans (h0 _ e)
  refine (dif_neg a).trans ?_
  by_cases b : t.val - 512 < 512
  · exact (dif_pos b).trans ((h1 _ e).trans (congrArg (fun z => f z e) (Fin.ext (by show 512 + (t.val - 512) = t.val; omega))))
  refine (dif_neg b).trans ?_
  by_cases d : t.val - 512 - 512 < 512
  · exact (dif_pos d).trans ((h2 _ e).trans (congrArg (fun z => f z e) (Fin.ext (by show 1024 + (t.val - 512 - 512) = t.val; omega))))
  exact (dif_neg d).trans ((h3 _ e).trans (congrArg (fun z => f z e) (Fin.ext (by show 1536 + (t.val - 512 - 512 - 512) = t.val; omega))))

/-- A pooled sum over every row is the sum over the window's rows. -/
theorem pool_sum (K : Fin 2048 → EReal) (w : Fin 32 → EReal) (c : Fin 127) :
    ∑ t : Fin 2048, (∑ j : Fin 32, (if t.val = 16 * c.castSucc.val + j.val ∧ c.castSucc.val < 127 then 1 else 0 : EReal) * w j) * K t = ∑ j : Fin 32, K (wrow c j) * w j := by
  symm
  refine Fintype.sum_of_injective (wrow c) (fun a b h => Fin.ext (by have := congrArg Fin.val h; simp only [wrow] at this; omega)) _ _ (fun t ht => ?_) fun j => ?_
  · rw [Finset.sum_eq_zero fun j _ => ?_, zero_mul]
    rw [if_neg fun h => ht ⟨j, Fin.ext (by simp only [wrow]; exact h.1.symm)⟩, zero_mul]
  · rw [Finset.sum_eq_single j (fun i _ hi => ?_) (fun h => absurd (Finset.mem_univ j) h)]
    · rw [if_pos ⟨rfl, c.isLt⟩, one_mul, mul_comm]
    · rw [if_neg fun h => hi (Fin.ext (by have := h.1; simp only [wrow, Fin.val_castSucc] at this; omega)), zero_mul]

section
variable (m : (ℓ : Loc nD τ sig) → Buf (Elt Ideal) ℓ) (c : Dev nD)

/-- A buffer that no stretch after the first writes. -/
theorem to1 (r : Ref sig .tc) (h2 : r ∉ hostOps0_1_W) (h3 : r ∉ hostOps0_2_W) (h4 : r ∉ hostOps0_3_W) (h5 : r ∉ hostOps0_4_W) (h6 : r ∉ hostOps0_5_W)
    (h7 : r ∉ hostOps0_6_W) (h8 : r ∉ hostOps0_7_W) (h9 : r ∉ hostOps0_8_W) (h10 : r ∉ hostOps0_9_W) (h11 : r ∉ hostOps0_10_W) (h12 : r ∉ hostOps0_11_W)
    (h13 : r ∉ hostOps0_12_W) (h14 : r ∉ hostOps0_13_W) (h15 : r ∉ hostOps0_14_W) (h16 : r ∉ hostOps0_15_W) : V16 m c r = V1 m c r :=
  (V16_of m c r h16).trans <| (V15_of m c r h15).trans <| (V14_of m c r h14).trans <| (V13_of m c r h13).trans <| (V12_of m c r h12).trans <|
    (V11_of m c r h11).trans <| (V10_of m c r h10).trans <| (V9_of m c r h9).trans <| (V8_of m c r h8).trans <| (V7_of m c r h7).trans <|
    (V6_of m c r h6).trans <| (V5_of m c r h5).trans <| (V4_of m c r h4).trans <| (V3_of m c r h3).trans (V2_of m c r h2)

end

end Cert.KernelIdeal.Value
-- ==== Proof.Value.Real.lean ====
module

public import proofs.«01_k».proof.Proof.Gen.ReferenceIdeal.Read
public import proofs.«01_k».proof.Proof.Value.RefRows
public import proofs.«01_k».proof.Proof.Value.RefPool
public import proofs.«01_k».proof.Proof.Value.RefRope
public import Idealize.ShloMosaic.Lib.Pointwise
public import Idealize.ShloMosaic.Lib.WordCmp

@[expose] public section

set_option maxRecDepth 16384

noncomputable section

namespace Cert.ReferenceIdeal.Read

open Idealize.ShloMosaic Idealize.ShloMosaic.TcCoe Idealize.SL.Sem
open Cert.ReferenceIdeal Cert.ReferenceIdeal.Gen

variable (x0 : FVec Ideal S1x2048x2048 .f32) (x1 : FVec Ideal S2048x2048 .f32) (x2 x3 : FVec Ideal S2048x512 .f32)
  (x4 : FVec Ideal S2048x2048 .f32) (x5 : FVec Ideal S2048x48 .f32) (x6 x7 : FVec Ideal S32 .f32)

/-! # On finite inputs every score of the reference is a real number -/

/-- A word whose exponent is not all ones is a real number. -/
theorem word_real (b : BitVec 32) (h : (b.extractLsb' 23 8).toNat ≠ 255) : Nsa.Real' (Ideal.ofBits FTy.f32 b) := by
  show Nsa.Real' (Ideal.ieee 8 23 b)
  unfold Ideal.ieee
  dsimp only
  split
  · next h' => exact absurd h' h
  · split
    · exact ⟨_, rfl⟩
    · exact ⟨_, rfl⟩

theorem scale_real : Nsa.Real' (Ideal.ofBits FTy.f32 1035273459#32) := word_real _ (by decide)
theorem one_real : Nsa.Real' (Ideal.ofBits FTy.f32 0x3F800000#32) := word_real _ (by decide)
theorem zero_real : Nsa.Real' (Ideal.ofBits FTy.f32 0x00000000#32) := word_real _ (by decide)

theorem word_base : Ideal.ofBits FTy.f32 0x48F42400#32 = ((500000 : ℝ) : EReal) := by
  have e1 : BitVec.extractLsb' 31 1 0x48F42400#32 = 0#1 := by decide
  have e2 : 1223959552 >>> 23 % 256 = 145 := by decide
  norm_num [Ideal.ofBits, Ideal.ieee, e1, e2]

theorem word_dim : Ideal.ofBits FTy.f32 0x43000000#32 = ((128 : ℝ) : EReal) := by
  have e1 : BitVec.extractLsb' 31 1 0x43000000#32 = 0#1 := by decide
  have e2 : 1124073472 >>> 23 % 256 = 134 := by decide
  norm_num [Ideal.ofBits, Ideal.ieee, e1, e2]

theorem word_eight : Ideal.ofBits FTy.f32 0x41000000#32 = ((8 : ℝ) : EReal) := by
  have e1 : BitVec.extractLsb' 31 1 0x41000000#32 = 0#1 := by decide
  have e2 : 1090519040 >>> 23 % 256 = 130 := by decide
  norm_num [Ideal.ofBits, Ideal.ieee, e1, e2]

/-- A number held between two real ones is real. -/
theorem clamp_real {a b : EReal} (ha : Nsa.Real' a) (hb : Nsa.Real' b) (x : EReal) : Nsa.Real' (min a (max b x)) := by
  rcases min_choice a (max b x) with h | h
  · rw [h]; exact ha
  · obtain ⟨r, hr⟩ := ha
    obtain ⟨q, hq⟩ := hb
    rw [h]
    have h1 : max b x ≤ a := h ▸ min_le_left a (max b x)
    have h2 : b ≤ max b x := le_max_left b x
    refine ⟨(max b x).toReal, (EReal.coe_toReal (fun e => ?_) (fun e => ?_)).symm⟩
    · rw [e, hr] at h1; exact absurd h1 (not_le.2 (EReal.coe_lt_top r))
    · rw [e, hq] at h2; exact absurd h2 (not_le.2 (EReal.bot_lt_coe q))

theorem select_real (b : BitVec 1) {x y : EReal} (hx : Nsa.Real' x) (hy : Nsa.Real' y) : Nsa.Real' (Scalar.select b x y) := by
  unfold Scalar.select
  split
  · exact hx
  · exact hy

/-- The exponents of the frequencies. -/
theorem v22_real (i : S64.Idx) : Nsa.Real' (val_main_v22 (F := Ideal) i) := by
  have e : val_main_v21 (F := Ideal) i = ((128 : ℝ) : EReal) := word_dim
  show Nsa.Real' (Ideal.div (val_main_v20 (F := Ideal) i) (val_main_v21 (F := Ideal) i))
  rw [e]
  refine Nsa.Real'.div (Nsa.Real'.add zero_real (Nsa.Real'.mul (word_real 0x40000000#32 (by decide)) ⟨_, rfl⟩)) ⟨_, rfl⟩ ?_
  norm_num

/-- The frequencies before scaling. -/
theorem v26_real (i : S64.Idx) : Nsa.Real' (val_main_v26 (F := Ideal) i) := by
  obtain ⟨y, hy⟩ := v22_real i
  have e : val_main_v24 (F := Ideal) i = ((Real.rpow 500000 y : ℝ) : EReal) := by
    have e1 : val_main_v23 (F := Ideal) i = ((500000 : ℝ) : EReal) := word_base
    rw [val_main_v24_apply, e1, hy]; rfl
  have hp : 0 < Real.rpow 500000 y := Real.rpow_pos_of_pos (by norm_num) y
  show Nsa.Real' (Ideal.div (val_main_v25 (F := Ideal) i) (val_main_v24 (F := Ideal) i))
  rw [e]
  exact Nsa.Real'.div one_real ⟨_, rfl⟩ (by exact_mod_cast hp.ne')

theorem v35_real (i : S64.Idx) : Nsa.Real' (val_main_v35 (F := Ideal) i) := clamp_real one_real zero_real _

/-- The frequencies. -/
theorem v50_real (i : S64.Idx) : Nsa.Real' (val_main_v50 (F := Ideal) i) := by
  have e : val_main_v38 (F := Ideal) i = ((8 : ℝ) : EReal) := word_eight
  have e' : val_main_v45 (F := Ideal) i = ((8 : ℝ) : EReal) := word_eight
  have h0 : ((8 : ℝ) : EReal) ≠ 0 := by norm_num
  rw [val_main_v50_apply, val_main_v49_apply]
  refine select_real _ ?_ (select_real _ (v26_real i) ?_)
  · show Nsa.Real' (Ideal.div (val_main_v26 (F := Ideal) i) (val_main_v38 (F := Ideal) i))
    rw [e]
    exact Nsa.Real'.div (v26_real i) ⟨_, rfl⟩ h0
  · refine Nsa.Real'.add ?_ (Nsa.Real'.mul (v35_real i) (v26_real i))
    show Nsa.Real' (Ideal.div (val_main_v44 (F := Ideal) i) (val_main_v45 (F := Ideal) i))
    rw [e']
    exact Nsa.Real'.div (Nsa.Real'.mul (Nsa.Real'.sub one_real (v35_real i)) (v26_real i)) ⟨_, rfl⟩ h0

/-- The angles. -/
theorem ang_real (t : Fin 2048) (j : Fin 64) : Nsa.Real' (ang t j) := by
  unfold ang
  rw [val_main_v56_apply, val_main_v54_apply, val_main_v55_apply, val_main_v53_apply, val_main_v52_apply]
  exact Nsa.Real'.mul ⟨_, rfl⟩ (v50_real _)

theorem max32 (x : FVec Ideal S32 .f32) (i : S_.Idx) :
    Host.reduce FloatOps.maximumf x (constant S_ .f32 0xFF800000#32) reducesTo_S32_S_d0 h_S_ i = Nsa.top (fun j : Fin 32 => x (ix1 j)) := by
  unfold Nsa.top; rw [← ninf]
  pointwise!

theorem v166_at (i : S_.Idx) : val_main_v166 (F := Ideal) x6 i = Nsa.top (fun j : Fin 32 => x6 (ix1 j)) :=
  (max_ninf _).trans (max32 x6 i)

/-- The pooling weights of the keys. -/
theorem v174_at (j : Fin 32) : val_main_v174 (F := Ideal) x6 (ix1 j)
    = Ideal.div (Nsa.wt (fun j : Fin 32 => x6 (ix1 j)) j) (∑ k, Nsa.wt (fun j : Fin 32 => x6 (ix1 j)) k) := by
  have e : ∀ k : Fin 32, val_main_v170 (F := Ideal) x6 (ix1 k) = Nsa.wt (fun j : Fin 32 => x6 (ix1 j)) k := fun k => by
    unfold Nsa.wt
    rw [val_main_v170_apply, val_main_v169_apply, val_main_v168_apply, val_main_v167_apply, v166_at]
    rfl
  rw [← e j, ← Finset.sum_congr rfl fun k _ => e k]
  unfold val_main_v174 val_main_v173 val_main_v172 val_main_v171 val_main_cst_39
  generalize val_main_v170 (F := Ideal) x6 = y
  pointwise

variable (h0 : ∀ i, Nsa.Real' (x0 i)) (h2 : ∀ i, Nsa.Real' (x2 i))

include h0 in
theorem v76_real (h1 : ∀ i, Nsa.Real' (x1 i)) (t : Fin 2048) (h : Fin 16) (d : Fin 128) : Nsa.Real' (val_main_v76 (F := Ideal) x0 x1 (ix3 t h d)) := by
  have e : ∀ d, Nsa.Real' (val_main_v2 (F := Ideal) x0 x1 (ix3 t h d)) := fun d => by
    rw [v2_at]; exact Nsa.Real'.sum fun e => Nsa.Real'.mul (h0 _) (h1 _)
  rw [v76_at]
  split
  · exact ((e _).mul (ang_real _ _).cos).sub ((e _).mul (ang_real _ _).sin)
  · exact ((e _).mul (ang_real _ _).sin).add ((e _).mul (ang_real _ _).cos)

include h0 h2

theorem v137_real (t : Fin 2048) (h : Fin 4) (d : Fin 128) : Nsa.Real' (val_main_v137 (F := Ideal) x0 x2 (ix3 t h d)) := by
  have e : ∀ d, Nsa.Real' (val_main_v4 (F := Ideal) x0 x2 (ix3 t h d)) := fun d => by
    rw [v4_at]; exact Nsa.Real'.sum fun e => Nsa.Real'.mul (h0 _) (h2 _)
  rw [v137_at]
  split
  · exact ((e _).mul (ang_real _ _).cos).sub ((e _).mul (ang_real _ _).sin)
  · exact ((e _).mul (ang_real _ _).sin).add ((e _).mul (ang_real _ _).cos)

theorem v188_real (h6 : ∀ i, Nsa.Real' (x6 i)) (c : Fin 127) (g : Fin 4) (d : Fin 128) : Nsa.Real' (val_main_v188 (F := Ideal) x0 x2 x6 (ix3 c g d)) := by
  rw [v188_at]
  refine Nsa.Real'.sum fun j => (v137_real x0 x2 h0 h2 _ _ _).mul ?_
  rw [v174_at]
  exact Nsa.Real'.softmax (fun j => h6 _) j

theorem v274_real (h1 : ∀ i, Nsa.Real' (x1 i)) (t c : Fin 2048) (h : Fin 16) : Nsa.Real' (val_main_v274 (F := Ideal) x0 x1 x2 (ix3 h t c)) := by
  rw [v274_at]
  exact (Nsa.Real'.sum fun d => (v76_real x0 x1 h0 h1 _ _ _).mul (v137_real x0 x2 h0 h2 _ _ _)).mul scale_real

theorem v199_real (h1 : ∀ i, Nsa.Real' (x1 i)) (h6 : ∀ i, Nsa.Real' (x6 i)) (t : Fin 2048) (c : Fin 127) (h : Fin 16) :
    Nsa.Real' (val_main_v199 (F := Ideal) x0 x1 x2 x6 (ix3 h t c)) := by
  rw [v199_at]
  exact (Nsa.Real'.sum fun d => (v76_real x0 x1 h0 h1 _ _ _).mul (v188_real x0 x2 x6 h0 h2 h6 _ _ _)).mul scale_real

end Cert.ReferenceIdeal.Read
-- ==== Proof.Value.Bridge.lean ====
module

public import proofs.«01_k».proof.Proof.Value.Att
public import proofs.«01_k».proof.Proof.Value.PrepArr
public import proofs.«01_k».proof.Proof.Value.HostPool
public import proofs.«01_k».proof.Proof.Value.RefMask
public import proofs.«01_k».proof.Proof.Value.Rows
public import proofs.«01_k».proof.Proof.Value.Real

@[expose] public section

set_option maxRecDepth 16384

noncomputable section

namespace Cert.KernelIdeal.Value

open Idealize.ShloMosaic Idealize.ShloMosaic.TcCoe Idealize.SL.Sem
open Cert.KernelIdeal Cert.KernelIdeal.Gen Cert.ReferenceIdeal.Read

/-! # The arrays the calls read, and a row of a call, in the reference's terms -/

/-- The rotation by a matrix that swaps the lanes of a pair, written out. -/
theorem turn_swap (Y cs sn : Fin 128 → EReal) (sw : FVec Ideal S128x128 .bf16)
    (hsw : ∀ x d : Fin 128, sw (ix2 x d) = ((if x.val = d.val + 1 ∧ d.val % 2 = 0 then -1 else 0) + (if d.val = x.val + 1 ∧ x.val % 2 = 0 then 1 else 0) : EReal))
    (d : Fin 128) :
    turn Y cs sn sw d = if d.val % 2 < 1 then Y ⟨2 * (d.val / 2), by omega⟩ * cs d - Y ⟨1 + 2 * (d.val / 2), by omega⟩ * sn d
      else Y ⟨2 * (d.val / 2), by omega⟩ * sn d + Y ⟨1 + 2 * (d.val / 2), by omega⟩ * cs d := by
  unfold turn
  by_cases hd : d.val % 2 < 1
  · have hs : ∑ x : Fin 128, Y x * sw (ix2 x d) = Y ⟨1 + 2 * (d.val / 2), by omega⟩ * (-1) := by
      refine (Finset.sum_eq_single (⟨1 + 2 * (d.val / 2), by omega⟩ : Fin 128) (fun x _ hx => ?_) (fun h => absurd (Finset.mem_univ _) h)).trans ?_
      · have hx' : x.val ≠ 1 + 2 * (d.val / 2) := fun h => hx (Fin.ext h)
        rw [hsw, if_neg (by omega), if_neg (by omega), add_zero, mul_zero]
      · rw [hsw, if_pos ⟨by show 1 + 2 * (d.val / 2) = d.val + 1; omega, by omega⟩, if_neg (by show ¬ (d.val = 1 + 2 * (d.val / 2) + 1 ∧ _); omega), add_zero]
    rw [hs, if_pos hd, show (⟨2 * (d.val / 2), by omega⟩ : Fin 128) = d from Fin.ext (by show 2 * (d.val / 2) = d.val; omega),
      mul_neg_one, EReal.neg_mul, sub_eq_add_neg]
  · have hs : ∑ x : Fin 128, Y x * sw (ix2 x d) = Y ⟨2 * (d.val / 2), by omega⟩ := by
      refine (Finset.sum_eq_single (⟨2 * (d.val / 2), by omega⟩ : Fin 128) (fun x _ hx => ?_) (fun h => absurd (Finset.mem_univ _) h)).trans ?_
      · have hx' : x.val ≠ 2 * (d.val / 2) := fun h => hx (Fin.ext h)
        rw [hsw, if_neg (by omega), if_neg (by omega), add_zero, mul_zero]
      · rw [hsw, if_neg (by omega), if_pos ⟨by show d.val = 2 * (d.val / 2) + 1; omega, by show 2 * (d.val / 2) % 2 = 0; omega⟩, zero_add, mul_one]
    rw [hs, if_neg hd, show (⟨1 + 2 * (d.val / 2), by omega⟩ : Fin 128) = d from Fin.ext (by show 1 + 2 * (d.val / 2) = d.val; omega), add_comm]

/-- The pair a lane belongs to. -/
def half (d : Fin 128) : Fin 64 := ⟨d.val / 2, by omega⟩

section
variable (x0 : FVec Ideal Cert.ReferenceIdeal.S1x2048x2048 .f32) (x1 : FVec Ideal Cert.ReferenceIdeal.S2048x2048 .f32) (x2 x3 : FVec Ideal Cert.ReferenceIdeal.S2048x512 .f32)
  (x5 : FVec Ideal Cert.ReferenceIdeal.S2048x48 .f32) (x6 x7 : FVec Ideal Cert.ReferenceIdeal.S32 .f32)
  (X : FVec Ideal S2048x2048 .f32) (cs sn : FVec Ideal S2048x128 .f32) (sw : FVec Ideal S128x128 .bf16)
  (hX : ∀ t e : Fin 2048, X (ix2 t e) = x0 (ix3 0 t e))

include hX

/-- The projected values. -/
theorem v_eq (g : Fin 4) (t : Fin 2048) (d : Fin 128) : vAt X x3 g t d = val_main_v6 (F := Ideal) x0 x3 (ix3 t g d) := by
  rw [v6_at]
  unfold vAt dotRow
  simp only [hX]

/-- The gate a head's branch takes: the selected column of the padded gates. -/
theorem g_eq (Wg : FVec Ideal S2048x128 .f32) (hW : ∀ (e : Fin 2048) (l : Fin 128) (hl : l.val < 48), Wg (ix2 e l) = x5 (ix2 e (⟨l.val, hl⟩ : Fin 48)))
    (sel : FVec Ideal S16x128x128 .bf16)
    (hsel : ∀ (h : Fin 16) (r k : Fin 128), sel (ix3 h r k) = (if r.val = 3 * h.val + k.val ∧ k.val < 3 then 1 else 0 : EReal))
    (t : Fin 2048) (h : Fin 16) (k : Fin 128) (hk : k.val < 3) :
    ∑ x : Fin 128, gAt X Wg t x * sel (ix3 h x k) = val_main_v14 (F := Ideal) x0 x5 (ix3 t h (⟨k.val, hk⟩ : Fin 3)) := by
  refine (Finset.sum_eq_single (⟨h.val * 3 + k.val, by omega⟩ : Fin 128) (fun x _ hx => ?_) (fun h => absurd (Finset.mem_univ _) h)).trans ?_
  · have hx' : x.val ≠ h.val * 3 + k.val := fun h => hx (Fin.ext h)
    rw [hsel, if_neg (by omega), mul_zero]
  · rw [hsel, if_pos ⟨by show h.val * 3 + k.val = 3 * h.val + k.val; omega, hk⟩, mul_one, v14_at]
    unfold gAt dotRow Ideal.logistic
    simp only [hX]
    rw [Finset.sum_congr rfl fun e _ => by rw [hW e ⟨h.val * 3 + k.val, by omega⟩ (by show h.val * 3 + k.val < 48; omega)]]

variable (hc : ∀ (t : Fin 2048) (d : Fin 128), cs (ix2 t d) = Ideal.cos (ang t (half d)))
  (hs : ∀ (t : Fin 2048) (d : Fin 128), sn (ix2 t d) = Ideal.sin (ang t (half d)))
  (hsw : ∀ x d : Fin 128, sw (ix2 x d) = ((if x.val = d.val + 1 ∧ d.val % 2 = 0 then -1 else 0) + (if d.val = x.val + 1 ∧ x.val % 2 = 0 then 1 else 0) : EReal))

include hc hs hsw

/-- The rotated queries, scaled. -/
theorem q_eq (h : Fin 16) (t : Fin 2048) (d : Fin 128) : qAt X x1 cs sn sw h t d = val_main_v76 (F := Ideal) x0 x1 (ix3 t h d) * scale := by
  unfold qAt
  rw [turn_swap _ _ _ sw hsw, v76_at]
  unfold dotRow
  simp only [v2_at, hX, hc, hs, half]

/-- The rotated keys. -/
theorem k_eq (g : Fin 4) (t : Fin 2048) (d : Fin 128) : kAt X x2 cs sn sw g t d = val_main_v137 (F := Ideal) x0 x2 (ix3 t g d) := by
  unfold kAt
  rw [turn_swap _ _ _ sw hsw, v137_at]
  unfold dotRow
  simp only [v4_at, hX, hc, hs, half]

omit hX hc hs hsw

/-- A pooled row: the pooling matrix places a window's weights on the window's rows. -/
theorem pool_eq (P : FVec Ideal S128x2048 .bf16) (w : FVec Ideal Cert.ReferenceIdeal.S32 .f32)
    (hP : ∀ (k : Fin 128) (t : Fin 2048), P (ix2 k t) = ∑ j : Fin 32, (if t.val = 16 * k.val + j.val ∧ k.val < 127 then 1 else 0 : EReal) * w (ix1 j))
    (K : Fin 2048 → EReal) (c : Fin 127) : poolAt P K c.castSucc = ∑ j : Fin 32, K (wrow c j) * w (ix1 j) := by
  unfold poolAt
  simp only [hP]
  exact pool_sum K (fun j => w (ix1 j)) c

include hX in
/-- The pooled values. -/
theorem cv_eq (P : FVec Ideal S128x2048 .bf16)
    (hP : ∀ (k : Fin 128) (t : Fin 2048), P (ix2 k t) = ∑ j : Fin 32, (if t.val = 16 * k.val + j.val ∧ k.val < 127 then 1 else 0 : EReal) * val_main_v184 (F := Ideal) x7 (ix1 j))
    (g : Fin 4) (c : Fin 127) (d : Fin 128) :
    poolAt P (fun t => vAt X x3 g t d) c.castSucc = val_main_v192 (F := Ideal) x0 x3 x7 (ix3 c g d) := by
  rw [v192_at, pool_eq P (val_main_v184 (F := Ideal) x7) hP]
  simp only [v_eq x0 x3 X hX]

include hX hc hs hsw in
/-- The pooled keys. -/
theorem ck_eq (P : FVec Ideal S128x2048 .bf16)
    (hP : ∀ (k : Fin 128) (t : Fin 2048), P (ix2 k t) = ∑ j : Fin 32, (if t.val = 16 * k.val + j.val ∧ k.val < 127 then 1 else 0 : EReal) * val_main_v174 (F := Ideal) x6 (ix1 j))
    (g : Fin 4) (c : Fin 127) (d : Fin 128) :
    poolAt P (fun t => kAt X x2 cs sn sw g t d) c.castSucc = val_main_v188 (F := Ideal) x0 x2 x6 (ix3 c g d) := by
  rw [v188_at, pool_eq P (val_main_v174 (F := Ideal) x6) hP]
  simp only [k_eq x0 x2 X cs sn sw hX hc hs hsw]

end

section
variable (x0 : FVec Ideal Cert.ReferenceIdeal.S1x2048x2048 .f32) (x1 : FVec Ideal Cert.ReferenceIdeal.S2048x2048 .f32) (x2 x3 : FVec Ideal Cert.ReferenceIdeal.S2048x512 .f32)
  (x5 : FVec Ideal Cert.ReferenceIdeal.S2048x48 .f32) (x6 x7 : FVec Ideal Cert.ReferenceIdeal.S32 .f32)
  (h0 : ∀ i, Nsa.Real' (x0 i)) (h1 : ∀ i, Nsa.Real' (x1 i)) (h2 : ∀ i, Nsa.Real' (x2 i)) (h6 : ∀ i, Nsa.Real' (x6 i))
  (q : FVec Ideal S16x2048x128 .bf16) (k v : FVec Ideal S4x2048x128 .bf16) (ck cv : FVec Ideal S4x128x128 .bf16) (g : FVec Ideal S2048x128 .f32) (sel : FVec Ideal S16x128x128 .bf16)
  (hq : ∀ (h : Fin 16) (t : Fin 2048) (d : Fin 128), q (ix3 h t d) = val_main_v76 (F := Ideal) x0 x1 (ix3 t h d) * scale)
  (hk : ∀ (h : Fin 4) (t : Fin 2048) (d : Fin 128), k (ix3 h t d) = val_main_v137 (F := Ideal) x0 x2 (ix3 t h d))
  (hv : ∀ (h : Fin 4) (t : Fin 2048) (d : Fin 128), v (ix3 h t d) = val_main_v6 (F := Ideal) x0 x3 (ix3 t h d))
  (hck : ∀ (h : Fin 4) (c : Fin 127) (d : Fin 128), ck (ix3 h c.castSucc d) = val_main_v188 (F := Ideal) x0 x2 x6 (ix3 c h d))
  (hcv : ∀ (h : Fin 4) (c : Fin 127) (d : Fin 128), cv (ix3 h c.castSucc d) = val_main_v192 (F := Ideal) x0 x3 x7 (ix3 c h d))
  (hg : ∀ (t : Fin 2048) (h : Fin 16) (k : Fin 128) (hk : k.val < 3), ∑ x : Fin 128, g (ix2 t x) * sel (ix3 h x k) = val_main_v14 (F := Ideal) x0 x5 (ix3 t h (⟨k.val, hk⟩ : Fin 3)))
  (t : Fin 2048) (h : Fin 16)

section
include h0 h1 h2 hq hk

/-- A call's scores are the reference's. -/
theorem causal_eq {n : ℕ} (hn : n ≤ 2048) (c : Fin n) :
    causal t.val (fun d => q (ix3 h t d)) (fun c d => k (ix3 (⟨h.val / 4, by omega⟩ : Fin 4) (c.castLE hn) d)) c
      = if c.val ≤ t.val then val_main_v274 (F := Ideal) x0 x1 x2 (ix3 h t (c.castLE hn)) else ⊥ := by
  unfold causal
  by_cases hc : c.val ≤ t.val
  · rw [if_pos hc, if_pos hc, v274_at]
    simp only [hq, hk]
    exact Nsa.scale_out (fun d => v76_real x0 x1 h0 h1 _ _ _) (fun d => v137_real x0 x2 h0 h2 _ _ _) scale_real
  · rw [if_neg hc, if_neg hc]

end

section
include h0 h1 h2 h6 hq hck

/-- Its pooled scores. -/
theorem pooled_eq (c : Fin 127) :
    pooled t.val (fun d => q (ix3 h t d)) (fun c d => ck (ix3 (⟨h.val / 4, by omega⟩ : Fin 4) c d)) c.castSucc
      = if 16 * c.val + 31 ≤ t.val then val_main_v199 (F := Ideal) x0 x1 x2 x6 (ix3 h t c) else ⊥ := by
  unfold pooled
  by_cases hc : 16 * c.val + 31 ≤ t.val
  · rw [if_pos ⟨hc, c.isLt⟩, if_pos hc, v199_at]
    simp only [hq, hck]
    exact Nsa.scale_out (fun d => v76_real x0 x1 h0 h1 _ _ _) (fun d => v188_real x0 x2 x6 h0 h2 h6 _ _ _) scale_real
  · rw [if_neg hc, if_neg fun h => hc h.1]

end

theorem pooled_last (q : Fin 128 → EReal) (ck : Fin 128 → Fin 128 → EReal) (t : ℕ) : pooled t q ck (Fin.last 127) = ⊥ :=
  if_neg fun h => absurd h.2 (by decide)

variable (d : Fin 128)

section
include h0 h1 h2 h6 hq hck hcv

/-- The first call's pooled branch. -/
theorem poolOut_eq :
    poolOut t.val (pooled t.val (fun d => q (ix3 h t d)) (fun c d => ck (ix3 (⟨h.val / 4, by omega⟩ : Fin 4) c d))) (fun c => cv (ix3 (⟨h.val / 4, by omega⟩ : Fin 4) c d))
      = val_main_v229 (F := Ideal) x0 x1 x2 x3 x6 x7 (ix3 t h d) := by
  rw [v229_at]
  simp only [v213_at]
  unfold poolOut
  by_cases ht : 31 ≤ t.val
  · rw [if_pos ht, if_pos ht]
    exact Nsa.pooled_row _ _ (fun c => v199_real x0 x1 x2 x6 h0 h2 h1 h6 t c h) _ _
      (pooled_eq x0 x1 x2 x6 h0 h1 h2 h6 q ck hq hck t h) (pooled_last _ _ _) (fun c => hcv _ c d) ht
  · rw [if_neg ht, if_neg ht]
    exact Nsa.pooled_row_none _ _ _ (pooled_eq x0 x1 x2 x6 h0 h1 h2 h6 q ck hq hck t h) (pooled_last _ _ _) (by omega) _

/-- The other calls' pooled branch. -/
theorem poolAvg_eq (ht : 31 ≤ t.val) :
    poolAvg t.val (pooled t.val (fun d => q (ix3 h t d)) (fun c d => ck (ix3 (⟨h.val / 4, by omega⟩ : Fin 4) c d))) (fun c => cv (ix3 (⟨h.val / 4, by omega⟩ : Fin 4) c d))
      = val_main_v229 (F := Ideal) x0 x1 x2 x3 x6 x7 (ix3 t h d) := by
  rw [v229_at, if_pos ht]
  simp only [v213_at]
  unfold poolAvg fullOut
  exact Nsa.pooled_row_div _ _ (fun c => v199_real x0 x1 x2 x6 h0 h2 h1 h6 t c h) _ _
    (pooled_eq x0 x1 x2 x6 h0 h1 h2 h6 q ck hq hck t h) (pooled_last _ _ _) (fun c => hcv _ c d) ht

end

include h0 h1 h2 hq hk hv hg

/-- A row of a call is the reference's gated sum, given its pooled branch. -/
theorem row_eq (n W N : ℕ) (hn : n ≤ 2048) (hN : W + N ≤ n) (P : ℕ → (Fin 128 → EReal) → (Fin 128 → EReal) → EReal)
    (hP : P t.val (pooled t.val (fun d => q (ix3 h t d)) (fun c d => ck (ix3 (⟨h.val / 4, by omega⟩ : Fin 4) c d))) (fun c => cv (ix3 (⟨h.val / 4, by omega⟩ : Fin 4) c d))
      = val_main_v229 (F := Ideal) x0 x1 x2 x3 x6 x7 (ix3 t h d))
    (ht : t.val < n) (hW : W = 0 ∨ W + 511 ≤ t.val) (htN : t.val < W + N) :
    rowVal n W N hn hN P q k v ck cv g sel t h d
      = val_main_v14 (F := Ideal) x0 x5 (ix3 t h 0) * val_main_v229 (F := Ideal) x0 x1 x2 x3 x6 x7 (ix3 t h d)
        + val_main_v14 (F := Ideal) x0 x5 (ix3 t h 1) * val_main_v291 (F := Ideal) x0 x1 x2 x3 x6 (ix3 t h d)
        + val_main_v14 (F := Ideal) x0 x5 (ix3 t h 2) * val_main_v314 (F := Ideal) x0 x1 x2 x3 (ix3 t h d) := by
  have hb := causal_eq x0 x1 x2 h0 h1 h2 q k hq hk t h hn
  have hr : ∀ c, Nsa.Real' (val_main_v274 (F := Ideal) x0 x1 x2 (ix3 h t c)) := fun c => v274_real x0 x1 x2 h0 h2 h1 t c h
  unfold rowVal
  dsimp only
  rw [hP, hg t h 0 (by decide), hg t h 1 (by decide), hg t h 2 (by decide), v291_at, v314_at]
  simp only [v278_at, v301_at]
  refine congrArg₂ (· + ·) (congrArg₂ (· + ·) rfl (congrArg₂ (· * ·) rfl ?_)) (congrArg₂ (· * ·) rfl ?_)
  · exact Nsa.full_row hn ht _ (fun c => val_main_v6 (F := Ideal) x0 x3 (ix3 c (⟨h.val / 4, by omega⟩ : Fin 4) d)) hr _
      (fun c => v (ix3 (⟨h.val / 4, by omega⟩ : Fin 4) (c.castLE hn) d)) hb (fun c => hv _ _ d)
  · exact Nsa.window_row hn ht _ (fun c => val_main_v6 (F := Ideal) x0 x3 (ix3 c (⟨h.val / 4, by omega⟩ : Fin 4) d)) hr _
      (fun c => v (ix3 (⟨h.val / 4, by omega⟩ : Fin 4) (c.castLE hn) d)) hb (fun c => hv _ _ d) hN hW htN

end

end Cert.KernelIdeal.Value
-- ==== Proof.Value.Final.lean ====
module

public import proofs.«01_k».proof.Proof.KernelIdeal.MainRun
public import proofs.«01_k».proof.Proof.Value.Att1
public import proofs.«01_k».proof.Proof.Value.Att2
public import proofs.«01_k».proof.Proof.Value.Att3
public import proofs.«01_k».proof.Proof.Value.Att4
public import proofs.«01_k».proof.Proof.Value.Mat5
public import proofs.«01_k».proof.Proof.Value.HostFreq
public import proofs.«01_k».proof.Proof.Value.HostSwap
public import proofs.«01_k».proof.Proof.Value.Bridge

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Prep Cert.ReferenceIdeal.Read

/-! # The kernel's result is the reference's -/

variable (m : (ℓ : Loc nD τ sig) → Buf (Elt Ideal) ℓ) (c : Dev nD)

/-! ## The arguments -/

abbrev a0 : FVec Ideal Cert.ReferenceIdeal.S1x2048x2048 .f32 := m ((c.tc : Thread nD τ).loc main_arg0)
abbrev a1 : FVec Ideal Cert.ReferenceIdeal.S2048x2048 .f32 := m ((c.tc : Thread nD τ).loc main_arg1)
abbrev a2 : FVec Ideal Cert.ReferenceIdeal.S2048x512 .f32 := m ((c.tc : Thread nD τ).loc main_arg2)
abbrev a3 : FVec Ideal Cert.ReferenceIdeal.S2048x512 .f32 := m ((c.tc : Thread nD τ).loc main_arg3)
abbrev a4 : FVec Ideal Cert.ReferenceIdeal.S2048x2048 .f32 := m ((c.tc : Thread nD τ).loc main_arg4)
abbrev a5 : FVec Ideal Cert.ReferenceIdeal.S2048x48 .f32 := m ((c.tc : Thread nD τ).loc main_arg5)
abbrev a6 : FVec Ideal Cert.ReferenceIdeal.S32 .f32 := m ((c.tc : Thread nD τ).loc main_arg6)
abbrev a7 : FVec Ideal Cert.ReferenceIdeal.S32 .f32 := m ((c.tc : Thread nD τ).loc main_arg7)

/-- An argument's buffer before the projection call: as launched. -/
theorem arg1_16 : V16 m c main_arg1 = a1 m c :=
  (to1 m c main_arg1 (by decide) (by decide) (by decide) (by decide) (by decide) (by decide) (by decide) (by decide) (by decide) (by decide) (by decide) (by decide) (by decide) (by decide) (by decide)).trans (V1_of m c main_arg1 (by decide))
theorem arg2_16 : V16 m c main_arg2 = a2 m c :=
  (to1 m c main_arg2 (by decide) (by decide) (by decide) (by decide) (by decide) (by decide) (by decide) (by decide) (by decide) (by decide) (by decide) (by decide) (by decide) (by decide) (by decide)).trans (V1_of m c main_arg2 (by decide))
theorem arg3_16 : V16 m c main_arg3 = a3 m c :=
  (to1 m c main_arg3 (by decide) (by decide) (by decide) (by decide) (by decide) (by decide) (by decide) (by decide) (by decide) (by decide) (by decide) (by decide) (by decide) (by decide) (by decide)).trans (V1_of m c main_arg3 (by decide))
theorem arg4_16 : V16 m c main_arg4 = a4 m c :=
  (to1 m c main_arg4 (by decide) (by decide) (by decide) (by decide) (by decide) (by decide) (by decide) (by decide) (by decide) (by decide) (by decide) (by decide) (by decide) (by decide) (by decide)).trans (V1_of m c main_arg4 (by decide))
theorem arg6_15 : V15 m c main_arg6 = a6 m c :=
  (V16_of m c main_arg6 (by decide)).symm.trans <| (to1 m c main_arg6 (by decide) (by decide) (by decide) (by decide) (by decide) (by decide) (by decide) (by decide) (by decide) (by decide) (by decide) (by decide) (by decide) (by decide) (by decide)).trans (V1_of m c main_arg6 (by decide))
theorem arg7_15 : V15 m c main_arg7 = a7 m c :=
  (V16_of m c main_arg7 (by decide)).symm.trans <| (to1 m c main_arg7 (by decide) (by decide) (by decide) (by decide) (by decide) (by decide) (by decide) (by decide) (by decide) (by decide) (by decide) (by decide) (by decide) (by decide) (by decide)).trans (V1_of m c main_arg7 (by decide))

/-- The hidden rows. -/
theorem x_16 (t e : Fin 2048) : V16 m c main_v0 (ix2 t e) = a0 m c (ix3 0 t e) :=
  (congrFun (to1 m c main_v0 (by decide) (by decide) (by decide) (by decide) (by decide) (by decide) (by decide) (by decide) (by decide) (by decide) (by decide) (by decide) (by decide) (by decide) (by decide)) _).trans (st0_v0 (V0 m c) t e)

/-- The gates' weights, padded to 128 columns. -/
theorem wg_16 (e : Fin 2048) (l : Fin 128) (hl : l.val < 48) : V16 m c main_v1 (ix2 e l) = a5 m c (ix2 e (⟨l.val, hl⟩ : Fin 48)) := by
  have e16 : V16 m c main_v1 = V2 m c main_v1 :=
    (V16_of m c main_v1 (by decide)).trans <| (V15_of m c main_v1 (by decide)).trans <| (V14_of m c main_v1 (by decide)).trans <| (V13_of m c main_v1 (by decide)).trans <|
    (V12_of m c main_v1 (by decide)).trans <| (V11_of m c main_v1 (by decide)).trans <| (V10_of m c main_v1 (by decide)).trans <| (V9_of m c main_v1 (by decide)).trans <|
    (V8_of m c main_v1 (by decide)).trans <| (V7_of m c main_v1 (by decide)).trans <| (V6_of m c main_v1 (by decide)).trans <| (V5_of m c main_v1 (by decide)).trans <|
    (V4_of m c main_v1 (by decide)).trans (V3_of m c main_v1 (by decide))
  exact (congrFun e16 _).trans <| (st1_v1 (V1 m c) e l hl).trans (congrFun (V1_of m c main_arg5 (by decide)) _)

/-- The pooling matrices. -/
theorem pk_16 (k : Fin 128) (t : Fin 2048) : (V16 m c main_v122 (ix2 k t) : EReal)
    = ∑ j : Fin 32, (if t.val = 16 * k.val + j.val ∧ k.val < 127 then 1 else 0 : EReal) * val_main_v174 (F := Ideal) (a6 m c) (ix1 j) := by
  refine (congrFun (st15_v122 (V15 m c)) _).trans ((pooling_at _ _ k t).trans (Finset.sum_congr rfl fun j _ => ?_))
  rw [st15_v117, st15_v86, arg6_15]
theorem pv_16 (k : Fin 128) (t : Fin 2048) : (V16 m c main_v127 (ix2 k t) : EReal)
    = ∑ j : Fin 32, (if t.val = 16 * k.val + j.val ∧ k.val < 127 then 1 else 0 : EReal) * val_main_v184 (F := Ideal) (a7 m c) (ix1 j) := by
  refine (congrFun (st15_v127 (V15 m c)) _).trans ((pooling_at _ _ k t).trans (Finset.sum_congr rfl fun j _ => ?_))
  rw [st15_v117, st15_v96, arg7_15]

/-! ## The arrays the attention calls read -/

/-- What an attention call finds: the scaled rotated queries, the rotated keys, the values, their pooled rows, and the gates. -/
structure Reads (q : FVec Ideal S16x2048x128 .bf16) (k v : FVec Ideal S4x2048x128 .bf16) (ck cv : FVec Ideal S4x128x128 .bf16) (g : FVec Ideal S2048x128 .f32)
    (sel : FVec Ideal S16x128x128 .bf16) : Prop where
  hq : ∀ (h : Fin 16) (t : Fin 2048) (d : Fin 128), q (ix3 h t d) = val_main_v76 (F := Ideal) (a0 m c) (a1 m c) (ix3 t h d) * scale
  hk : ∀ (h : Fin 4) (t : Fin 2048) (d : Fin 128), k (ix3 h t d) = val_main_v137 (F := Ideal) (a0 m c) (a2 m c) (ix3 t h d)
  hv : ∀ (h : Fin 4) (t : Fin 2048) (d : Fin 128), v (ix3 h t d) = val_main_v6 (F := Ideal) (a0 m c) (a3 m c) (ix3 t h d)
  hck : ∀ (h : Fin 4) (j : Fin 127) (d : Fin 128), ck (ix3 h j.castSucc d) = val_main_v188 (F := Ideal) (a0 m c) (a2 m c) (a6 m c) (ix3 j h d)
  hcv : ∀ (h : Fin 4) (j : Fin 127) (d : Fin 128), cv (ix3 h j.castSucc d) = val_main_v192 (F := Ideal) (a0 m c) (a3 m c) (a7 m c) (ix3 j h d)
  hg : ∀ (t : Fin 2048) (h : Fin 16) (k : Fin 128) (hk : k.val < 3), ∑ x : Fin 128, g (ix2 t x) * sel (ix3 h x k) = val_main_v14 (F := Ideal) (a0 m c) (a5 m c) (ix3 t h (⟨k.val, hk⟩ : Fin 3))

theorem q_18 : V18 m (oo m) c main_v128_0 = fun y : S16x2048x128.Idx => qAt (V16 m c main_v0) (V16 m c main_arg1) (V16 m c main_v45) (V16 m c main_v48) (V16 m c main_v76) ⟨(y 0).val, (y 0).isLt⟩ ⟨(y 1).val, (y 1).isLt⟩ ⟨(y 2).val, (y 2).isLt⟩ :=
  (V18_of m (oo m) c main_v128_0 (by decide)).trans <| (V17_at_0 m (oo m) c).trans <| (out0 m c 10).trans (q_final (Ve0 m) D0 c)
theorem k_18 : V18 m (oo m) c main_v128_1 = fun y : S4x2048x128.Idx => kAt (V16 m c main_v0) (V16 m c main_arg2) (V16 m c main_v45) (V16 m c main_v48) (V16 m c main_v76) (y 0) (y 1) (y 2) :=
  (V18_of m (oo m) c main_v128_1 (by decide)).trans <| (V17_at_1 m (oo m) c).trans <| (out0 m c 11).trans (k_final (Ve0 m) D0 c)
theorem v_18 : V18 m (oo m) c main_v128_2 = fun y : S4x2048x128.Idx => vAt (V16 m c main_v0) (V16 m c main_arg3) (y 0) (y 1) (y 2) :=
  (V18_of m (oo m) c main_v128_2 (by decide)).trans <| (V17_at_2 m (oo m) c).trans <| (out0 m c 12).trans (v_final (Ve0 m) D0 c)
theorem g_18 : V18 m (oo m) c main_v128_3 = fun y : S2048x128.Idx => gAt (V16 m c main_v0) (V16 m c main_v1) ⟨(y 0).val, (y 0).isLt⟩ ⟨(y 1).val, (y 1).isLt⟩ :=
  (V18_of m (oo m) c main_v128_3 (by decide)).trans <| (V17_at_3 m (oo m) c).trans <| (out0 m c 13).trans (g_final (Ve0 m) D0 c)
theorem ck_18 : V18 m (oo m) c main_v128_4 = fun y : S4x128x128.Idx => poolAt (V16 m c main_v122) (fun t => kAt (V16 m c main_v0) (V16 m c main_arg2) (V16 m c main_v45) (V16 m c main_v48) (V16 m c main_v76) (y 0) t (y 2)) (y 1) :=
  (V18_of m (oo m) c main_v128_4 (by decide)).trans <| (V17_at_4 m (oo m) c).trans <| (out0 m c 14).trans (ck_final (Ve0 m) D0 c)
theorem cv_18 : V18 m (oo m) c main_v128_5 = fun y : S4x128x128.Idx => poolAt (V16 m c main_v127) (fun t => vAt (V16 m c main_v0) (V16 m c main_arg3) (y 0) t (y 2)) (y 1) :=
  (V18_of m (oo m) c main_v128_5 (by decide)).trans <| (V17_at_5 m (oo m) c).trans <| (out0 m c 15).trans (cv_final (Ve0 m) D0 c)

theorem reads : Reads m c (V18 m (oo m) c main_v128_0) (V18 m (oo m) c main_v128_1) (V18 m (oo m) c main_v128_2) (V18 m (oo m) c main_v128_4)
    (V18 m (oo m) c main_v128_5) (V18 m (oo m) c main_v128_3) (V18 m (oo m) c main_v147) where
  hq h t d := by
    rw [q_18, arg1_16]
    exact q_eq (a0 m c) (a1 m c) (V16 m c main_v0) (V16 m c main_v45) (V16 m c main_v48) (V16 m c main_v76) (x_16 m c) (cos_at m c) (sin_at m c) (swap_at m c) h t d
  hk h t d := by
    rw [k_18, arg2_16]
    exact k_eq (a0 m c) (a2 m c) (V16 m c main_v0) (V16 m c main_v45) (V16 m c main_v48) (V16 m c main_v76) (x_16 m c) (cos_at m c) (sin_at m c) (swap_at m c) h t d
  hv h t d := by
    rw [v_18, arg3_16]
    exact v_eq (a0 m c) (a3 m c) (V16 m c main_v0) (x_16 m c) h t d
  hck h j d := by
    rw [ck_18, arg2_16]
    exact ck_eq (a0 m c) (a2 m c) (a6 m c) (V16 m c main_v0) (V16 m c main_v45) (V16 m c main_v48) (V16 m c main_v76) (x_16 m c) (cos_at m c) (sin_at m c) (swap_at m c) (V16 m c main_v122) (pk_16 m c) h j d
  hcv h j d := by
    rw [cv_18, arg3_16]
    exact cv_eq (a0 m c) (a3 m c) (a7 m c) (V16 m c main_v0) (x_16 m c) (V16 m c main_v127) (pv_16 m c) h j d
  hg t h k hk := by
    rw [g_18]
    exact g_eq (a0 m c) (a5 m c) (V16 m c main_v0) (x_16 m c) (V16 m c main_v1) (wg_16 m c) (V18 m (oo m) c main_v147) (fun h r k => st1_v147 (V17 m (oo m) c) h r k) t h k hk

/-! ## The attention calls' results -/

/-- The gated branches at row `t` and lane `e` of all heads. -/
def gated (t e : Fin 2048) : EReal :=
  val_main_v14 (F := Ideal) (a0 m c) (a5 m c) (ix3 t ⟨e.val / 128, by omega⟩ 0) * val_main_v229 (F := Ideal) (a0 m c) (a1 m c) (a2 m c) (a3 m c) (a6 m c) (a7 m c) (ix3 t ⟨e.val / 128, by omega⟩ ⟨e.val % 128, by omega⟩)
    + val_main_v14 (F := Ideal) (a0 m c) (a5 m c) (ix3 t ⟨e.val / 128, by omega⟩ 1) * val_main_v291 (F := Ideal) (a0 m c) (a1 m c) (a2 m c) (a3 m c) (a6 m c) (ix3 t ⟨e.val / 128, by omega⟩ ⟨e.val % 128, by omega⟩)
    + val_main_v14 (F := Ideal) (a0 m c) (a5 m c) (ix3 t ⟨e.val / 128, by omega⟩ 2) * val_main_v314 (F := Ideal) (a0 m c) (a1 m c) (a2 m c) (a3 m c) (ix3 t ⟨e.val / 128, by omega⟩ ⟨e.val % 128, by omega⟩)

section
variable (h0 : ∀ i, Nsa.Real' (a0 m c i)) (h1 : ∀ i, Nsa.Real' (a1 m c i)) (h2 : ∀ i, Nsa.Real' (a2 m c i)) (h6 : ∀ i, Nsa.Real' (a6 m c i))
include h0 h1 h2 h6

/-- A row of a call that sees a whole pooled window. -/
theorem row_avg {q : FVec Ideal S16x2048x128 .bf16} {k v : FVec Ideal S4x2048x128 .bf16} {ck cv : FVec Ideal S4x128x128 .bf16} {g : FVec Ideal S2048x128 .f32}
    {sel : FVec Ideal S16x128x128 .bf16} (R : Reads m c q k v ck cv g sel) (n W N : ℕ) (hn : n ≤ 2048) (hN : W + N ≤ n) (t e : Fin 2048)
    (h31 : 31 ≤ t.val) (ht : t.val < n) (hW : W = 0 ∨ W + 511 ≤ t.val) (htN : t.val < W + N) :
    rowVal n W N hn hN poolAvg q k v ck cv g sel t ⟨e.val / 128, by omega⟩ ⟨e.val % 128, by omega⟩ = gated m c t e :=
  row_eq (a0 m c) (a1 m c) (a2 m c) (a3 m c) (a5 m c) (a6 m c) (a7 m c) h0 h1 h2 q k v ck cv g sel R.hq R.hk R.hv R.hg t _ _ n W N hn hN poolAvg
    (poolAvg_eq (a0 m c) (a1 m c) (a2 m c) (a3 m c) (a6 m c) (a7 m c) h0 h1 h2 h6 q ck cv R.hq R.hck R.hcv t _ _ h31) ht hW htN

theorem block1 (r : Fin 512) (e t : Fin 2048) (ht : t.val = r.val) : (oo m 19 main_v148 c (ix2 r e) : EReal) = gated m c t e := by
  have et : t = ⟨256 * 0 + r.val, by omega⟩ := Fin.ext (by show t.val = 256 * 0 + r.val; omega)
  have R := reads m c
  rw [et, out1, K1.final]
  exact row_eq (a0 m c) (a1 m c) (a2 m c) (a3 m c) (a5 m c) (a6 m c) (a7 m c) h0 h1 h2 _ _ _ _ _ _ _ R.hq R.hk R.hv R.hg _ _ _ 512 0 512 (by omega) (by omega) poolOut
    (poolOut_eq (a0 m c) (a1 m c) (a2 m c) (a3 m c) (a6 m c) (a7 m c) h0 h1 h2 h6 _ _ _ R.hq R.hck R.hcv _ _ _) (by show 256 * 0 + r.val < 512; omega) (Or.inl rfl) (by show 256 * 0 + r.val < 0 + 512; omega)

/-- The arrays the calls read are not touched by the calls before. -/
theorem reads2 : Reads m c (V19 m (oo m) c main_v128_0) (V19 m (oo m) c main_v128_1) (V19 m (oo m) c main_v128_2) (V19 m (oo m) c main_v128_4)
    (V19 m (oo m) c main_v128_5) (V19 m (oo m) c main_v128_3) (V19 m (oo m) c main_v147) := by
  rw [V19_of m (oo m) c main_v128_0 (by decide), V19_of m (oo m) c main_v128_1 (by decide), V19_of m (oo m) c main_v128_2 (by decide), V19_of m (oo m) c main_v128_3 (by decide),
    V19_of m (oo m) c main_v128_4 (by decide), V19_of m (oo m) c main_v128_5 (by decide), V19_of m (oo m) c main_v147 (by decide)]
  exact reads m c
theorem reads3 : Reads m c (V20 m (oo m) c main_v128_0) (V20 m (oo m) c main_v128_1) (V20 m (oo m) c main_v128_2) (V20 m (oo m) c main_v128_4)
    (V20 m (oo m) c main_v128_5) (V20 m (oo m) c main_v128_3) (V20 m (oo m) c main_v147) := by
  rw [V20_of m (oo m) c main_v128_0 (by decide), V20_of m (oo m) c main_v128_1 (by decide), V20_of m (oo m) c main_v128_2 (by decide), V20_of m (oo m) c main_v128_3 (by decide),
    V20_of m (oo m) c main_v128_4 (by decide), V20_of m (oo m) c main_v128_5 (by decide), V20_of m (oo m) c main_v147 (by decide)]
  exact reads2 m c h0 h1 h2 h6
theorem reads4 : Reads m c (V21 m (oo m) c main_v128_0) (V21 m (oo m) c main_v128_1) (V21 m (oo m) c main_v128_2) (V21 m (oo m) c main_v128_4)
    (V21 m (oo m) c main_v128_5) (V21 m (oo m) c main_v128_3) (V21 m (oo m) c main_v147) := by
  rw [V21_of m (oo m) c main_v128_0 (by decide), V21_of m (oo m) c main_v128_1 (by decide), V21_of m (oo m) c main_v128_2 (by decide), V21_of m (oo m) c main_v128_3 (by decide),
    V21_of m (oo m) c main_v128_4 (by decide), V21_of m (oo m) c main_v128_5 (by decide), V21_of m (oo m) c main_v147 (by decide)]
  exact reads3 m c h0 h1 h2 h6

theorem block2 (r : Fin 512) (e t : Fin 2048) (ht : t.val = 512 + r.val) : (oo m 20 main_v149 c (ix2 r e) : EReal) = gated m c t e := by
  have et : t = ⟨256 * 2 + r.val, by omega⟩ := Fin.ext (by show t.val = 256 * 2 + r.val; omega)
  rw [et, out2, K2.final]
  exact row_avg m c h0 h1 h2 h6 (reads2 m c h0 h1 h2 h6) 1024 0 1024 (by omega) (by omega) _ e (by show 31 ≤ 256 * 2 + r.val; omega) (by show 256 * 2 + r.val < 1024; omega) (Or.inl rfl)
    (by show 256 * 2 + r.val < 0 + 1024; omega)

theorem block3 (r : Fin 512) (e t : Fin 2048) (ht : t.val = 1024 + r.val) : (oo m 21 main_v150 c (ix2 r e) : EReal) = gated m c t e := by
  have et : t = ⟨256 * 4 + r.val, by omega⟩ := Fin.ext (by show t.val = 256 * 4 + r.val; omega)
  rw [et, out3, K3.final]
  exact row_avg m c h0 h1 h2 h6 (reads3 m c h0 h1 h2 h6) 1536 512 1024 (by omega) (by omega) _ e (by show 31 ≤ 256 * 4 + r.val; omega) (by show 256 * 4 + r.val < 1536; omega)
    (Or.inr (by show 512 + 511 ≤ 256 * 4 + r.val; omega)) (by show 256 * 4 + r.val < 512 + 1024; omega)

theorem block4 (r : Fin 512) (e t : Fin 2048) (ht : t.val = 1536 + r.val) : (oo m 22 main_v151 c (ix2 r e) : EReal) = gated m c t e := by
  have et : t = ⟨256 * 6 + r.val, by omega⟩ := Fin.ext (by show t.val = 256 * 6 + r.val; omega)
  rw [et, out4, K4.final]
  exact row_avg m c h0 h1 h2 h6 (reads4 m c h0 h1 h2 h6) 2048 1024 1024 (by omega) (by omega) _ e (by show 31 ≤ 256 * 6 + r.val; omega) (by show 256 * 6 + r.val < 2048; omega)
    (Or.inr (by show 1024 + 511 ≤ 256 * 6 + r.val; omega)) (by show 256 * 6 + r.val < 1024 + 1024; omega)

/-! ## The output projection -/

theorem r1_22 : V22 m (oo m) c main_v148 = oo m 19 main_v148 c :=
  (V22_of m (oo m) c main_v148 (by decide)).trans <| (V21_of m (oo m) c main_v148 (by decide)).trans <| (V20_of m (oo m) c main_v148 (by decide)).trans (Function.update_self _ _ _)
theorem r2_22 : V22 m (oo m) c main_v149 = oo m 20 main_v149 c :=
  (V22_of m (oo m) c main_v149 (by decide)).trans <| (V21_of m (oo m) c main_v149 (by decide)).trans (Function.update_self _ _ _)
theorem r3_22 : V22 m (oo m) c main_v150 = oo m 21 main_v150 c := (V22_of m (oo m) c main_v150 (by decide)).trans (Function.update_self _ _ _)
theorem r4_22 : V22 m (oo m) c main_v151 = oo m 22 main_v151 c := Function.update_self _ _ _

/-- The calls' results, stacked. -/
theorem o_23 (t e : Fin 2048) : (V23 m (oo m) c main_v152 (ix2 t e) : EReal) = gated m c t e := by
  refine (congrFun (st5_v152 (V22 m (oo m) c)) _).trans (stacked (gated m c) _ _ _ _ (fun r e => ?_) (fun r e => ?_) (fun r e => ?_) (fun r e => ?_) t e)
  · rw [r1_22 m c h0 h1 h2 h6]; exact block1 m c h0 h1 h2 h6 r e _ rfl
  · rw [r2_22 m c h0 h1 h2 h6]; exact block2 m c h0 h1 h2 h6 r e _ rfl
  · rw [r3_22 m c h0 h1 h2 h6]; exact block3 m c h0 h1 h2 h6 r e _ rfl
  · rw [r4_22 m c h0 h1 h2 h6]; exact block4 m c h0 h1 h2 h6 r e _ rfl

theorem arg4_23 : V23 m (oo m) c main_arg4 = a4 m c :=
  (V23_of m (oo m) c main_arg4 (by decide)).trans <| (V22_of m (oo m) c main_arg4 (by decide)).trans <| (V21_of m (oo m) c main_arg4 (by decide)).trans <|
  (V20_of m (oo m) c main_arg4 (by decide)).trans <| (V19_of m (oo m) c main_arg4 (by decide)).trans <| (V18_of m (oo m) c main_arg4 (by decide)).trans <|
  (V17_of m (oo m) c main_arg4 (by decide)).trans (arg4_16 m c)

theorem result_at (t n : Fin 2048) : (V25 m (oo m) c main_v154 (ix3 0 t n) : EReal)
    = val_main_v328 (F := Ideal) (a0 m c) (a1 m c) (a2 m c) (a3 m c) (a4 m c) (a5 m c) (a6 m c) (a7 m c) (ix3 0 t n) := by
  have e24 : V24 m (oo m) c main_v153 = oo m 24 main_v153 c := Function.update_self _ _ _
  refine (st6_v154 (V24 m (oo m) c) t n).trans ((congrFun e24 _).trans ?_)
  rw [out5, K5.final, v328_at]
  refine Finset.sum_congr (M := EReal) rfl fun e _ => congrArg₂ (· * ·) (o_23 m c h0 h1 h2 h6 t e) (congrFun (arg4_23 m c h0 h1 h2 h6) _)

/-- The kernel's result, on finite inputs, is the reference's. -/
theorem result : V25 m (oo m) c main_v154 = val_main_v328 (F := Ideal) (a0 m c) (a1 m c) (a2 m c) (a3 m c) (a4 m c) (a5 m c) (a6 m c) (a7 m c) := by
  funext y
  have hy : y = ix3 (0 : Fin 1) (y 1) (y 2) := by
    funext a
    match a with
    | ⟨0, _⟩ => exact Subsingleton.elim (α := Fin 1) _ _
    | ⟨1, _⟩ => rfl
    | ⟨2, _⟩ => rfl
  rw [hy]
  exact result_at m c h0 h1 h2 h6 (y 1) (y 2)

end

end Cert.KernelIdeal.Value
-- ==== Proof.lean ====
module

public import proofs.«01_k».proof.Proof.Gen.Own.KernelIdeal.RegionsD
public import proofs.«01_k».proof.Proof.Gen.Own.Kernel.RegionsD
public import proofs.«01_k».proof.Proof.Kernel.MainRun
public import proofs.«01_k».proof.Proof.KernelIdeal.MainRun
public import proofs.«01_k».proof.Proof.Value.Pre
public import proofs.«01_k».proof.Proof.Value.Final
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The kernel, floats as bits: it runs, its arguments end unchanged and every semaphore counter at zero. -/
theorem frame_kernel : Cert.quiescent_Kernel := fun m g _ => Cert.Kernel.Prep.frame m g

/-- The kernel at the extended reals. -/
theorem frame_kernelIdeal : Cert.quiescent_KernelIdeal := fun m g _ => Cert.KernelIdeal.Prep.frame m g

/-- The reference, host operations alone; it declares no semaphore. -/
theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

/-- The mask of the attention bodies is the named constant, `-∞` at the extended reals. -/
theorem preserves : Cert.preserves_Kernel_KernelIdeal := IdealRules.named_const.statement Cert.KernelIdeal.κ "mask" .f32 0xCE6E6B28#32 ⊥ rfl

/-- On finite inputs the kernel's result is the reference's, at the extended reals. -/
theorem value : Cert.algebraic_KernelIdeal_ReferenceIdeal_pre_finite := fun m g m' g' hpre hargs =>
  ⟨fun c => Cert.ReferenceIdeal.Read.val_main_v328 (F := Ideal) (Cert.KernelIdeal.Value.a0 m c) (Cert.KernelIdeal.Value.a1 m c) (Cert.KernelIdeal.Value.a2 m c) (Cert.KernelIdeal.Value.a3 m c)
      (Cert.KernelIdeal.Value.a4 m c) (Cert.KernelIdeal.Value.a5 m c) (Cert.KernelIdeal.Value.a6 m c) (Cert.KernelIdeal.Value.a7 m c),
    (θ_run Cert.KernelIdeal.defs _ _).mono (fun r h c => by
      obtain ⟨h0, h1, h2, h6⟩ := Cert.Pre_finite.reals _ _ _ _ _ _ _ _ (hpre c)
      have at' := fun b hb => Cert.KernelIdeal.Prep.Post.at m (h.1 c) b hb
      exact ⟨(at' Cert.KernelIdeal.main_v154 (Finset.mem_filter.mpr ⟨StableHlo.devRef_mem_tcRefs _, by decide⟩)).trans (Cert.KernelIdeal.Value.result m c h0 h1 h2 h6),
        (at' Cert.KernelIdeal.main_arg0 (Finset.mem_filter.mpr ⟨StableHlo.devRef_mem_tcRefs _, by decide⟩)).trans (Cert.KernelIdeal.Gen.V25_main_arg0 m _ c),
        (at' Cert.KernelIdeal.main_arg1 (Finset.mem_filter.mpr ⟨StableHlo.devRef_mem_tcRefs _, by decide⟩)).trans (Cert.KernelIdeal.Gen.V25_main_arg1 m _ c),
        (at' Cert.KernelIdeal.main_arg2 (Finset.mem_filter.mpr ⟨StableHlo.devRef_mem_tcRefs _, by decide⟩)).trans (Cert.KernelIdeal.Gen.V25_main_arg2 m _ c),
        (at' Cert.KernelIdeal.main_arg3 (Finset.mem_filter.mpr ⟨StableHlo.devRef_mem_tcRefs _, by decide⟩)).trans (Cert.KernelIdeal.Gen.V25_main_arg3 m _ c),
        (at' Cert.KernelIdeal.main_arg4 (Finset.mem_filter.mpr ⟨StableHlo.devRef_mem_tcRefs _, by decide⟩)).trans (Cert.KernelIdeal.Gen.V25_main_arg4 m _ c),
        (at' Cert.KernelIdeal.main_arg5 (Finset.mem_filter.mpr ⟨StableHlo.devRef_mem_tcRefs _, by decide⟩)).trans (Cert.KernelIdeal.Gen.V25_main_arg5 m _ c),
        (at' Cert.KernelIdeal.main_arg6 (Finset.mem_filter.mpr ⟨StableHlo.devRef_mem_tcRefs _, by decide⟩)).trans (Cert.KernelIdeal.Gen.V25_main_arg6 m _ c),
        (at' Cert.KernelIdeal.main_arg7 (Finset.mem_filter.mpr ⟨StableHlo.devRef_mem_tcRefs _, by decide⟩)).trans (Cert.KernelIdeal.Gen.V25_main_arg7 m _ c)⟩)
      (Cert.KernelIdeal.Prep.run m g),
    (θ_run Cert.ReferenceIdeal.defs _ _).mono (fun r h c => by
      obtain ⟨e0, e1, e2, e3, e4, e5, e6, e7⟩ := hargs c
      refine ⟨((h c).1.trans (Cert.ReferenceIdeal.Read.val_main_v328_eq (F := Ideal) (StableHlo.launchContents m' c))).trans ?_, (h c).2⟩
      show Cert.ReferenceIdeal.Read.val_main_v328 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
      rw [e0, e1, e2, e3, e4, e5, e6, e7])
      (Cert.ReferenceIdeal.Value.run m' g')⟩

theorem claim : Cert.Claim := ⟨Cert.Kernel.Gen.facts, Cert.KernelIdeal.Gen.facts, Cert.ReferenceIdeal.Gen.facts, Cert.Pre_finite.facts,
  frame_kernel, frame_kernelIdeal, fun m g _ => Cert.KernelIdeal.Prep.frame m g, frame_reference, fun m g _ => frame_reference m g trivial, preserves, value⟩

end Cert.Proof

end
